-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_idx_of_top_k [hPre_idx_of_top_k : Cert.Pre_idx_of_top_k.Facts] (m : (ℓ : Loc Cert.KernelIdeal.nD Cert.KernelIdeal.τ Cert.KernelIdeal.sig) → Buf (Elt Ideal) ℓ) : Prop :=
  ∀ c : Dev Cert.KernelIdeal.nD,
    (Cert.Pre_idx_of_top_k.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_range [hPre_idx_in_range : Cert.Pre_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_ScatteredIdeal (m : (ℓ : Loc Cert.ScatteredIdeal.nD Cert.ScatteredIdeal.τ Cert.ScatteredIdeal.sig) → Buf (Elt Ideal) ℓ) : Prop :=
  True

def Pre_ScatteredIdeal_idx_of_top_k [hPre_idx_of_top_k : Cert.Pre_idx_of_top_k.Facts] (m : (ℓ : Loc Cert.ScatteredIdeal.nD Cert.ScatteredIdeal.τ Cert.ScatteredIdeal.sig) → Buf (Elt Ideal) ℓ) : Prop :=
  ∀ c : Dev Cert.ScatteredIdeal.nD,
    (Cert.Pre_idx_of_top_k.fn (F := Ideal) (m ((c.tc : Thread Cert.ScatteredIdeal.nD Cert.ScatteredIdeal.τ).loc Cert.ScatteredIdeal.main_arg0)) (m ((c.tc : Thread Cert.ScatteredIdeal.nD Cert.ScatteredIdeal.τ).loc Cert.ScatteredIdeal.main_arg1)) (m ((c.tc : Thread Cert.ScatteredIdeal.nD Cert.ScatteredIdeal.τ).loc Cert.ScatteredIdeal.main_arg2)) (m ((c.tc : Thread Cert.ScatteredIdeal.nD Cert.ScatteredIdeal.τ).loc Cert.ScatteredIdeal.main_arg3))) = (fun _ => 1#1)

def Pre_Encode (m : (ℓ : Loc Cert.Encode.nD Cert.Encode.τ Cert.Encode.sig) → Buf (Elt Bits) ℓ) : Prop :=
  True

def Pre_EncodeIdeal (m : (ℓ : Loc Cert.EncodeIdeal.nD Cert.EncodeIdeal.τ Cert.EncodeIdeal.sig) → Buf (Elt Ideal) ℓ) : Prop :=
  True

def Pre_EncodedIdeal (m : (ℓ : Loc Cert.EncodedIdeal.nD Cert.EncodedIdeal.τ Cert.EncodedIdeal.sig) → Buf (Elt Ideal) ℓ) : Prop :=
  True

def Pre_Chunks (m : (ℓ : Loc Cert.Chunks.nD Cert.Chunks.τ Cert.Chunks.sig) → Buf (Elt Bits) ℓ) : Prop :=
  True

def Pre_ChunksIdeal (m : (ℓ : Loc Cert.ChunksIdeal.nD Cert.ChunksIdeal.τ Cert.ChunksIdeal.sig) → Buf (Elt Ideal) ℓ) : Prop :=
  True

def Pre_ChunksIdeal_chunks_above [hPre_chunks_above : Cert.Pre_chunks_above.Facts] (m : (ℓ : Loc Cert.ChunksIdeal.nD Cert.ChunksIdeal.τ Cert.ChunksIdeal.sig) → Buf (Elt Ideal) ℓ) : Prop :=
  ∀ c : Dev Cert.ChunksIdeal.nD,
    (Cert.Pre_chunks_above.fn (F := Ideal) (m ((c.tc : Thread Cert.ChunksIdeal.nD Cert.ChunksIdeal.τ).loc Cert.ChunksIdeal.main_arg0))) = (fun _ => 1#1)

def Pre_ChunksTopIdeal (m : (ℓ : Loc Cert.ChunksTopIdeal.nD Cert.ChunksTopIdeal.τ Cert.ChunksTopIdeal.sig) → Buf (Elt Ideal) ℓ) : Prop :=
  True

def Pre_ChunksTopIdeal_chunks_above [hPre_chunks_above : Cert.Pre_chunks_above.Facts] (m : (ℓ : Loc Cert.ChunksTopIdeal.nD Cert.ChunksTopIdeal.τ Cert.ChunksTopIdeal.sig) → Buf (Elt Ideal) ℓ) : Prop :=
  ∀ c : Dev Cert.ChunksTopIdeal.nD,
    (Cert.Pre_chunks_above.fn (F := Ideal) (m ((c.tc : Thread Cert.ChunksTopIdeal.nD Cert.ChunksTopIdeal.τ).loc Cert.ChunksTopIdeal.main_arg0))) = (fun _ => 1#1)

def Pre_Cand (m : (ℓ : Loc Cert.Cand.nD Cert.Cand.τ Cert.Cand.sig) → Buf (Elt Bits) ℓ) : Prop :=
  True

def Pre_CandIdeal (m : (ℓ : Loc Cert.CandIdeal.nD Cert.CandIdeal.τ Cert.CandIdeal.sig) → Buf (Elt Ideal) ℓ) : Prop :=
  True

def Pre_CandIdeal_cand_distinct [hPre_cand_distinct : Cert.Pre_cand_distinct.Facts] (m : (ℓ : Loc Cert.CandIdeal.nD Cert.CandIdeal.τ Cert.CandIdeal.sig) → Buf (Elt Ideal) ℓ) : Prop :=
  ∀ c : Dev Cert.CandIdeal.nD,
    (Cert.Pre_cand_distinct.fn (F := Ideal) (m ((c.tc : Thread Cert.CandIdeal.nD Cert.CandIdeal.τ).loc Cert.CandIdeal.main_arg0)) (m ((c.tc : Thread Cert.CandIdeal.nD Cert.CandIdeal.τ).loc Cert.CandIdeal.main_arg1))) = (fun _ => 1#1)

def Pre_CandSortedIdeal (m : (ℓ : Loc Cert.CandSortedIdeal.nD Cert.CandSortedIdeal.τ Cert.CandSortedIdeal.sig) → Buf (Elt Ideal) ℓ) : Prop :=
  True

def Pre_CandSortedIdeal_cand_distinct [hPre_cand_distinct : Cert.Pre_cand_distinct.Facts] (m : (ℓ : Loc Cert.CandSortedIdeal.nD Cert.CandSortedIdeal.τ Cert.CandSortedIdeal.sig) → Buf (Elt Ideal) ℓ) : Prop :=
  ∀ c : Dev Cert.CandSortedIdeal.nD,
    (Cert.Pre_cand_distinct.fn (F := Ideal) (m ((c.tc : Thread Cert.CandSortedIdeal.nD Cert.CandSortedIdeal.τ).loc Cert.CandSortedIdeal.main_arg0)) (m ((c.tc : Thread Cert.CandSortedIdeal.nD Cert.CandSortedIdeal.τ).loc Cert.CandSortedIdeal.main_arg1))) = (fun _ => 1#1)

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_idx_of_top_k [hKernelIdeal : Cert.KernelIdeal.Facts] [hPre_idx_of_top_k : Cert.Pre_idx_of_top_k.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_idx_of_top_k m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_idx_in_range [hReferenceIdeal : Cert.ReferenceIdeal.Facts] [hPre_idx_in_range : Cert.Pre_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ScatteredIdeal [hScatteredIdeal : Cert.ScatteredIdeal.Facts] : Prop :=
  ∀ (m : (ℓ : Loc Cert.ScatteredIdeal.nD Cert.ScatteredIdeal.τ Cert.ScatteredIdeal.sig) → Buf (Elt Ideal) ℓ) (g : Dev Cert.ScatteredIdeal.nD → PrngReg), Pre_ScatteredIdeal m →
    θ_run (Cert.ScatteredIdeal.defs (F := Ideal)) (onTc (τ := Cert.ScatteredIdeal.τ) (Cert.ScatteredIdeal.main (F := Ideal))) ⟨m, fun _ => 0, g⟩ (fun r => (∀ c : Dev Cert.ScatteredIdeal.nD,
      r.2.mem ((c.tc : Thread Cert.ScatteredIdeal.nD Cert.ScatteredIdeal.τ).loc Cert.ScatteredIdeal.main_arg0) = m ((c.tc : Thread Cert.ScatteredIdeal.nD Cert.ScatteredIdeal.τ).loc Cert.ScatteredIdeal.main_arg0)
      ∧ r.2.mem ((c.tc : Thread Cert.ScatteredIdeal.nD Cert.ScatteredIdeal.τ).loc Cert.ScatteredIdeal.main_arg1) = m ((c.tc : Thread Cert.ScatteredIdeal.nD Cert.ScatteredIdeal.τ).loc Cert.ScatteredIdeal.main_arg1)
      ∧ r.2.mem ((c.tc : Thread Cert.ScatteredIdeal.nD Cert.ScatteredIdeal.τ).loc Cert.ScatteredIdeal.main_arg2) = m ((c.tc : Thread Cert.ScatteredIdeal.nD Cert.ScatteredIdeal.τ).loc Cert.ScatteredIdeal.main_arg2)
      ∧ r.2.mem ((c.tc : Thread Cert.ScatteredIdeal.nD Cert.ScatteredIdeal.τ).loc Cert.ScatteredIdeal.main_arg3) = m ((c.tc : Thread Cert.ScatteredIdeal.nD Cert.ScatteredIdeal.τ).loc Cert.ScatteredIdeal.main_arg3))
      ∧ r.2.sem = fun _ => 0)

def quiescent_ScatteredIdeal_pre_idx_of_top_k [hScatteredIdeal : Cert.ScatteredIdeal.Facts] [hPre_idx_of_top_k : Cert.Pre_idx_of_top_k.Facts] : Prop :=
  ∀ (m : (ℓ : Loc Cert.ScatteredIdeal.nD Cert.ScatteredIdeal.τ Cert.ScatteredIdeal.sig) → Buf (Elt Ideal) ℓ) (g : Dev Cert.ScatteredIdeal.nD → PrngReg), Pre_ScatteredIdeal_idx_of_top_k m →
    θ_run (Cert.ScatteredIdeal.defs (F := Ideal)) (onTc (τ := Cert.ScatteredIdeal.τ) (Cert.ScatteredIdeal.main (F := Ideal))) ⟨m, fun _ => 0, g⟩ (fun r => (∀ c : Dev Cert.ScatteredIdeal.nD,
      r.2.mem ((c.tc : Thread Cert.ScatteredIdeal.nD Cert.ScatteredIdeal.τ).loc Cert.ScatteredIdeal.main_arg0) = m ((c.tc : Thread Cert.ScatteredIdeal.nD Cert.ScatteredIdeal.τ).loc Cert.ScatteredIdeal.main_arg0)
      ∧ r.2.mem ((c.tc : Thread Cert.ScatteredIdeal.nD Cert.ScatteredIdeal.τ).loc Cert.ScatteredIdeal.main_arg1) = m ((c.tc : Thread Cert.ScatteredIdeal.nD Cert.ScatteredIdeal.τ).loc Cert.ScatteredIdeal.main_arg1)
      ∧ r.2.mem ((c.tc : Thread Cert.ScatteredIdeal.nD Cert.ScatteredIdeal.τ).loc Cert.ScatteredIdeal.main_arg2) = m ((c.tc : Thread Cert.ScatteredIdeal.nD Cert.ScatteredIdeal.τ).loc Cert.ScatteredIdeal.main_arg2)
      ∧ r.2.mem ((c.tc : Thread Cert.ScatteredIdeal.nD Cert.ScatteredIdeal.τ).loc Cert.ScatteredIdeal.main_arg3) = m ((c.tc : Thread Cert.ScatteredIdeal.nD Cert.ScatteredIdeal.τ).loc Cert.ScatteredIdeal.main_arg3))
      ∧ r.2.sem = fun _ => 0)

def quiescent_Encode [hEncode : Cert.Encode.Facts] : Prop :=
  ∀ (m : (ℓ : Loc Cert.Encode.nD Cert.Encode.τ Cert.Encode.sig) → Buf (Elt Bits) ℓ) (g : Dev Cert.Encode.nD → PrngReg), Pre_Encode m →
    θ_run (Cert.Encode.defs (F := Bits)) (onTc (τ := Cert.Encode.τ) (Cert.Encode.main (F := Bits))) ⟨m, fun _ => 0, g⟩ (fun r => (∀ c : Dev Cert.Encode.nD,
      r.2.mem ((c.tc : Thread Cert.Encode.nD Cert.Encode.τ).loc Cert.Encode.main_arg0) = m ((c.tc : Thread Cert.Encode.nD Cert.Encode.τ).loc Cert.Encode.main_arg0)
      ∧ r.2.mem ((c.tc : Thread Cert.Encode.nD Cert.Encode.τ).loc Cert.Encode.main_arg1) = m ((c.tc : Thread Cert.Encode.nD Cert.Encode.τ).loc Cert.Encode.main_arg1)
      ∧ r.2.mem ((c.tc : Thread Cert.Encode.nD Cert.Encode.τ).loc Cert.Encode.main_arg2) = m ((c.tc : Thread Cert.Encode.nD Cert.Encode.τ).loc Cert.Encode.main_arg2))
      ∧ r.2.sem = fun _ => 0)

def quiescent_EncodeIdeal [hEncodeIdeal : Cert.EncodeIdeal.Facts] : Prop :=
  ∀ (m : (ℓ : Loc Cert.EncodeIdeal.nD Cert.EncodeIdeal.τ Cert.EncodeIdeal.sig) → Buf (Elt Ideal) ℓ) (g : Dev Cert.EncodeIdeal.nD → PrngReg), Pre_EncodeIdeal m →
    θ_run (Cert.EncodeIdeal.defs (F := Ideal)) (onTc (τ := Cert.EncodeIdeal.τ) (Cert.EncodeIdeal.main (F := Ideal))) ⟨m, fun _ => 0, g⟩ (fun r => (∀ c : Dev Cert.EncodeIdeal.nD,
      r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
      ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
      ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2))
      ∧ r.2.sem = fun _ => 0)

def quiescent_EncodedIdeal [hEncodedIdeal : Cert.EncodedIdeal.Facts] : Prop :=
  ∀ (m : (ℓ : Loc Cert.EncodedIdeal.nD Cert.EncodedIdeal.τ Cert.EncodedIdeal.sig) → Buf (Elt Ideal) ℓ) (g : Dev Cert.EncodedIdeal.nD → PrngReg), Pre_EncodedIdeal m →
    θ_run (Cert.EncodedIdeal.defs (F := Ideal)) (onTc (τ := Cert.EncodedIdeal.τ) (Cert.EncodedIdeal.main (F := Ideal))) ⟨m, fun _ => 0, g⟩ (fun r => (∀ c : Dev Cert.EncodedIdeal.nD,
      r.2.mem ((c.tc : Thread Cert.EncodedIdeal.nD Cert.EncodedIdeal.τ).loc Cert.EncodedIdeal.main_arg0) = m ((c.tc : Thread Cert.EncodedIdeal.nD Cert.EncodedIdeal.τ).loc Cert.EncodedIdeal.main_arg0)
      ∧ r.2.mem ((c.tc : Thread Cert.EncodedIdeal.nD Cert.EncodedIdeal.τ).loc Cert.EncodedIdeal.main_arg1) = m ((c.tc : Thread Cert.EncodedIdeal.nD Cert.EncodedIdeal.τ).loc Cert.EncodedIdeal.main_arg1)
      ∧ r.2.mem ((c.tc : Thread Cert.EncodedIdeal.nD Cert.EncodedIdeal.τ).loc Cert.EncodedIdeal.main_arg2) = m ((c.tc : Thread Cert.EncodedIdeal.nD Cert.EncodedIdeal.τ).loc Cert.EncodedIdeal.main_arg2))
      ∧ r.2.sem = fun _ => 0)

def quiescent_Chunks [hChunks : Cert.Chunks.Facts] : Prop :=
  ∀ (m : (ℓ : Loc Cert.Chunks.nD Cert.Chunks.τ Cert.Chunks.sig) → Buf (Elt Bits) ℓ) (g : Dev Cert.Chunks.nD → PrngReg), Pre_Chunks m →
    θ_run (Cert.Chunks.defs (F := Bits)) (onTc (τ := Cert.Chunks.τ) (Cert.Chunks.main (F := Bits))) ⟨m, fun _ => 0, g⟩ (fun r => (∀ c : Dev Cert.Chunks.nD,
      r.2.mem ((c.tc : Thread Cert.Chunks.nD Cert.Chunks.τ).loc Cert.Chunks.main_arg0) = m ((c.tc : Thread Cert.Chunks.nD Cert.Chunks.τ).loc Cert.Chunks.main_arg0))
      ∧ r.2.sem = fun _ => 0)

def quiescent_ChunksIdeal [hChunksIdeal : Cert.ChunksIdeal.Facts] : Prop :=
  ∀ (m : (ℓ : Loc Cert.ChunksIdeal.nD Cert.ChunksIdeal.τ Cert.ChunksIdeal.sig) → Buf (Elt Ideal) ℓ) (g : Dev Cert.ChunksIdeal.nD → PrngReg), Pre_ChunksIdeal m →
    θ_run (Cert.ChunksIdeal.defs (F := Ideal)) (onTc (τ := Cert.ChunksIdeal.τ) (Cert.ChunksIdeal.main (F := Ideal))) ⟨m, fun _ => 0, g⟩ (fun r => (∀ c : Dev Cert.ChunksIdeal.nD,
      r.2.mem ((c.tc : Thread Cert.ChunksIdeal.nD Cert.ChunksIdeal.τ).loc Cert.ChunksIdeal.main_arg0) = m ((c.tc : Thread Cert.ChunksIdeal.nD Cert.ChunksIdeal.τ).loc Cert.ChunksIdeal.main_arg0))
      ∧ r.2.sem = fun _ => 0)

def quiescent_ChunksIdeal_pre_chunks_above [hChunksIdeal : Cert.ChunksIdeal.Facts] [hPre_chunks_above : Cert.Pre_chunks_above.Facts] : Prop :=
  ∀ (m : (ℓ : Loc Cert.ChunksIdeal.nD Cert.ChunksIdeal.τ Cert.ChunksIdeal.sig) → Buf (Elt Ideal) ℓ) (g : Dev Cert.ChunksIdeal.nD → PrngReg), Pre_ChunksIdeal_chunks_above m →
    θ_run (Cert.ChunksIdeal.defs (F := Ideal)) (onTc (τ := Cert.ChunksIdeal.τ) (Cert.ChunksIdeal.main (F := Ideal))) ⟨m, fun _ => 0, g⟩ (fun r => (∀ c : Dev Cert.ChunksIdeal.nD,
      r.2.mem ((c.tc : Thread Cert.ChunksIdeal.nD Cert.ChunksIdeal.τ).loc Cert.ChunksIdeal.main_arg0) = m ((c.tc : Thread Cert.ChunksIdeal.nD Cert.ChunksIdeal.τ).loc Cert.ChunksIdeal.main_arg0))
      ∧ r.2.sem = fun _ => 0)

def quiescent_ChunksTopIdeal [hChunksTopIdeal : Cert.ChunksTopIdeal.Facts] : Prop :=
  ∀ (m : (ℓ : Loc Cert.ChunksTopIdeal.nD Cert.ChunksTopIdeal.τ Cert.ChunksTopIdeal.sig) → Buf (Elt Ideal) ℓ) (g : Dev Cert.ChunksTopIdeal.nD → PrngReg), Pre_ChunksTopIdeal m →
    θ_run (Cert.ChunksTopIdeal.defs (F := Ideal)) (onTc (τ := Cert.ChunksTopIdeal.τ) (Cert.ChunksTopIdeal.main (F := Ideal))) ⟨m, fun _ => 0, g⟩ (fun r => (∀ c : Dev Cert.ChunksTopIdeal.nD,
      r.2.mem ((c.tc : Thread Cert.ChunksTopIdeal.nD Cert.ChunksTopIdeal.τ).loc Cert.ChunksTopIdeal.main_arg0) = m ((c.tc : Thread Cert.ChunksTopIdeal.nD Cert.ChunksTopIdeal.τ).loc Cert.ChunksTopIdeal.main_arg0))
      ∧ r.2.sem = fun _ => 0)

def quiescent_ChunksTopIdeal_pre_chunks_above [hChunksTopIdeal : Cert.ChunksTopIdeal.Facts] [hPre_chunks_above : Cert.Pre_chunks_above.Facts] : Prop :=
  ∀ (m : (ℓ : Loc Cert.ChunksTopIdeal.nD Cert.ChunksTopIdeal.τ Cert.ChunksTopIdeal.sig) → Buf (Elt Ideal) ℓ) (g : Dev Cert.ChunksTopIdeal.nD → PrngReg), Pre_ChunksTopIdeal_chunks_above m →
    θ_run (Cert.ChunksTopIdeal.defs (F := Ideal)) (onTc (τ := Cert.ChunksTopIdeal.τ) (Cert.ChunksTopIdeal.main (F := Ideal))) ⟨m, fun _ => 0, g⟩ (fun r => (∀ c : Dev Cert.ChunksTopIdeal.nD,
      r.2.mem ((c.tc : Thread Cert.ChunksTopIdeal.nD Cert.ChunksTopIdeal.τ).loc Cert.ChunksTopIdeal.main_arg0) = m ((c.tc : Thread Cert.ChunksTopIdeal.nD Cert.ChunksTopIdeal.τ).loc Cert.ChunksTopIdeal.main_arg0))
      ∧ r.2.sem = fun _ => 0)

def quiescent_Cand [hCand : Cert.Cand.Facts] : Prop :=
  ∀ (m : (ℓ : Loc Cert.Cand.nD Cert.Cand.τ Cert.Cand.sig) → Buf (Elt Bits) ℓ) (g : Dev Cert.Cand.nD → PrngReg), Pre_Cand m →
    θ_run (Cert.Cand.defs (F := Bits)) (onTc (τ := Cert.Cand.τ) (Cert.Cand.main (F := Bits))) ⟨m, fun _ => 0, g⟩ (fun r => (∀ c : Dev Cert.Cand.nD,
      r.2.mem ((c.tc : Thread Cert.Cand.nD Cert.Cand.τ).loc Cert.Cand.main_arg0) = m ((c.tc : Thread Cert.Cand.nD Cert.Cand.τ).loc Cert.Cand.main_arg0)
      ∧ r.2.mem ((c.tc : Thread Cert.Cand.nD Cert.Cand.τ).loc Cert.Cand.main_arg1) = m ((c.tc : Thread Cert.Cand.nD Cert.Cand.τ).loc Cert.Cand.main_arg1))
      ∧ r.2.sem = fun _ => 0)

def quiescent_CandIdeal [hCandIdeal : Cert.CandIdeal.Facts] : Prop :=
  ∀ (m : (ℓ : Loc Cert.CandIdeal.nD Cert.CandIdeal.τ Cert.CandIdeal.sig) → Buf (Elt Ideal) ℓ) (g : Dev Cert.CandIdeal.nD → PrngReg), Pre_CandIdeal m →
    θ_run (Cert.CandIdeal.defs (F := Ideal)) (onTc (τ := Cert.CandIdeal.τ) (Cert.CandIdeal.main (F := Ideal))) ⟨m, fun _ => 0, g⟩ (fun r => (∀ c : Dev Cert.CandIdeal.nD,
      r.2.mem ((c.tc : Thread Cert.CandIdeal.nD Cert.CandIdeal.τ).loc Cert.CandIdeal.main_arg0) = m ((c.tc : Thread Cert.CandIdeal.nD Cert.CandIdeal.τ).loc Cert.CandIdeal.main_arg0)
      ∧ r.2.mem ((c.tc : Thread Cert.CandIdeal.nD Cert.CandIdeal.τ).loc Cert.CandIdeal.main_arg1) = m ((c.tc : Thread Cert.CandIdeal.nD Cert.CandIdeal.τ).loc Cert.CandIdeal.main_arg1))
      ∧ r.2.sem = fun _ => 0)

def quiescent_CandIdeal_pre_cand_distinct [hCandIdeal : Cert.CandIdeal.Facts] [hPre_cand_distinct : Cert.Pre_cand_distinct.Facts] : Prop :=
  ∀ (m : (ℓ : Loc Cert.CandIdeal.nD Cert.CandIdeal.τ Cert.CandIdeal.sig) → Buf (Elt Ideal) ℓ) (g : Dev Cert.CandIdeal.nD → PrngReg), Pre_CandIdeal_cand_distinct m →
    θ_run (Cert.CandIdeal.defs (F := Ideal)) (onTc (τ := Cert.CandIdeal.τ) (Cert.CandIdeal.main (F := Ideal))) ⟨m, fun _ => 0, g⟩ (fun r => (∀ c : Dev Cert.CandIdeal.nD,
      r.2.mem ((c.tc : Thread Cert.CandIdeal.nD Cert.CandIdeal.τ).loc Cert.CandIdeal.main_arg0) = m ((c.tc : Thread Cert.CandIdeal.nD Cert.CandIdeal.τ).loc Cert.CandIdeal.main_arg0)
      ∧ r.2.mem ((c.tc : Thread Cert.CandIdeal.nD Cert.CandIdeal.τ).loc Cert.CandIdeal.main_arg1) = m ((c.tc : Thread Cert.CandIdeal.nD Cert.CandIdeal.τ).loc Cert.CandIdeal.main_arg1))
      ∧ r.2.sem = fun _ => 0)

def quiescent_CandSortedIdeal [hCandSortedIdeal : Cert.CandSortedIdeal.Facts] : Prop :=
  ∀ (m : (ℓ : Loc Cert.CandSortedIdeal.nD Cert.CandSortedIdeal.τ Cert.CandSortedIdeal.sig) → Buf (Elt Ideal) ℓ) (g : Dev Cert.CandSortedIdeal.nD → PrngReg), Pre_CandSortedIdeal m →
    θ_run (Cert.CandSortedIdeal.defs (F := Ideal)) (onTc (τ := Cert.CandSortedIdeal.τ) (Cert.CandSortedIdeal.main (F := Ideal))) ⟨m, fun _ => 0, g⟩ (fun r => (∀ c : Dev Cert.CandSortedIdeal.nD,
      r.2.mem ((c.tc : Thread Cert.CandSortedIdeal.nD Cert.CandSortedIdeal.τ).loc Cert.CandSortedIdeal.main_arg0) = m ((c.tc : Thread Cert.CandSortedIdeal.nD Cert.CandSortedIdeal.τ).loc Cert.CandSortedIdeal.main_arg0)
      ∧ r.2.mem ((c.tc : Thread Cert.CandSortedIdeal.nD Cert.CandSortedIdeal.τ).loc Cert.CandSortedIdeal.main_arg1) = m ((c.tc : Thread Cert.CandSortedIdeal.nD Cert.CandSortedIdeal.τ).loc Cert.CandSortedIdeal.main_arg1))
      ∧ r.2.sem = fun _ => 0)

def quiescent_CandSortedIdeal_pre_cand_distinct [hCandSortedIdeal : Cert.CandSortedIdeal.Facts] [hPre_cand_distinct : Cert.Pre_cand_distinct.Facts] : Prop :=
  ∀ (m : (ℓ : Loc Cert.CandSortedIdeal.nD Cert.CandSortedIdeal.τ Cert.CandSortedIdeal.sig) → Buf (Elt Ideal) ℓ) (g : Dev Cert.CandSortedIdeal.nD → PrngReg), Pre_CandSortedIdeal_cand_distinct m →
    θ_run (Cert.CandSortedIdeal.defs (F := Ideal)) (onTc (τ := Cert.CandSortedIdeal.τ) (Cert.CandSortedIdeal.main (F := Ideal))) ⟨m, fun _ => 0, g⟩ (fun r => (∀ c : Dev Cert.CandSortedIdeal.nD,
      r.2.mem ((c.tc : Thread Cert.CandSortedIdeal.nD Cert.CandSortedIdeal.τ).loc Cert.CandSortedIdeal.main_arg0) = m ((c.tc : Thread Cert.CandSortedIdeal.nD Cert.CandSortedIdeal.τ).loc Cert.CandSortedIdeal.main_arg0)
      ∧ r.2.mem ((c.tc : Thread Cert.CandSortedIdeal.nD Cert.CandSortedIdeal.τ).loc Cert.CandSortedIdeal.main_arg1) = m ((c.tc : Thread Cert.CandSortedIdeal.nD Cert.CandSortedIdeal.τ).loc Cert.CandSortedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_KernelIdeal_ScatteredIdeal_pre_idx_of_top_k [hKernelIdeal : Cert.KernelIdeal.Facts] [hScatteredIdeal : Cert.ScatteredIdeal.Facts] [hPre_idx_of_top_k : Cert.Pre_idx_of_top_k.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ScatteredIdeal.nD Cert.ScatteredIdeal.τ Cert.ScatteredIdeal.sig) → Buf (Elt Ideal) ℓ) (g' : Dev Cert.ScatteredIdeal.nD → PrngReg), Pre_KernelIdeal_idx_of_top_k m →
    (∀ c : Dev Cert.KernelIdeal.nD,
      m' ((c.tc : Thread Cert.ScatteredIdeal.nD Cert.ScatteredIdeal.τ).loc Cert.ScatteredIdeal.main_arg0) = m ((c.tc : Thread Cert.KernelIdeal.nD Cert.KernelIdeal.τ).loc Cert.KernelIdeal.main_arg0)
      ∧ m' ((c.tc : Thread Cert.ScatteredIdeal.nD Cert.ScatteredIdeal.τ).loc Cert.ScatteredIdeal.main_arg1) = m ((c.tc : Thread Cert.KernelIdeal.nD Cert.KernelIdeal.τ).loc Cert.KernelIdeal.main_arg1)
      ∧ m' ((c.tc : Thread Cert.ScatteredIdeal.nD Cert.ScatteredIdeal.τ).loc Cert.ScatteredIdeal.main_arg2) = m ((c.tc : Thread Cert.KernelIdeal.nD Cert.KernelIdeal.τ).loc Cert.KernelIdeal.main_arg2)
      ∧ m' ((c.tc : Thread Cert.ScatteredIdeal.nD Cert.ScatteredIdeal.τ).loc Cert.ScatteredIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ScatteredIdeal.defs (F := Ideal)) (onTc (τ := Cert.ScatteredIdeal.τ) (Cert.ScatteredIdeal.main (F := Ideal))) ⟨m', fun _ => 0, g'⟩ (fun r => ∀ c : Dev Cert.ScatteredIdeal.nD,
          r.2.mem ((c.tc : Thread Cert.ScatteredIdeal.nD Cert.ScatteredIdeal.τ).loc Cert.ScatteredIdeal.main_v22) = v0 c
          ∧ r.2.mem ((c.tc : Thread Cert.ScatteredIdeal.nD Cert.ScatteredIdeal.τ).loc Cert.ScatteredIdeal.main_arg0) = m' ((c.tc : Thread Cert.ScatteredIdeal.nD Cert.ScatteredIdeal.τ).loc Cert.ScatteredIdeal.main_arg0)
          ∧ r.2.mem ((c.tc : Thread Cert.ScatteredIdeal.nD Cert.ScatteredIdeal.τ).loc Cert.ScatteredIdeal.main_arg1) = m' ((c.tc : Thread Cert.ScatteredIdeal.nD Cert.ScatteredIdeal.τ).loc Cert.ScatteredIdeal.main_arg1)
          ∧ r.2.mem ((c.tc : Thread Cert.ScatteredIdeal.nD Cert.ScatteredIdeal.τ).loc Cert.ScatteredIdeal.main_arg2) = m' ((c.tc : Thread Cert.ScatteredIdeal.nD Cert.ScatteredIdeal.τ).loc Cert.ScatteredIdeal.main_arg2)
          ∧ r.2.mem ((c.tc : Thread Cert.ScatteredIdeal.nD Cert.ScatteredIdeal.τ).loc Cert.ScatteredIdeal.main_arg3) = m' ((c.tc : Thread Cert.ScatteredIdeal.nD Cert.ScatteredIdeal.τ).loc Cert.ScatteredIdeal.main_arg3))

def preserves_Encode_EncodeIdeal : Prop :=
  True

def algebraic_EncodeIdeal_EncodedIdeal [hEncodeIdeal : Cert.EncodeIdeal.Facts] [hEncodedIdeal : Cert.EncodedIdeal.Facts] : Prop :=
  ∀ (m : (ℓ : Loc Cert.EncodeIdeal.nD Cert.EncodeIdeal.τ Cert.EncodeIdeal.sig) → Buf (Elt Ideal) ℓ) (g : Dev Cert.EncodeIdeal.nD → PrngReg)
    (m' : (ℓ : Loc Cert.EncodedIdeal.nD Cert.EncodedIdeal.τ Cert.EncodedIdeal.sig) → Buf (Elt Ideal) ℓ) (g' : Dev Cert.EncodedIdeal.nD → PrngReg), Pre_EncodeIdeal m →
    (∀ c : Dev Cert.EncodeIdeal.nD,
      m' ((c.tc : Thread Cert.EncodedIdeal.nD Cert.EncodedIdeal.τ).loc Cert.EncodedIdeal.main_arg0) = m ((c.tc : Thread Cert.EncodeIdeal.nD Cert.EncodeIdeal.τ).loc Cert.EncodeIdeal.main_arg0)
      ∧ m' ((c.tc : Thread Cert.EncodedIdeal.nD Cert.EncodedIdeal.τ).loc Cert.EncodedIdeal.main_arg1) = m ((c.tc : Thread Cert.EncodeIdeal.nD Cert.EncodeIdeal.τ).loc Cert.EncodeIdeal.main_arg1)
      ∧ m' ((c.tc : Thread Cert.EncodedIdeal.nD Cert.EncodedIdeal.τ).loc Cert.EncodedIdeal.main_arg2) = m ((c.tc : Thread Cert.EncodeIdeal.nD Cert.EncodeIdeal.τ).loc Cert.EncodeIdeal.main_arg2)) →
    ∃ (v0 : (c : Dev Cert.EncodeIdeal.nD) → Buf (Elt Ideal) ((c.tc : Thread Cert.EncodeIdeal.nD Cert.EncodeIdeal.τ).loc Cert.EncodeIdeal.main_v1_0)) (v1 : (c : Dev Cert.EncodeIdeal.nD) → Buf (Elt Ideal) ((c.tc : Thread Cert.EncodeIdeal.nD Cert.EncodeIdeal.τ).loc Cert.EncodeIdeal.main_v1_1)),
      θ_run (Cert.EncodeIdeal.defs (F := Ideal)) (onTc (τ := Cert.EncodeIdeal.τ) (Cert.EncodeIdeal.main (F := Ideal))) ⟨m, fun _ => 0, g⟩ (fun r => ∀ c : Dev Cert.EncodeIdeal.nD,
          r.2.mem ((c.tc : Thread Cert.EncodeIdeal.nD Cert.EncodeIdeal.τ).loc Cert.EncodeIdeal.main_v1_0) = v0 c
          ∧ r.2.mem ((c.tc : Thread Cert.EncodeIdeal.nD Cert.EncodeIdeal.τ).loc Cert.EncodeIdeal.main_v1_1) = v1 c
          ∧ r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
          ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
          ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2))
      ∧ θ_run (Cert.EncodedIdeal.defs (F := Ideal)) (onTc (τ := Cert.EncodedIdeal.τ) (Cert.EncodedIdeal.main (F := Ideal))) ⟨m', fun _ => 0, g'⟩ (fun r => ∀ c : Dev Cert.EncodedIdeal.nD,
          r.2.mem ((c.tc : Thread Cert.EncodedIdeal.nD Cert.EncodedIdeal.τ).loc Cert.EncodedIdeal.main_v4) = v0 c
          ∧ r.2.mem ((c.tc : Thread Cert.EncodedIdeal.nD Cert.EncodedIdeal.τ).loc Cert.EncodedIdeal.main_v7) = v1 c
          ∧ r.2.mem ((c.tc : Thread Cert.EncodedIdeal.nD Cert.EncodedIdeal.τ).loc Cert.EncodedIdeal.main_arg0) = m' ((c.tc : Thread Cert.EncodedIdeal.nD Cert.EncodedIdeal.τ).loc Cert.EncodedIdeal.main_arg0)
          ∧ r.2.mem ((c.tc : Thread Cert.EncodedIdeal.nD Cert.EncodedIdeal.τ).loc Cert.EncodedIdeal.main_arg1) = m' ((c.tc : Thread Cert.EncodedIdeal.nD Cert.EncodedIdeal.τ).loc Cert.EncodedIdeal.main_arg1)
          ∧ r.2.mem ((c.tc : Thread Cert.EncodedIdeal.nD Cert.EncodedIdeal.τ).loc Cert.EncodedIdeal.main_arg2) = m' ((c.tc : Thread Cert.EncodedIdeal.nD Cert.EncodedIdeal.τ).loc Cert.EncodedIdeal.main_arg2))

def preserves_Chunks_ChunksIdeal : Prop :=
  True

def algebraic_ChunksIdeal_ChunksTopIdeal_pre_chunks_above [hChunksIdeal : Cert.ChunksIdeal.Facts] [hChunksTopIdeal : Cert.ChunksTopIdeal.Facts] [hPre_chunks_above : Cert.Pre_chunks_above.Facts] : Prop :=
  ∀ (m : (ℓ : Loc Cert.ChunksIdeal.nD Cert.ChunksIdeal.τ Cert.ChunksIdeal.sig) → Buf (Elt Ideal) ℓ) (g : Dev Cert.ChunksIdeal.nD → PrngReg)
    (m' : (ℓ : Loc Cert.ChunksTopIdeal.nD Cert.ChunksTopIdeal.τ Cert.ChunksTopIdeal.sig) → Buf (Elt Ideal) ℓ) (g' : Dev Cert.ChunksTopIdeal.nD → PrngReg), Pre_ChunksIdeal_chunks_above m →
    (∀ c : Dev Cert.ChunksIdeal.nD,
      m' ((c.tc : Thread Cert.ChunksTopIdeal.nD Cert.ChunksTopIdeal.τ).loc Cert.ChunksTopIdeal.main_arg0) = m ((c.tc : Thread Cert.ChunksIdeal.nD Cert.ChunksIdeal.τ).loc Cert.ChunksIdeal.main_arg0)) →
    ∃ (v0 : (c : Dev Cert.ChunksIdeal.nD) → Buf (Elt Ideal) ((c.tc : Thread Cert.ChunksIdeal.nD Cert.ChunksIdeal.τ).loc Cert.ChunksIdeal.main_v0_0)) (v1 : (c : Dev Cert.ChunksIdeal.nD) → Buf (Elt Ideal) ((c.tc : Thread Cert.ChunksIdeal.nD Cert.ChunksIdeal.τ).loc Cert.ChunksIdeal.main_v0_1)),
      θ_run (Cert.ChunksIdeal.defs (F := Ideal)) (onTc (τ := Cert.ChunksIdeal.τ) (Cert.ChunksIdeal.main (F := Ideal))) ⟨m, fun _ => 0, g⟩ (fun r => ∀ c : Dev Cert.ChunksIdeal.nD,
          r.2.mem ((c.tc : Thread Cert.ChunksIdeal.nD Cert.ChunksIdeal.τ).loc Cert.ChunksIdeal.main_v0_0) = v0 c
          ∧ r.2.mem ((c.tc : Thread Cert.ChunksIdeal.nD Cert.ChunksIdeal.τ).loc Cert.ChunksIdeal.main_v0_1) = v1 c
          ∧ r.2.mem ((c.tc : Thread Cert.ChunksIdeal.nD Cert.ChunksIdeal.τ).loc Cert.ChunksIdeal.main_arg0) = m ((c.tc : Thread Cert.ChunksIdeal.nD Cert.ChunksIdeal.τ).loc Cert.ChunksIdeal.main_arg0))
      ∧ θ_run (Cert.ChunksTopIdeal.defs (F := Ideal)) (onTc (τ := Cert.ChunksTopIdeal.τ) (Cert.ChunksTopIdeal.main (F := Ideal))) ⟨m', fun _ => 0, g'⟩ (fun r => ∀ c : Dev Cert.ChunksTopIdeal.nD,
          r.2.mem ((c.tc : Thread Cert.ChunksTopIdeal.nD Cert.ChunksTopIdeal.τ).loc Cert.ChunksTopIdeal.main_values) = v0 c
          ∧ r.2.mem ((c.tc : Thread Cert.ChunksTopIdeal.nD Cert.ChunksTopIdeal.τ).loc Cert.ChunksTopIdeal.main_indices) = v1 c
          ∧ r.2.mem ((c.tc : Thread Cert.ChunksTopIdeal.nD Cert.ChunksTopIdeal.τ).loc Cert.ChunksTopIdeal.main_arg0) = m' ((c.tc : Thread Cert.ChunksTopIdeal.nD Cert.ChunksTopIdeal.τ).loc Cert.ChunksTopIdeal.main_arg0))

def preserves_Cand_CandIdeal : Prop :=
  True

def algebraic_CandIdeal_CandSortedIdeal_pre_cand_distinct [hCandIdeal : Cert.CandIdeal.Facts] [hCandSortedIdeal : Cert.CandSortedIdeal.Facts] [hPre_cand_distinct : Cert.Pre_cand_distinct.Facts] : Prop :=
  ∀ (m : (ℓ : Loc Cert.CandIdeal.nD Cert.CandIdeal.τ Cert.CandIdeal.sig) → Buf (Elt Ideal) ℓ) (g : Dev Cert.CandIdeal.nD → PrngReg)
    (m' : (ℓ : Loc Cert.CandSortedIdeal.nD Cert.CandSortedIdeal.τ Cert.CandSortedIdeal.sig) → Buf (Elt Ideal) ℓ) (g' : Dev Cert.CandSortedIdeal.nD → PrngReg), Pre_CandIdeal_cand_distinct m →
    (∀ c : Dev Cert.CandIdeal.nD,
      m' ((c.tc : Thread Cert.CandSortedIdeal.nD Cert.CandSortedIdeal.τ).loc Cert.CandSortedIdeal.main_arg0) = m ((c.tc : Thread Cert.CandIdeal.nD Cert.CandIdeal.τ).loc Cert.CandIdeal.main_arg0)
      ∧ m' ((c.tc : Thread Cert.CandSortedIdeal.nD Cert.CandSortedIdeal.τ).loc Cert.CandSortedIdeal.main_arg1) = m ((c.tc : Thread Cert.CandIdeal.nD Cert.CandIdeal.τ).loc Cert.CandIdeal.main_arg1)) →
    ∃ (v0 : (c : Dev Cert.CandIdeal.nD) → Buf (Elt Ideal) ((c.tc : Thread Cert.CandIdeal.nD Cert.CandIdeal.τ).loc Cert.CandIdeal.main_v0_0)) (v1 : (c : Dev Cert.CandIdeal.nD) → Buf (Elt Ideal) ((c.tc : Thread Cert.CandIdeal.nD Cert.CandIdeal.τ).loc Cert.CandIdeal.main_v0_1)),
      θ_run (Cert.CandIdeal.defs (F := Ideal)) (onTc (τ := Cert.CandIdeal.τ) (Cert.CandIdeal.main (F := Ideal))) ⟨m, fun _ => 0, g⟩ (fun r => ∀ c : Dev Cert.CandIdeal.nD,
          r.2.mem ((c.tc : Thread Cert.CandIdeal.nD Cert.CandIdeal.τ).loc Cert.CandIdeal.main_v0_0) = v0 c
          ∧ r.2.mem ((c.tc : Thread Cert.CandIdeal.nD Cert.CandIdeal.τ).loc Cert.CandIdeal.main_v0_1) = v1 c
          ∧ r.2.mem ((c.tc : Thread Cert.CandIdeal.nD Cert.CandIdeal.τ).loc Cert.CandIdeal.main_arg0) = m ((c.tc : Thread Cert.CandIdeal.nD Cert.CandIdeal.τ).loc Cert.CandIdeal.main_arg0)
          ∧ r.2.mem ((c.tc : Thread Cert.CandIdeal.nD Cert.CandIdeal.τ).loc Cert.CandIdeal.main_arg1) = m ((c.tc : Thread Cert.CandIdeal.nD Cert.CandIdeal.τ).loc Cert.CandIdeal.main_arg1))
      ∧ θ_run (Cert.CandSortedIdeal.defs (F := Ideal)) (onTc (τ := Cert.CandSortedIdeal.τ) (Cert.CandSortedIdeal.main (F := Ideal))) ⟨m', fun _ => 0, g'⟩ (fun r => ∀ c : Dev Cert.CandSortedIdeal.nD,
          r.2.mem ((c.tc : Thread Cert.CandSortedIdeal.nD Cert.CandSortedIdeal.τ).loc Cert.CandSortedIdeal.main_v3) = v0 c
          ∧ r.2.mem ((c.tc : Thread Cert.CandSortedIdeal.nD Cert.CandSortedIdeal.τ).loc Cert.CandSortedIdeal.main_v4) = v1 c
          ∧ r.2.mem ((c.tc : Thread Cert.CandSortedIdeal.nD Cert.CandSortedIdeal.τ).loc Cert.CandSortedIdeal.main_arg0) = m' ((c.tc : Thread Cert.CandSortedIdeal.nD Cert.CandSortedIdeal.τ).loc Cert.CandSortedIdeal.main_arg0)
          ∧ r.2.mem ((c.tc : Thread Cert.CandSortedIdeal.nD Cert.CandSortedIdeal.τ).loc Cert.CandSortedIdeal.main_arg1) = m' ((c.tc : Thread Cert.CandSortedIdeal.nD Cert.CandSortedIdeal.τ).loc Cert.CandSortedIdeal.main_arg1))

def Claim : Prop :=
  ∃ (hKernel : Cert.Kernel.Facts) (hKernelIdeal : Cert.KernelIdeal.Facts) (hReferenceIdeal : Cert.ReferenceIdeal.Facts) (hScatteredIdeal : Cert.ScatteredIdeal.Facts) (hEncode : Cert.Encode.Facts) (hEncodeIdeal : Cert.EncodeIdeal.Facts) (hEncodedIdeal : Cert.EncodedIdeal.Facts) (hChunks : Cert.Chunks.Facts) (hChunksIdeal : Cert.ChunksIdeal.Facts) (hChunksTopIdeal : Cert.ChunksTopIdeal.Facts) (hCand : Cert.Cand.Facts) (hCandIdeal : Cert.CandIdeal.Facts) (hCandSortedIdeal : Cert.CandSortedIdeal.Facts) (hPre_idx_in_range : Cert.Pre_idx_in_range.Facts) (hPre_idx_of_top_k : Cert.Pre_idx_of_top_k.Facts) (hPre_chunks_above : Cert.Pre_chunks_above.Facts) (hPre_cand_distinct : Cert.Pre_cand_distinct.Facts),
    quiescent_Kernel (hKernel := hKernel) (hPre_idx_in_range := hPre_idx_in_range)
    ∧ quiescent_KernelIdeal (hKernelIdeal := hKernelIdeal) (hPre_idx_in_range := hPre_idx_in_range)
    ∧ quiescent_KernelIdeal_pre_idx_of_top_k (hKernelIdeal := hKernelIdeal) (hPre_idx_of_top_k := hPre_idx_of_top_k)
    ∧ quiescent_ReferenceIdeal (hReferenceIdeal := hReferenceIdeal)
    ∧ quiescent_ReferenceIdeal_pre_idx_in_range (hReferenceIdeal := hReferenceIdeal) (hPre_idx_in_range := hPre_idx_in_range)
    ∧ quiescent_ScatteredIdeal (hScatteredIdeal := hScatteredIdeal)
    ∧ quiescent_ScatteredIdeal_pre_idx_of_top_k (hScatteredIdeal := hScatteredIdeal) (hPre_idx_of_top_k := hPre_idx_of_top_k)
    ∧ quiescent_Encode (hEncode := hEncode)
    ∧ quiescent_EncodeIdeal (hEncodeIdeal := hEncodeIdeal)
    ∧ quiescent_EncodedIdeal (hEncodedIdeal := hEncodedIdeal)
    ∧ quiescent_Chunks (hChunks := hChunks)
    ∧ quiescent_ChunksIdeal (hChunksIdeal := hChunksIdeal)
    ∧ quiescent_ChunksIdeal_pre_chunks_above (hChunksIdeal := hChunksIdeal) (hPre_chunks_above := hPre_chunks_above)
    ∧ quiescent_ChunksTopIdeal (hChunksTopIdeal := hChunksTopIdeal)
    ∧ quiescent_ChunksTopIdeal_pre_chunks_above (hChunksTopIdeal := hChunksTopIdeal) (hPre_chunks_above := hPre_chunks_above)
    ∧ quiescent_Cand (hCand := hCand)
    ∧ quiescent_CandIdeal (hCandIdeal := hCandIdeal)
    ∧ quiescent_CandIdeal_pre_cand_distinct (hCandIdeal := hCandIdeal) (hPre_cand_distinct := hPre_cand_distinct)
    ∧ quiescent_CandSortedIdeal (hCandSortedIdeal := hCandSortedIdeal)
    ∧ quiescent_CandSortedIdeal_pre_cand_distinct (hCandSortedIdeal := hCandSortedIdeal) (hPre_cand_distinct := hPre_cand_distinct)
    ∧ preserves_Kernel_KernelIdeal
    ∧ algebraic_KernelIdeal_ReferenceIdeal (hKernelIdeal := hKernelIdeal) (hReferenceIdeal := hReferenceIdeal) (hPre_idx_in_range := hPre_idx_in_range)
    ∧ algebraic_KernelIdeal_ScatteredIdeal_pre_idx_of_top_k (hKernelIdeal := hKernelIdeal) (hScatteredIdeal := hScatteredIdeal) (hPre_idx_of_top_k := hPre_idx_of_top_k)
    ∧ preserves_Encode_EncodeIdeal
    ∧ algebraic_EncodeIdeal_EncodedIdeal (hEncodeIdeal := hEncodeIdeal) (hEncodedIdeal := hEncodedIdeal)
    ∧ preserves_Chunks_ChunksIdeal
    ∧ algebraic_ChunksIdeal_ChunksTopIdeal_pre_chunks_above (hChunksIdeal := hChunksIdeal) (hChunksTopIdeal := hChunksTopIdeal) (hPre_chunks_above := hPre_chunks_above)
    ∧ preserves_Cand_CandIdeal
    ∧ algebraic_CandIdeal_CandSortedIdeal_pre_cand_distinct (hCandIdeal := hCandIdeal) (hCandSortedIdeal := hCandSortedIdeal) (hPre_cand_distinct := hPre_cand_distinct)
-- ==== Pre_cand_distinct.lean ====
abbrev S8192x512 : Shape := ⟨2, ![8192, 512]⟩
abbrev S8192x32 : Shape := ⟨2, ![8192, 32]⟩
abbrev S_ : Shape := ⟨0, ![]⟩
abbrev S8192x31 : Shape := ⟨2, ![8192, 31]⟩

class Facts : Prop where
  slices_S8192x512_S8192x32_0_0 : S8192x512.Slices ![0, 0] S8192x32
  bcast_S_S8192x32 : S_.BroadcastsInDim S8192x32 (![] : Fin 0 → Fin S8192x32.rank)
  slices_S8192x32_S8192x31_0_1 : S8192x32.Slices ![0, 1] S8192x31
  slices_S8192x32_S8192x31_0_0 : S8192x32.Slices ![0, 0] S8192x31

variable [Facts]

variable {F : FTy → Type} [FloatOps F]
def comparator_f32_i32_d1 : F .f32 × BitVec 32 → F .f32 × BitVec 32 → BitVec 1 :=
  fun l r =>
    let cst_1 := FloatOps.ofBits .f32 0x00000000#32
    let v23 := FloatOps.cmpf .oeq l.1 cst_1
    let cst_2 := FloatOps.ofBits .f32 0x00000000#32
    let v24 := Scalar.select v23 cst_2 l.1
    let v25 := FloatOps.cmpf .une l.1 l.1
    let cst_3 := FloatOps.ofBits .f32 0x7FC00000#32
    let v26 := Scalar.select v25 cst_3 v24
    let cst_4 := FloatOps.ofBits .f32 0x00000000#32
    let v27 := FloatOps.cmpf .oeq r.1 cst_4
    let cst_5 := FloatOps.ofBits .f32 0x00000000#32
    let v28 := Scalar.select v27 cst_5 r.1
    let v29 := FloatOps.cmpf .une r.1 r.1
    let cst_6 := FloatOps.ofBits .f32 0x7FC00000#32
    let v30 := Scalar.select v29 cst_6 v28
    let v31 := IntOp.cmpi .slt l.2 r.2
    let v32 := FloatOps.cmpfTotal .lt v26 v30
    let v33 := FloatOps.cmpfTotal .eq v26 v30
    let v34 := IntOp.andi v33 v31
    let v35 := IntOp.ori v32 v34
    v35

def fn_part1 {F : FTy → Type} [FloatOps F] (main_v11 : IVec S8192x32 1) (main_v18 : IVec S8192x31 1) (main_v19 : IVec S8192x31 1) : IVec S8192x31 1 :=
  let main_v20 : IVec S8192x31 1 := (extractStridedSlice S8192x31 ![0, 0] · slices_S8192x32_S8192x31_0_0) main_v11
  let main_v21 : IVec S8192x31 1 := andi main_v19 main_v20
  let main_v22 : IVec S8192x31 1 := andi main_v21 main_v18
  main_v22

def fn {F : FTy → Type} [FloatOps F] (main_arg0 : FVec F S8192x512 .f32) (main_arg1 : IVec S8192x512 32) : IVec S8192x31 1 :=
  let main_v0 : FVec F S8192x512 .f32 := Host.negf main_arg0
  let main_v1_0 : FVec F S8192x512 .f32 := (fun x y => (Host.sort2 S8192x512 1 comparator_f32_i32_d1 x y).1) main_v0 main_arg1
  let main_v1_1 : IVec S8192x512 32 := (fun x y => (Host.sort2 S8192x512 1 comparator_f32_i32_d1 x y).2) main_v0 main_arg1
  let main_v2 : FVec F S8192x32 .f32 := (extractStridedSlice S8192x32 ![0, 0] · slices_S8192x512_S8192x32_0_0) main_v1_0
  let main_v3 : IVec S8192x32 32 := (extractStridedSlice S8192x32 ![0, 0] · slices_S8192x512_S8192x32_0_0) main_v1_1
  let main_cst : FVec F S_ .f32 := constant S_ .f32 0x7F800000#32
  let main_v4 : FVec F S8192x32 .f32 := broadcastInDim S8192x32 ![] bcast_S_S8192x32 main_cst
  let main_v5 : IVec S8192x32 1 := cmpf .olt main_v2 main_v4
  let main_c : IVec S_ 32 := constantI S_ 32 0#32
  let main_v6 : IVec S8192x32 32 := broadcastInDim S8192x32 ![] bcast_S_S8192x32 main_c
  let main_v7 : IVec S8192x32 1 := cmpi .sge main_v3 main_v6
  let main_v8 : IVec S8192x32 1 := andi main_v5 main_v7
  let main_c_0 : IVec S_ 32 := constantI S_ 32 24576#32
  let main_v9 : IVec S8192x32 32 := broadcastInDim S8192x32 ![] bcast_S_S8192x32 main_c_0
  let main_v10 : IVec S8192x32 1 := cmpi .slt main_v3 main_v9
  let main_v11 : IVec S8192x32 1 := andi main_v8 main_v10
  let main_v12 : FVec F S8192x31 .f32 := (extractStridedSlice S8192x31 ![0, 1] · slices_S8192x32_S8192x31_0_1) main_v2
  let main_v13 : FVec F S8192x31 .f32 := (extractStridedSlice S8192x31 ![0, 0] · slices_S8192x32_S8192x31_0_0) main_v2
  let main_v14 : IVec S8192x31 1 := cmpf .une main_v12 main_v13
  let main_v15 : IVec S8192x31 32 := (extractStridedSlice S8192x31 ![0, 1] · slices_S8192x32_S8192x31_0_1) main_v3
  let main_v16 : IVec S8192x31 32 := (extractStridedSlice S8192x31 ![0, 0] · slices_S8192x32_S8192x31_0_0) main_v3
  let main_v17 : IVec S8192x31 1 := cmpi .ne main_v15 main_v16
  let main_v18 : IVec S8192x31 1 := ori main_v14 main_v17
  let main_v19 : IVec S8192x31 1 := (extractStridedSlice S8192x31 ![0, 1] · slices_S8192x32_S8192x31_0_1) main_v11
  fn_part1 (F := F) main_v11 main_v18 main_v19
-- ==== Pre_chunks_above.lean ====
abbrev S192x32768 : Shape := ⟨2, ![192, 32768]⟩
abbrev S192x8192 : Shape := ⟨2, ![192, 8192]⟩
abbrev S8192x192 : Shape := ⟨2, ![8192, 192]⟩
abbrev S8192x32 : Shape := ⟨2, ![8192, 32]⟩
abbrev S_ : Shape := ⟨0, ![]⟩

class Facts : Prop where
  slices_S192x32768_S192x8192_0_0 : S192x32768.Slices ![0, 0] S192x8192
  transposes_S192x8192_S8192x192_1_0 : S192x8192.Transposes [1, 0] S8192x192
  sliceFits_S8192x192_S8192x32 : S8192x192.Slices (fun _ => 0) S8192x32
  bcast_S_S8192x32 : S_.BroadcastsInDim S8192x32 (![] : Fin 0 → Fin S8192x32.rank)

variable [Facts]

def fn {F : FTy → Type} [FloatOps F] (main_arg0 : FVec F S192x32768 .f32) : IVec S8192x32 1 :=
  let main_v0 : FVec F S192x8192 .f32 := (extractStridedSlice S192x8192 ![0, 0] · slices_S192x32768_S192x8192_0_0) main_arg0
  let main_v1 : FVec F S8192x192 .f32 := (transpose S8192x192 [1, 0] · transposes_S192x8192_S8192x192_1_0) main_v0
  let main_values : FVec F S8192x32 .f32 := (fun x => (Host.topK S8192x32 1 (FloatOps.cmpfTotal .gt) x sliceFits_S8192x192_S8192x32).1) main_v1
  let main_indices : IVec S8192x32 32 := (fun x => (Host.topK S8192x32 1 (FloatOps.cmpfTotal .gt) x sliceFits_S8192x192_S8192x32).2) main_v1
  let main_cst : FVec F S_ .f32 := constant S_ .f32 0xFF800000#32
  let main_v2 : FVec F S8192x32 .f32 := broadcastInDim S8192x32 ![] bcast_S_S8192x32 main_cst
  let main_v3 : IVec S8192x32 1 := cmpf .ogt main_values main_v2
  main_v3
-- ==== Pre_idx_in_range.lean ====
abbrev S768x24576 : Shape := ⟨2, ![768, 24576]⟩
abbrev S8192x32 : Shape := ⟨2, ![8192, 32]⟩
abbrev S768 : Shape := ⟨1, ![768]⟩
abbrev S_ : Shape := ⟨0, ![]⟩

class Facts : Prop where
  bcast_S_S8192x32 : S_.BroadcastsInDim S8192x32 (![] : Fin 0 → Fin S8192x32.rank)

variable [Facts]

def fn {F : FTy → Type} [FloatOps F] (main_arg0 : FVec F S768x24576 .f32) (main_arg1 : FVec F S8192x32 .f32) (main_arg2 : IVec S8192x32 32) (main_arg3 : FVec F S768 .f32) : IVec S8192x32 1 :=
  let main_c : IVec S_ 32 := constantI S_ 32 0#32
  let main_v0 : IVec S8192x32 32 := broadcastInDim S8192x32 ![] bcast_S_S8192x32 main_c
  let main_v1 : IVec S8192x32 1 := cmpi .sge main_arg2 main_v0
  let main_c_0 : IVec S_ 32 := constantI S_ 32 24576#32
  let main_v2 : IVec S8192x32 32 := broadcastInDim S8192x32 ![] bcast_S_S8192x32 main_c_0
  let main_v3 : IVec S8192x32 1 := cmpi .slt main_arg2 main_v2
  let main_v4 : IVec S8192x32 1 := andi main_v1 main_v3
  main_v4
-- ==== Pre_idx_of_top_k.lean ====
abbrev S768x24576 : Shape := ⟨2, ![768, 24576]⟩
abbrev S8192x32 : Shape := ⟨2, ![8192, 32]⟩
abbrev S768 : Shape := ⟨1, ![768]⟩
abbrev S8192x32x1 : Shape := ⟨3, ![8192, 32, 1]⟩
abbrev S8192x1x32 : Shape := ⟨3, ![8192, 1, 32]⟩
abbrev S8192x32x32 : Shape := ⟨3, ![8192, 32, 32]⟩
abbrev S32 : Shape := ⟨1, ![32]⟩
abbrev S_ : Shape := ⟨0, ![]⟩
abbrev S32x1 : Shape := ⟨2, ![32, 1]⟩
abbrev S1x32 : Shape := ⟨2, ![1, 32]⟩
abbrev S32x32 : Shape := ⟨2, ![32, 32]⟩
abbrev S1x32x32 : Shape := ⟨3, ![1, 32, 32]⟩

class Facts : Prop where
  bcast_S8192x32_S8192x32x1_0_1 : S8192x32.BroadcastsInDim S8192x32x1 (![0, 1] : Fin 2 → Fin S8192x32x1.rank)
  bcast_S8192x32_S8192x1x32_0_2 : S8192x32.BroadcastsInDim S8192x1x32 (![0, 2] : Fin 2 → Fin S8192x1x32.rank)
  bcast_S8192x32x1_S8192x32x32_0_1_2 : S8192x32x1.BroadcastsInDim S8192x32x32 (![0, 1, 2] : Fin 3 → Fin S8192x32x32.rank)
  bcast_S8192x1x32_S8192x32x32_0_1_2 : S8192x1x32.BroadcastsInDim S8192x32x32 (![0, 1, 2] : Fin 3 → Fin S8192x32x32.rank)
  bcast_S_S8192x32 : S_.BroadcastsInDim S8192x32 (![] : Fin 0 → Fin S8192x32.rank)
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S32x32_S1x32x32_1_2 : S32x32.BroadcastsInDim S1x32x32 (![1, 2] : Fin 2 → Fin S1x32x32.rank)
  bcast_S1x32x32_S8192x32x32_0_1_2 : S1x32x32.BroadcastsInDim S8192x32x32 (![0, 1, 2] : Fin 3 → Fin S8192x32x32.rank)

variable [Facts]

def fn_part1 {F : FTy → Type} [FloatOps F] (main_v20 : IVec S8192x32x32 1) (main_v21 : IVec S8192x32x32 1) : IVec S8192x32x32 1 :=
  let main_v22 : IVec S8192x32x32 1 := andi main_v21 main_v20
  main_v22

def fn {F : FTy → Type} [FloatOps F] (main_arg0 : FVec F S768x24576 .f32) (main_arg1 : FVec F S8192x32 .f32) (main_arg2 : IVec S8192x32 32) (main_arg3 : FVec F S768 .f32) : IVec S8192x32x32 1 :=
  let main_v0 : IVec S8192x32x1 32 := broadcastInDim S8192x32x1 ![0, 1] bcast_S8192x32_S8192x32x1_0_1 main_arg2
  let main_v1 : IVec S8192x1x32 32 := broadcastInDim S8192x1x32 ![0, 2] bcast_S8192x32_S8192x1x32_0_2 main_arg2
  let main_v2 : IVec S8192x32x32 32 := broadcastInDim S8192x32x32 ![0, 1, 2] bcast_S8192x32x1_S8192x32x32_0_1_2 main_v0
  let main_v3 : IVec S8192x32x32 32 := broadcastInDim S8192x32x32 ![0, 1, 2] bcast_S8192x1x32_S8192x32x32_0_1_2 main_v1
  let main_v4 : IVec S8192x32x32 1 := cmpi .eq main_v2 main_v3
  let main_v5 : IVec S32 32 := iotaInDim S32 32 0
  let main_c : IVec S_ 32 := constantI S_ 32 0#32
  let main_v6 : IVec S8192x32 32 := broadcastInDim S8192x32 ![] bcast_S_S8192x32 main_c
  let main_v7 : IVec S8192x32 1 := cmpi .sge main_arg2 main_v6
  let main_c_0 : IVec S_ 32 := constantI S_ 32 24576#32
  let main_v8 : IVec S8192x32 32 := broadcastInDim S8192x32 ![] bcast_S_S8192x32 main_c_0
  let main_v9 : IVec S8192x32 1 := cmpi .slt main_arg2 main_v8
  let main_v10 : IVec S8192x32 1 := andi main_v7 main_v9
  let main_v11 : IVec S8192x32x1 1 := broadcastInDim S8192x32x1 ![0, 1] bcast_S8192x32_S8192x32x1_0_1 main_v10
  let main_v12 : IVec S8192x32x32 1 := noti main_v4
  let main_v13 : IVec S32x1 32 := broadcastInDim S32x1 ![0] bcast_S32_S32x1_0 main_v5
  let main_v14 : IVec S1x32 32 := broadcastInDim S1x32 ![1] bcast_S32_S1x32_1 main_v5
  let main_v15 : IVec S32x32 32 := broadcastInDim S32x32 ![0, 1] bcast_S32x1_S32x32_0_1 main_v13
  let main_v16 : IVec S32x32 32 := broadcastInDim S32x32 ![0, 1] bcast_S1x32_S32x32_0_1 main_v14
  let main_v17 : IVec S32x32 1 := cmpi .eq main_v15 main_v16
  let main_v18 : IVec S1x32x32 1 := broadcastInDim S1x32x32 ![1, 2] bcast_S32x32_S1x32x32_1_2 main_v17
  let main_v19 : IVec S8192x32x32 1 := broadcastInDim S8192x32x32 ![0, 1, 2] bcast_S1x32x32_S8192x32x32_0_1_2 main_v18
  let main_v20 : IVec S8192x32x32 1 := ori main_v12 main_v19
  let main_v21 : IVec S8192x32x32 1 := broadcastInDim S8192x32x32 ![0, 1, 2] bcast_S8192x32x1_S8192x32x32_0_1_2 main_v11
  fn_part1 (F := F) main_v20 main_v21
-- ==== Kernel.lean ====
abbrev S768x24576 : Shape := ⟨2, ![768, 24576]⟩
abbrev S8192x32 : Shape := ⟨2, ![8192, 32]⟩
abbrev S768 : Shape := ⟨1, ![768]⟩
abbrev S24576x768 : Shape := ⟨2, ![24576, 768]⟩
abbrev S73728x2x128 : Shape := ⟨3, ![73728, 2, 128]⟩
abbrev S3 : Shape := ⟨1, ![3]⟩
abbrev S8192x1x32 : Shape := ⟨3, ![8192, 1, 32]⟩
abbrev S_ : Shape := ⟨0, ![]⟩
abbrev S1x3x1 : Shape := ⟨3, ![1, 3, 1]⟩
abbrev S8192x3x32 : Shape := ⟨3, ![8192, 3, 32]⟩
abbrev S8192x96 : Shape := ⟨2, ![8192, 96]⟩
abbrev S262144 : Shape := ⟨1, ![262144]⟩
abbrev S8192x768 : Shape := ⟨2, ![8192, 768]⟩
abbrev S16x96 : Shape := ⟨2, ![16, 96]⟩
abbrev S512 : Shape := ⟨1, ![512]⟩
abbrev S32x16 : Shape := ⟨2, ![32, 16]⟩
abbrev S96x2x128 : Shape := ⟨3, ![96, 2, 128]⟩
abbrev S16x768 : Shape := ⟨2, ![16, 768]⟩
abbrev S1x96 : Shape := ⟨2, ![1, 96]⟩
abbrev S96 : Shape := ⟨1, ![96]⟩
abbrev S16 : Shape := ⟨1, ![16]⟩
abbrev S1 : Shape := ⟨1, ![1]⟩
abbrev S1x16 : Shape := ⟨2, ![1, 16]⟩
abbrev S1x1x16 : Shape := ⟨3, ![1, 1, 16]⟩

abbrev nBuf : Table → Nat
  | .hbm => 18
  | .local .scVector .vmem => 7
  | _ => 0

abbrev bufTy : (tb : Table) → Fin (nBuf tb) → BufTy
  | .hbm, ⟨0, _⟩ => ⟨S768x24576, .f32⟩
  | .hbm, ⟨1, _⟩ => ⟨S8192x32, .f32⟩
  | .hbm, ⟨2, _⟩ => ⟨S8192x32, .i32⟩
  | .hbm, ⟨3, _⟩ => ⟨S768, .f32⟩
  | .hbm, ⟨4, _⟩ => ⟨S24576x768, .f32⟩
  | .hbm, ⟨5, _⟩ => ⟨S73728x2x128, .f32⟩
  | .hbm, ⟨6, _⟩ => ⟨S3, .i32⟩
  | .hbm, ⟨7, _⟩ => ⟨S8192x1x32, .i32⟩
  | .hbm, ⟨8, _⟩ => ⟨S_, .i32⟩
  | .hbm, ⟨9, _⟩ => ⟨S8192x1x32, .i32⟩
  | .hbm, ⟨10, _⟩ => ⟨S8192x1x32, .i32⟩
  | .hbm, ⟨11, _⟩ => ⟨S1x3x1, .i32⟩
  | .hbm, ⟨12, _⟩ => ⟨S8192x3x32, .i32⟩
  | .hbm, ⟨13, _⟩ => ⟨S8192x3x32, .i32⟩
  | .hbm, ⟨14, _⟩ => ⟨S8192x3x32, .i32⟩
  | .hbm, ⟨15, _⟩ => ⟨S8192x96, .i32⟩
  | .hbm, ⟨16, _⟩ => ⟨S262144, .f32⟩
  | .hbm, ⟨17, _⟩ => ⟨S8192x768, .f32⟩
  | .local .scVector .vmem, ⟨0, _⟩ => ⟨S16x96, .i32⟩
  | .local .scVector .vmem, ⟨1, _⟩ => ⟨S512, .f32⟩
  | .local .scVector .vmem, ⟨2, _⟩ => ⟨S32x16, .f32⟩
  | .local .scVector .vmem, ⟨3, _⟩ => ⟨S96x2x128, .f32⟩
  | .local .scVector .vmem, ⟨4, _⟩ => ⟨S96x2x128, .f32⟩
  | .local .scVector .vmem, ⟨5, _⟩ => ⟨S16x768, .f32⟩
  | .local .scVector .vmem, ⟨6, _⟩ => ⟨S768, .f32⟩
  | _, _ => ⟨S768x24576, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v1_scv : Ref sig .scVector := ⟨.hbm, 5, rfl⟩
abbrev main_v11_scv : Ref sig .scVector := ⟨.hbm, 16, rfl⟩
abbrev main_v10_scv : Ref sig .scVector := ⟨.hbm, 15, rfl⟩
abbrev main_arg3_scv : Ref sig .scVector := ⟨.hbm, 3, rfl⟩
abbrev main_v12_scv : Ref sig .scVector := ⟨.hbm, 17, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_0 : BitVec 32 := 0#32
  let c1_i32 : BitVec 32 := 1#32
  let arg16 : BitVec 32 := Scf.iv c0_i32_0 c1_i32 k0_t1
  let c16_i32_2 : BitVec 32 := 16#32
  let v5 : BitVec 32 := Scalar.muli arg16 c16_i32_2
  let v6 : BitVec 32 := Scalar.addi v2 v5
  let c0_i32_13_r1 : BitVec 32 := 0#32
  ![v6.toNat, 0]
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_0 : BitVec 32 := 0#32
  let c1_i32 : BitVec 32 := 1#32
  let arg16 : BitVec 32 := Scf.iv c0_i32_0 c1_i32 k0_t1
  let c16_i32_2 : BitVec 32 := 16#32
  let v5 : BitVec 32 := Scalar.muli arg16 c16_i32_2
  let v6 : BitVec 32 := Scalar.addi v2 v5
  let c32_i32 : BitVec 32 := 32#32
  let v7 : BitVec 32 := Scalar.muli v6 c32_i32
  ![v7.toNat]
@[reducible] def k0_t2_loop : Scf.Loop 32 :=
  let c0_i32_9 : BitVec 32 := 0#32
  let c8_i32 : BitVec 32 := 8#32
  let v11 : BitVec 32 := Scalar.addi c0_i32_9 c8_i32
  let c1_i32_10 : BitVec 32 := 1#32
  ⟨c0_i32_9, v11, c1_i32_10⟩
def k0_off3 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_14 : BitVec 32 := 1#32
  let v14 : BitVec 32 := Scalar.addi v13 c1_i32_14
  let c0_i32_15 : BitVec 32 := 0#32
  ![v14.toNat, 0]
def k0_off4 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c0_i32_19 : BitVec 32 := 0#32
  ![v13.toNat, 0]
def k0_off5 (k0_t2 : Fin k0_t2_loop.trips) : Fin 1 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c32_i32_23 : BitVec 32 := 32#32
  let v21 : BitVec 32 := Scalar.muli v13 c32_i32_23
  let v22 : Index := Scalar.indexCast v21
  ![v22.toNat]
def k0_off6 (k0_t2 : Fin k0_t2_loop.trips) : Fin 1 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c32_i32_24 : BitVec 32 := 32#32
  let v25 : BitVec 32 := Scalar.muli v13 c32_i32_24
  let c16_i32_25 : BitVec 32 := 16#32
  let v26 : BitVec 32 := Scalar.addi v25 c16_i32_25
  let v27 : Index := Scalar.indexCast v26
  ![v27.toNat]
@[reducible] def k0_t3_loop : Scf.Loop 32 :=
  let c0_i32_63 : BitVec 32 := 0#32
  let c16_i32_64 : BitVec 32 := 16#32
  let v302 : BitVec 32 := Scalar.addi c0_i32_63 c16_i32_64
  let c1_i32_65 : BitVec 32 := 1#32
  ⟨c0_i32_63, v302, c1_i32_65⟩
def k0_off7 (k0_t3 : Fin k0_t3_loop.trips) : Fin 2 → Nat :=
  let c0_i32_63 : BitVec 32 := 0#32
  let c1_i32_65 : BitVec 32 := 1#32
  let arg20 : BitVec 32 := Scf.iv c0_i32_63 c1_i32_65 k0_t3
  let v1079 : Index := Scalar.indexCast arg20
  let c0_299 : Index := 0#32
  ![v1079.toNat, 0]
def k0_off8 (k0_t3 : Fin k0_t3_loop.trips) : Fin 2 → Nat :=
  let c0_i32_63 : BitVec 32 := 0#32
  let c1_i32_65 : BitVec 32 := 1#32
  let arg20 : BitVec 32 := Scf.iv c0_i32_63 c1_i32_65 k0_t3
  let c16_i32_300 : BitVec 32 := 16#32
  let v1082 : BitVec 32 := Scalar.addi arg20 c16_i32_300
  let v1083 : Index := Scalar.indexCast v1082
  let c0_301 : Index := 0#32
  ![v1083.toNat, 0]
def k0_off9 (k0_t3 : Fin k0_t3_loop.trips) (c0_i32_302 : BitVec 32) : Fin 3 → Nat :=
  let c0_i32_63 : BitVec 32 := 0#32
  let c1_i32_65 : BitVec 32 := 1#32
  let arg20 : BitVec 32 := Scf.iv c0_i32_63 c1_i32_65 k0_t3
  let v1086 : BitVec 32 := Scalar.addi arg20 c0_i32_302
  let v1087 : Index := Scalar.indexCast v1086
  let c0_i32_303 : BitVec 32 := 0#32
  let v1088 : Index := Scalar.indexCast c0_i32_303
  let c0_304 : Index := 0#32
  ![v1087.toNat, 0, 0]
def k0_off10 (k0_t3 : Fin k0_t3_loop.trips) (c0_i32_308 : BitVec 32) : Fin 3 → Nat :=
  let c0_i32_63 : BitVec 32 := 0#32
  let c1_i32_65 : BitVec 32 := 1#32
  let arg20 : BitVec 32 := Scf.iv c0_i32_63 c1_i32_65 k0_t3
  let v1100 : BitVec 32 := Scalar.addi arg20 c0_i32_308
  let v1101 : Index := Scalar.indexCast v1100
  let c0_i32_309 : BitVec 32 := 0#32
  let v1102 : Index := Scalar.indexCast c0_i32_309
  let c16_310 : Index := 16#32
  ![v1101.toNat, 0, 16]
def k0_off11 (k0_t3 : Fin k0_t3_loop.trips) (c0_i32_314 : BitVec 32) : Fin 3 → Nat :=
  let c0_i32_63 : BitVec 32 := 0#32
  let c1_i32_65 : BitVec 32 := 1#32
  let arg20 : BitVec 32 := Scf.iv c0_i32_63 c1_i32_65 k0_t3
  let v1114 : BitVec 32 := Scalar.addi arg20 c0_i32_314
  let v1115 : Index := Scalar.indexCast v1114
  let c0_i32_315 : BitVec 32 := 0#32
  let v1116 : Index := Scalar.indexCast c0_i32_315
  let c32_316 : Index := 32#32
  ![v1115.toNat, 0, 32]
def k0_off12 (k0_t3 : Fin k0_t3_loop.trips) (c0_i32_320 : BitVec 32) : Fin 3 → Nat :=
  let c0_i32_63 : BitVec 32 := 0#32
  let c1_i32_65 : BitVec 32 := 1#32
  let arg20 : BitVec 32 := Scf.iv c0_i32_63 c1_i32_65 k0_t3
  let v1128 : BitVec 32 := Scalar.addi arg20 c0_i32_320
  let v1129 : Index := Scalar.indexCast v1128
  let c0_i32_321 : BitVec 32 := 0#32
  let v1130 : Index := Scalar.indexCast c0_i32_321
  let c48_322 : Index := 48#32
  ![v1129.toNat, 0, 48]
def k0_off13 (k0_t3 : Fin k0_t3_loop.trips) (c0_i32_326 : BitVec 32) : Fin 3 → Nat :=
  let c0_i32_63 : BitVec 32 := 0#32
  let c1_i32_65 : BitVec 32 := 1#32
  let arg20 : BitVec 32 := Scf.iv c0_i32_63 c1_i32_65 k0_t3
  let v1142 : BitVec 32 := Scalar.addi arg20 c0_i32_326
  let v1143 : Index := Scalar.indexCast v1142
  let c0_i32_327 : BitVec 32 := 0#32
  let v1144 : Index := Scalar.indexCast c0_i32_327
  let c64_328 : Index := 64#32
  ![v1143.toNat, 0, 64]
def k0_off14 (k0_t3 : Fin k0_t3_loop.trips) (c0_i32_332 : BitVec 32) : Fin 3 → Nat :=
  let c0_i32_63 : BitVec 32 := 0#32
  let c1_i32_65 : BitVec 32 := 1#32
  let arg20 : BitVec 32 := Scf.iv c0_i32_63 c1_i32_65 k0_t3
  let v1156 : BitVec 32 := Scalar.addi arg20 c0_i32_332
  let v1157 : Index := Scalar.indexCast v1156
  let c0_i32_333 : BitVec 32 := 0#32
  let v1158 : Index := Scalar.indexCast c0_i32_333
  let c80_334 : Index := 80#32
  ![v1157.toNat, 0, 80]
def k0_off15 (k0_t3 : Fin k0_t3_loop.trips) (c0_i32_338 : BitVec 32) : Fin 3 → Nat :=
  let c0_i32_63 : BitVec 32 := 0#32
  let c1_i32_65 : BitVec 32 := 1#32
  let arg20 : BitVec 32 := Scf.iv c0_i32_63 c1_i32_65 k0_t3
  let v1170 : BitVec 32 := Scalar.addi arg20 c0_i32_338
  let v1171 : Index := Scalar.indexCast v1170
  let c0_i32_339 : BitVec 32 := 0#32
  let v1172 : Index := Scalar.indexCast c0_i32_339
  let c96_340 : Index := 96#32
  ![v1171.toNat, 0, 96]
def k0_off16 (k0_t3 : Fin k0_t3_loop.trips) (c0_i32_344 : BitVec 32) : Fin 3 → Nat :=
  let c0_i32_63 : BitVec 32 := 0#32
  let c1_i32_65 : BitVec 32 := 1#32
  let arg20 : BitVec 32 := Scf.iv c0_i32_63 c1_i32_65 k0_t3
  let v1184 : BitVec 32 := Scalar.addi arg20 c0_i32_344
  let v1185 : Index := Scalar.indexCast v1184
  let c0_i32_345 : BitVec 32 := 0#32
  let v1186 : Index := Scalar.indexCast c0_i32_345
  let c112_346 : Index := 112#32
  ![v1185.toNat, 0, 112]
def k0_off17 (k0_t3 : Fin k0_t3_loop.trips) (c0_i32_350 : BitVec 32) : Fin 3 → Nat :=
  let c0_i32_63 : BitVec 32 := 0#32
  let c1_i32_65 : BitVec 32 := 1#32
  let arg20 : BitVec 32 := Scf.iv c0_i32_63 c1_i32_65 k0_t3
  let v1198 : BitVec 32 := Scalar.addi arg20 c0_i32_350
  let v1199 : Index := Scalar.indexCast v1198
  let c1_i32_351 : BitVec 32 := 1#32
  let v1200 : Index := Scalar.indexCast c1_i32_351
  let c0_352 : Index := 0#32
  ![v1199.toNat, 1, 0]
def k0_off18 (k0_t3 : Fin k0_t3_loop.trips) (c0_i32_356 : BitVec 32) : Fin 3 → Nat :=
  let c0_i32_63 : BitVec 32 := 0#32
  let c1_i32_65 : BitVec 32 := 1#32
  let arg20 : BitVec 32 := Scf.iv c0_i32_63 c1_i32_65 k0_t3
  let v1212 : BitVec 32 := Scalar.addi arg20 c0_i32_356
  let v1213 : Index := Scalar.indexCast v1212
  let c1_i32_357 : BitVec 32 := 1#32
  let v1214 : Index := Scalar.indexCast c1_i32_357
  let c16_358 : Index := 16#32
  ![v1213.toNat, 1, 16]
def k0_off19 (k0_t3 : Fin k0_t3_loop.trips) (c0_i32_362 : BitVec 32) : Fin 3 → Nat :=
  let c0_i32_63 : BitVec 32 := 0#32
  let c1_i32_65 : BitVec 32 := 1#32
  let arg20 : BitVec 32 := Scf.iv c0_i32_63 c1_i32_65 k0_t3
  let v1226 : BitVec 32 := Scalar.addi arg20 c0_i32_362
  let v1227 : Index := Scalar.indexCast v1226
  let c1_i32_363 : BitVec 32 := 1#32
  let v1228 : Index := Scalar.indexCast c1_i32_363
  let c32_364 : Index := 32#32
  ![v1227.toNat, 1, 32]
def k0_off20 (k0_t3 : Fin k0_t3_loop.trips) (c0_i32_368 : BitVec 32) : Fin 3 → Nat :=
  let c0_i32_63 : BitVec 32 := 0#32
  let c1_i32_65 : BitVec 32 := 1#32
  let arg20 : BitVec 32 := Scf.iv c0_i32_63 c1_i32_65 k0_t3
  let v1240 : BitVec 32 := Scalar.addi arg20 c0_i32_368
  let v1241 : Index := Scalar.indexCast v1240
  let c1_i32_369 : BitVec 32 := 1#32
  let v1242 : Index := Scalar.indexCast c1_i32_369
  let c48_370 : Index := 48#32
  ![v1241.toNat, 1, 48]
def k0_off21 (k0_t3 : Fin k0_t3_loop.trips) (c0_i32_374 : BitVec 32) : Fin 3 → Nat :=
  let c0_i32_63 : BitVec 32 := 0#32
  let c1_i32_65 : BitVec 32 := 1#32
  let arg20 : BitVec 32 := Scf.iv c0_i32_63 c1_i32_65 k0_t3
  let v1254 : BitVec 32 := Scalar.addi arg20 c0_i32_374
  let v1255 : Index := Scalar.indexCast v1254
  let c1_i32_375 : BitVec 32 := 1#32
  let v1256 : Index := Scalar.indexCast c1_i32_375
  let c64_376 : Index := 64#32
  ![v1255.toNat, 1, 64]
def k0_off22 (k0_t3 : Fin k0_t3_loop.trips) (c0_i32_380 : BitVec 32) : Fin 3 → Nat :=
  let c0_i32_63 : BitVec 32 := 0#32
  let c1_i32_65 : BitVec 32 := 1#32
  let arg20 : BitVec 32 := Scf.iv c0_i32_63 c1_i32_65 k0_t3
  let v1268 : BitVec 32 := Scalar.addi arg20 c0_i32_380
  let v1269 : Index := Scalar.indexCast v1268
  let c1_i32_381 : BitVec 32 := 1#32
  let v1270 : Index := Scalar.indexCast c1_i32_381
  let c80_382 : Index := 80#32
  ![v1269.toNat, 1, 80]
def k0_off23 (k0_t3 : Fin k0_t3_loop.trips) (c0_i32_386 : BitVec 32) : Fin 3 → Nat :=
  let c0_i32_63 : BitVec 32 := 0#32
  let c1_i32_65 : BitVec 32 := 1#32
  let arg20 : BitVec 32 := Scf.iv c0_i32_63 c1_i32_65 k0_t3
  let v1282 : BitVec 32 := Scalar.addi arg20 c0_i32_386
  let v1283 : Index := Scalar.indexCast v1282
  let c1_i32_387 : BitVec 32 := 1#32
  let v1284 : Index := Scalar.indexCast c1_i32_387
  let c96_388 : Index := 96#32
  ![v1283.toNat, 1, 96]
def k0_off24 (k0_t3 : Fin k0_t3_loop.trips) (c0_i32_392 : BitVec 32) : Fin 3 → Nat :=
  let c0_i32_63 : BitVec 32 := 0#32
  let c1_i32_65 : BitVec 32 := 1#32
  let arg20 : BitVec 32 := Scf.iv c0_i32_63 c1_i32_65 k0_t3
  let v1296 : BitVec 32 := Scalar.addi arg20 c0_i32_392
  let v1297 : Index := Scalar.indexCast v1296
  let c1_i32_393 : BitVec 32 := 1#32
  let v1298 : Index := Scalar.indexCast c1_i32_393
  let c112_394 : Index := 112#32
  ![v1297.toNat, 1, 112]
def k0_off25 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v304 : Index := Scalar.indexCast v13
  let c0_67 : Index := 0#32
  ![v304.toNat, 0]
def k0_off26 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v308 : Index := Scalar.indexCast v13
  let c16_68 : Index := 16#32
  ![v308.toNat, 16]
def k0_off27 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v312 : Index := Scalar.indexCast v13
  let c32_69 : Index := 32#32
  ![v312.toNat, 32]
def k0_off28 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v316 : Index := Scalar.indexCast v13
  let c48_70 : Index := 48#32
  ![v316.toNat, 48]
def k0_off29 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v320 : Index := Scalar.indexCast v13
  let c64_71 : Index := 64#32
  ![v320.toNat, 64]
def k0_off30 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v324 : Index := Scalar.indexCast v13
  let c80_72 : Index := 80#32
  ![v324.toNat, 80]
def k0_off31 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v328 : Index := Scalar.indexCast v13
  let c96_73 : Index := 96#32
  ![v328.toNat, 96]
def k0_off32 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v332 : Index := Scalar.indexCast v13
  let c112_74 : Index := 112#32
  ![v332.toNat, 112]
def k0_off33 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v336 : Index := Scalar.indexCast v13
  let c128_75 : Index := 128#32
  ![v336.toNat, 128]
def k0_off34 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v340 : Index := Scalar.indexCast v13
  let c144_76 : Index := 144#32
  ![v340.toNat, 144]
def k0_off35 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v344 : Index := Scalar.indexCast v13
  let c160_77 : Index := 160#32
  ![v344.toNat, 160]
def k0_off36 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v348 : Index := Scalar.indexCast v13
  let c176_78 : Index := 176#32
  ![v348.toNat, 176]
def k0_off37 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v352 : Index := Scalar.indexCast v13
  let c192_79 : Index := 192#32
  ![v352.toNat, 192]
def k0_off38 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v356 : Index := Scalar.indexCast v13
  let c208_80 : Index := 208#32
  ![v356.toNat, 208]
def k0_off39 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v360 : Index := Scalar.indexCast v13
  let c224_81 : Index := 224#32
  ![v360.toNat, 224]
def k0_off40 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v364 : Index := Scalar.indexCast v13
  let c240_82 : Index := 240#32
  ![v364.toNat, 240]
def k0_off41 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v368 : Index := Scalar.indexCast v13
  let c256_83 : Index := 256#32
  ![v368.toNat, 256]
def k0_off42 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v372 : Index := Scalar.indexCast v13
  let c272_84 : Index := 272#32
  ![v372.toNat, 272]
def k0_off43 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v376 : Index := Scalar.indexCast v13
  let c288_85 : Index := 288#32
  ![v376.toNat, 288]
def k0_off44 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v380 : Index := Scalar.indexCast v13
  let c304_86 : Index := 304#32
  ![v380.toNat, 304]
def k0_off45 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v384 : Index := Scalar.indexCast v13
  let c320_87 : Index := 320#32
  ![v384.toNat, 320]
def k0_off46 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v388 : Index := Scalar.indexCast v13
  let c336_88 : Index := 336#32
  ![v388.toNat, 336]
def k0_off47 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v392 : Index := Scalar.indexCast v13
  let c352_89 : Index := 352#32
  ![v392.toNat, 352]
def k0_off48 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v396 : Index := Scalar.indexCast v13
  let c368_90 : Index := 368#32
  ![v396.toNat, 368]
@[reducible] def k0_t4_loop : Scf.Loop 32 :=
  let c0_i32_91 : BitVec 32 := 0#32
  let c16_i32_92 : BitVec 32 := 16#32
  let v448 : BitVec 32 := Scalar.addi c0_i32_91 c16_i32_92
  let c1_i32_93 : BitVec 32 := 1#32
  ⟨c0_i32_91, v448, c1_i32_93⟩
def k0_off49 (k0_t4 : Fin k0_t4_loop.trips) : Fin 2 → Nat :=
  let c0_i32_91 : BitVec 32 := 0#32
  let c1_i32_93 : BitVec 32 := 1#32
  let arg20 : BitVec 32 := Scf.iv c0_i32_91 c1_i32_93 k0_t4
  let v1079 : Index := Scalar.indexCast arg20
  let c0_299 : Index := 0#32
  ![v1079.toNat, 0]
def k0_off50 (k0_t4 : Fin k0_t4_loop.trips) : Fin 2 → Nat :=
  let c0_i32_91 : BitVec 32 := 0#32
  let c1_i32_93 : BitVec 32 := 1#32
  let arg20 : BitVec 32 := Scf.iv c0_i32_91 c1_i32_93 k0_t4
  let c16_i32_300 : BitVec 32 := 16#32
  let v1082 : BitVec 32 := Scalar.addi arg20 c16_i32_300
  let v1083 : Index := Scalar.indexCast v1082
  let c0_301 : Index := 0#32
  ![v1083.toNat, 0]
def k0_off51 (k0_t4 : Fin k0_t4_loop.trips) (c32_i32_302 : BitVec 32) : Fin 3 → Nat :=
  let c0_i32_91 : BitVec 32 := 0#32
  let c1_i32_93 : BitVec 32 := 1#32
  let arg20 : BitVec 32 := Scf.iv c0_i32_91 c1_i32_93 k0_t4
  let v1086 : BitVec 32 := Scalar.addi arg20 c32_i32_302
  let v1087 : Index := Scalar.indexCast v1086
  let c1_i32_303 : BitVec 32 := 1#32
  let v1088 : Index := Scalar.indexCast c1_i32_303
  let c0_304 : Index := 0#32
  ![v1087.toNat, 1, 0]
def k0_off52 (k0_t4 : Fin k0_t4_loop.trips) (c32_i32_307 : BitVec 32) : Fin 3 → Nat :=
  let c0_i32_91 : BitVec 32 := 0#32
  let c1_i32_93 : BitVec 32 := 1#32
  let arg20 : BitVec 32 := Scf.iv c0_i32_91 c1_i32_93 k0_t4
  let v1100 : BitVec 32 := Scalar.addi arg20 c32_i32_307
  let v1101 : Index := Scalar.indexCast v1100
  let c1_i32_308 : BitVec 32 := 1#32
  let v1102 : Index := Scalar.indexCast c1_i32_308
  let c16_309 : Index := 16#32
  ![v1101.toNat, 1, 16]
def k0_off53 (k0_t4 : Fin k0_t4_loop.trips) (c32_i32_313 : BitVec 32) : Fin 3 → Nat :=
  let c0_i32_91 : BitVec 32 := 0#32
  let c1_i32_93 : BitVec 32 := 1#32
  let arg20 : BitVec 32 := Scf.iv c0_i32_91 c1_i32_93 k0_t4
  let v1114 : BitVec 32 := Scalar.addi arg20 c32_i32_313
  let v1115 : Index := Scalar.indexCast v1114
  let c1_i32_314 : BitVec 32 := 1#32
  let v1116 : Index := Scalar.indexCast c1_i32_314
  let c32_315 : Index := 32#32
  ![v1115.toNat, 1, 32]
def k0_off54 (k0_t4 : Fin k0_t4_loop.trips) (c32_i32_319 : BitVec 32) : Fin 3 → Nat :=
  let c0_i32_91 : BitVec 32 := 0#32
  let c1_i32_93 : BitVec 32 := 1#32
  let arg20 : BitVec 32 := Scf.iv c0_i32_91 c1_i32_93 k0_t4
  let v1128 : BitVec 32 := Scalar.addi arg20 c32_i32_319
  let v1129 : Index := Scalar.indexCast v1128
  let c1_i32_320 : BitVec 32 := 1#32
  let v1130 : Index := Scalar.indexCast c1_i32_320
  let c48_321 : Index := 48#32
  ![v1129.toNat, 1, 48]
def k0_off55 (k0_t4 : Fin k0_t4_loop.trips) (c32_i32_325 : BitVec 32) : Fin 3 → Nat :=
  let c0_i32_91 : BitVec 32 := 0#32
  let c1_i32_93 : BitVec 32 := 1#32
  let arg20 : BitVec 32 := Scf.iv c0_i32_91 c1_i32_93 k0_t4
  let v1142 : BitVec 32 := Scalar.addi arg20 c32_i32_325
  let v1143 : Index := Scalar.indexCast v1142
  let c1_i32_326 : BitVec 32 := 1#32
  let v1144 : Index := Scalar.indexCast c1_i32_326
  let c64_327 : Index := 64#32
  ![v1143.toNat, 1, 64]
def k0_off56 (k0_t4 : Fin k0_t4_loop.trips) (c32_i32_331 : BitVec 32) : Fin 3 → Nat :=
  let c0_i32_91 : BitVec 32 := 0#32
  let c1_i32_93 : BitVec 32 := 1#32
  let arg20 : BitVec 32 := Scf.iv c0_i32_91 c1_i32_93 k0_t4
  let v1156 : BitVec 32 := Scalar.addi arg20 c32_i32_331
  let v1157 : Index := Scalar.indexCast v1156
  let c1_i32_332 : BitVec 32 := 1#32
  let v1158 : Index := Scalar.indexCast c1_i32_332
  let c80_333 : Index := 80#32
  ![v1157.toNat, 1, 80]
def k0_off57 (k0_t4 : Fin k0_t4_loop.trips) (c32_i32_337 : BitVec 32) : Fin 3 → Nat :=
  let c0_i32_91 : BitVec 32 := 0#32
  let c1_i32_93 : BitVec 32 := 1#32
  let arg20 : BitVec 32 := Scf.iv c0_i32_91 c1_i32_93 k0_t4
  let v1170 : BitVec 32 := Scalar.addi arg20 c32_i32_337
  let v1171 : Index := Scalar.indexCast v1170
  let c1_i32_338 : BitVec 32 := 1#32
  let v1172 : Index := Scalar.indexCast c1_i32_338
  let c96_339 : Index := 96#32
  ![v1171.toNat, 1, 96]
def k0_off58 (k0_t4 : Fin k0_t4_loop.trips) (c32_i32_343 : BitVec 32) : Fin 3 → Nat :=
  let c0_i32_91 : BitVec 32 := 0#32
  let c1_i32_93 : BitVec 32 := 1#32
  let arg20 : BitVec 32 := Scf.iv c0_i32_91 c1_i32_93 k0_t4
  let v1184 : BitVec 32 := Scalar.addi arg20 c32_i32_343
  let v1185 : Index := Scalar.indexCast v1184
  let c1_i32_344 : BitVec 32 := 1#32
  let v1186 : Index := Scalar.indexCast c1_i32_344
  let c112_345 : Index := 112#32
  ![v1185.toNat, 1, 112]
def k0_off59 (k0_t4 : Fin k0_t4_loop.trips) (c64_i32 : BitVec 32) : Fin 3 → Nat :=
  let c0_i32_91 : BitVec 32 := 0#32
  let c1_i32_93 : BitVec 32 := 1#32
  let arg20 : BitVec 32 := Scf.iv c0_i32_91 c1_i32_93 k0_t4
  let v1198 : BitVec 32 := Scalar.addi arg20 c64_i32
  let v1199 : Index := Scalar.indexCast v1198
  let c0_i32_349 : BitVec 32 := 0#32
  let v1200 : Index := Scalar.indexCast c0_i32_349
  let c0_350 : Index := 0#32
  ![v1199.toNat, 0, 0]
def k0_off60 (k0_t4 : Fin k0_t4_loop.trips) (c64_i32_353 : BitVec 32) : Fin 3 → Nat :=
  let c0_i32_91 : BitVec 32 := 0#32
  let c1_i32_93 : BitVec 32 := 1#32
  let arg20 : BitVec 32 := Scf.iv c0_i32_91 c1_i32_93 k0_t4
  let v1212 : BitVec 32 := Scalar.addi arg20 c64_i32_353
  let v1213 : Index := Scalar.indexCast v1212
  let c0_i32_354 : BitVec 32 := 0#32
  let v1214 : Index := Scalar.indexCast c0_i32_354
  let c16_355 : Index := 16#32
  ![v1213.toNat, 0, 16]
def k0_off61 (k0_t4 : Fin k0_t4_loop.trips) (c64_i32_359 : BitVec 32) : Fin 3 → Nat :=
  let c0_i32_91 : BitVec 32 := 0#32
  let c1_i32_93 : BitVec 32 := 1#32
  let arg20 : BitVec 32 := Scf.iv c0_i32_91 c1_i32_93 k0_t4
  let v1226 : BitVec 32 := Scalar.addi arg20 c64_i32_359
  let v1227 : Index := Scalar.indexCast v1226
  let c0_i32_360 : BitVec 32 := 0#32
  let v1228 : Index := Scalar.indexCast c0_i32_360
  let c32_361 : Index := 32#32
  ![v1227.toNat, 0, 32]
def k0_off62 (k0_t4 : Fin k0_t4_loop.trips) (c64_i32_365 : BitVec 32) : Fin 3 → Nat :=
  let c0_i32_91 : BitVec 32 := 0#32
  let c1_i32_93 : BitVec 32 := 1#32
  let arg20 : BitVec 32 := Scf.iv c0_i32_91 c1_i32_93 k0_t4
  let v1240 : BitVec 32 := Scalar.addi arg20 c64_i32_365
  let v1241 : Index := Scalar.indexCast v1240
  let c0_i32_366 : BitVec 32 := 0#32
  let v1242 : Index := Scalar.indexCast c0_i32_366
  let c48_367 : Index := 48#32
  ![v1241.toNat, 0, 48]
def k0_off63 (k0_t4 : Fin k0_t4_loop.trips) (c64_i32_371 : BitVec 32) : Fin 3 → Nat :=
  let c0_i32_91 : BitVec 32 := 0#32
  let c1_i32_93 : BitVec 32 := 1#32
  let arg20 : BitVec 32 := Scf.iv c0_i32_91 c1_i32_93 k0_t4
  let v1254 : BitVec 32 := Scalar.addi arg20 c64_i32_371
  let v1255 : Index := Scalar.indexCast v1254
  let c0_i32_372 : BitVec 32 := 0#32
  let v1256 : Index := Scalar.indexCast c0_i32_372
  let c64_373 : Index := 64#32
  ![v1255.toNat, 0, 64]
def k0_off64 (k0_t4 : Fin k0_t4_loop.trips) (c64_i32_377 : BitVec 32) : Fin 3 → Nat :=
  let c0_i32_91 : BitVec 32 := 0#32
  let c1_i32_93 : BitVec 32 := 1#32
  let arg20 : BitVec 32 := Scf.iv c0_i32_91 c1_i32_93 k0_t4
  let v1268 : BitVec 32 := Scalar.addi arg20 c64_i32_377
  let v1269 : Index := Scalar.indexCast v1268
  let c0_i32_378 : BitVec 32 := 0#32
  let v1270 : Index := Scalar.indexCast c0_i32_378
  let c80_379 : Index := 80#32
  ![v1269.toNat, 0, 80]
def k0_off65 (k0_t4 : Fin k0_t4_loop.trips) (c64_i32_383 : BitVec 32) : Fin 3 → Nat :=
  let c0_i32_91 : BitVec 32 := 0#32
  let c1_i32_93 : BitVec 32 := 1#32
  let arg20 : BitVec 32 := Scf.iv c0_i32_91 c1_i32_93 k0_t4
  let v1282 : BitVec 32 := Scalar.addi arg20 c64_i32_383
  let v1283 : Index := Scalar.indexCast v1282
  let c0_i32_384 : BitVec 32 := 0#32
  let v1284 : Index := Scalar.indexCast c0_i32_384
  let c96_385 : Index := 96#32
  ![v1283.toNat, 0, 96]
def k0_off66 (k0_t4 : Fin k0_t4_loop.trips) (c64_i32_389 : BitVec 32) : Fin 3 → Nat :=
  let c0_i32_91 : BitVec 32 := 0#32
  let c1_i32_93 : BitVec 32 := 1#32
  let arg20 : BitVec 32 := Scf.iv c0_i32_91 c1_i32_93 k0_t4
  let v1296 : BitVec 32 := Scalar.addi arg20 c64_i32_389
  let v1297 : Index := Scalar.indexCast v1296
  let c0_i32_390 : BitVec 32 := 0#32
  let v1298 : Index := Scalar.indexCast c0_i32_390
  let c112_391 : Index := 112#32
  ![v1297.toNat, 0, 112]
def k0_off67 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v450 : Index := Scalar.indexCast v13
  let c384_95 : Index := 384#32
  ![v450.toNat, 384]
def k0_off68 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v454 : Index := Scalar.indexCast v13
  let c400_96 : Index := 400#32
  ![v454.toNat, 400]
def k0_off69 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v458 : Index := Scalar.indexCast v13
  let c416_97 : Index := 416#32
  ![v458.toNat, 416]
def k0_off70 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v462 : Index := Scalar.indexCast v13
  let c432_98 : Index := 432#32
  ![v462.toNat, 432]
def k0_off71 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v466 : Index := Scalar.indexCast v13
  let c448_99 : Index := 448#32
  ![v466.toNat, 448]
def k0_off72 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v470 : Index := Scalar.indexCast v13
  let c464_100 : Index := 464#32
  ![v470.toNat, 464]
def k0_off73 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v474 : Index := Scalar.indexCast v13
  let c480_101 : Index := 480#32
  ![v474.toNat, 480]
def k0_off74 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v478 : Index := Scalar.indexCast v13
  let c496_102 : Index := 496#32
  ![v478.toNat, 496]
def k0_off75 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v482 : Index := Scalar.indexCast v13
  let c512_103 : Index := 512#32
  ![v482.toNat, 512]
def k0_off76 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v486 : Index := Scalar.indexCast v13
  let c528_104 : Index := 528#32
  ![v486.toNat, 528]
def k0_off77 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v490 : Index := Scalar.indexCast v13
  let c544_105 : Index := 544#32
  ![v490.toNat, 544]
def k0_off78 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v494 : Index := Scalar.indexCast v13
  let c560_106 : Index := 560#32
  ![v494.toNat, 560]
def k0_off79 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v498 : Index := Scalar.indexCast v13
  let c576_107 : Index := 576#32
  ![v498.toNat, 576]
def k0_off80 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v502 : Index := Scalar.indexCast v13
  let c592_108 : Index := 592#32
  ![v502.toNat, 592]
def k0_off81 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v506 : Index := Scalar.indexCast v13
  let c608_109 : Index := 608#32
  ![v506.toNat, 608]
def k0_off82 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v510 : Index := Scalar.indexCast v13
  let c624_110 : Index := 624#32
  ![v510.toNat, 624]
def k0_off83 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v514 : Index := Scalar.indexCast v13
  let c640_111 : Index := 640#32
  ![v514.toNat, 640]
def k0_off84 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v518 : Index := Scalar.indexCast v13
  let c656_112 : Index := 656#32
  ![v518.toNat, 656]
def k0_off85 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v522 : Index := Scalar.indexCast v13
  let c672_113 : Index := 672#32
  ![v522.toNat, 672]
def k0_off86 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v526 : Index := Scalar.indexCast v13
  let c688_114 : Index := 688#32
  ![v526.toNat, 688]
def k0_off87 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v530 : Index := Scalar.indexCast v13
  let c704_115 : Index := 704#32
  ![v530.toNat, 704]
def k0_off88 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v534 : Index := Scalar.indexCast v13
  let c720_116 : Index := 720#32
  ![v534.toNat, 720]
def k0_off89 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v538 : Index := Scalar.indexCast v13
  let c736_117 : Index := 736#32
  ![v538.toNat, 736]
def k0_off90 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let v542 : Index := Scalar.indexCast v13
  let c752_118 : Index := 752#32
  ![v542.toNat, 752]
def k0_cond1 (k0_t2 : Fin k0_t2_loop.trips) : BitVec 1 :=
  let c0_i32_9 : BitVec 32 := 0#32
  let c1_i32_10 : BitVec 32 := 1#32
  let arg18 : BitVec 32 := Scf.iv c0_i32_9 c1_i32_10 k0_t2
  let c7_i32_119 : BitVec 32 := 7#32
  let v546 : BitVec 1 := Scalar.cmpi .slt arg18 c7_i32_119
  let v547 : BitVec 32 := Scalar.extui v546
  let c0_i32_120 : BitVec 32 := 0#32
  let v548 : BitVec 1 := Scalar.cmpi .ne v547 c0_i32_120
  v548

def k0_off91 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c2_i32_299 : BitVec 32 := 2#32
  let v1079 : BitVec 32 := Scalar.addi v13 c2_i32_299
  let c0_i32_300 : BitVec 32 := 0#32
  ![v1079.toNat, 0]
def k0_off92 (k0_t2 : Fin k0_t2_loop.trips) : Fin 1 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let c32_i32_127 : BitVec 32 := 32#32
  let v554 : BitVec 32 := Scalar.muli v553 c32_i32_127
  let v555 : Index := Scalar.indexCast v554
  ![v555.toNat]
def k0_off93 (k0_t2 : Fin k0_t2_loop.trips) : Fin 1 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let c32_i32_128 : BitVec 32 := 32#32
  let v558 : BitVec 32 := Scalar.muli v553 c32_i32_128
  let c16_i32_129 : BitVec 32 := 16#32
  let v559 : BitVec 32 := Scalar.addi v558 c16_i32_129
  let v560 : Index := Scalar.indexCast v559
  ![v560.toNat]
@[reducible] def k0_t5_loop : Scf.Loop 32 :=
  let c0_i32_218 : BitVec 32 := 0#32
  let c16_i32_219 : BitVec 32 := 16#32
  let v835 : BitVec 32 := Scalar.addi c0_i32_218 c16_i32_219
  let c1_i32_220 : BitVec 32 := 1#32
  ⟨c0_i32_218, v835, c1_i32_220⟩
def k0_off94 (k0_t5 : Fin k0_t5_loop.trips) : Fin 2 → Nat :=
  let c0_i32_218 : BitVec 32 := 0#32
  let c1_i32_220 : BitVec 32 := 1#32
  let arg20 : BitVec 32 := Scf.iv c0_i32_218 c1_i32_220 k0_t5
  let v1079 : Index := Scalar.indexCast arg20
  let c0_299 : Index := 0#32
  ![v1079.toNat, 0]
def k0_off95 (k0_t5 : Fin k0_t5_loop.trips) : Fin 2 → Nat :=
  let c0_i32_218 : BitVec 32 := 0#32
  let c1_i32_220 : BitVec 32 := 1#32
  let arg20 : BitVec 32 := Scf.iv c0_i32_218 c1_i32_220 k0_t5
  let c16_i32_300 : BitVec 32 := 16#32
  let v1082 : BitVec 32 := Scalar.addi arg20 c16_i32_300
  let v1083 : Index := Scalar.indexCast v1082
  let c0_301 : Index := 0#32
  ![v1083.toNat, 0]
def k0_off96 (k0_t5 : Fin k0_t5_loop.trips) (c0_i32_302 : BitVec 32) : Fin 3 → Nat :=
  let c0_i32_218 : BitVec 32 := 0#32
  let c1_i32_220 : BitVec 32 := 1#32
  let arg20 : BitVec 32 := Scf.iv c0_i32_218 c1_i32_220 k0_t5
  let v1086 : BitVec 32 := Scalar.addi arg20 c0_i32_302
  let v1087 : Index := Scalar.indexCast v1086
  let c0_i32_303 : BitVec 32 := 0#32
  let v1088 : Index := Scalar.indexCast c0_i32_303
  let c0_304 : Index := 0#32
  ![v1087.toNat, 0, 0]
def k0_off97 (k0_t5 : Fin k0_t5_loop.trips) (c0_i32_308 : BitVec 32) : Fin 3 → Nat :=
  let c0_i32_218 : BitVec 32 := 0#32
  let c1_i32_220 : BitVec 32 := 1#32
  let arg20 : BitVec 32 := Scf.iv c0_i32_218 c1_i32_220 k0_t5
  let v1100 : BitVec 32 := Scalar.addi arg20 c0_i32_308
  let v1101 : Index := Scalar.indexCast v1100
  let c0_i32_309 : BitVec 32 := 0#32
  let v1102 : Index := Scalar.indexCast c0_i32_309
  let c16_310 : Index := 16#32
  ![v1101.toNat, 0, 16]
def k0_off98 (k0_t5 : Fin k0_t5_loop.trips) (c0_i32_314 : BitVec 32) : Fin 3 → Nat :=
  let c0_i32_218 : BitVec 32 := 0#32
  let c1_i32_220 : BitVec 32 := 1#32
  let arg20 : BitVec 32 := Scf.iv c0_i32_218 c1_i32_220 k0_t5
  let v1114 : BitVec 32 := Scalar.addi arg20 c0_i32_314
  let v1115 : Index := Scalar.indexCast v1114
  let c0_i32_315 : BitVec 32 := 0#32
  let v1116 : Index := Scalar.indexCast c0_i32_315
  let c32_316 : Index := 32#32
  ![v1115.toNat, 0, 32]
def k0_off99 (k0_t5 : Fin k0_t5_loop.trips) (c0_i32_320 : BitVec 32) : Fin 3 → Nat :=
  let c0_i32_218 : BitVec 32 := 0#32
  let c1_i32_220 : BitVec 32 := 1#32
  let arg20 : BitVec 32 := Scf.iv c0_i32_218 c1_i32_220 k0_t5
  let v1128 : BitVec 32 := Scalar.addi arg20 c0_i32_320
  let v1129 : Index := Scalar.indexCast v1128
  let c0_i32_321 : BitVec 32 := 0#32
  let v1130 : Index := Scalar.indexCast c0_i32_321
  let c48_322 : Index := 48#32
  ![v1129.toNat, 0, 48]
def k0_off100 (k0_t5 : Fin k0_t5_loop.trips) (c0_i32_326 : BitVec 32) : Fin 3 → Nat :=
  let c0_i32_218 : BitVec 32 := 0#32
  let c1_i32_220 : BitVec 32 := 1#32
  let arg20 : BitVec 32 := Scf.iv c0_i32_218 c1_i32_220 k0_t5
  let v1142 : BitVec 32 := Scalar.addi arg20 c0_i32_326
  let v1143 : Index := Scalar.indexCast v1142
  let c0_i32_327 : BitVec 32 := 0#32
  let v1144 : Index := Scalar.indexCast c0_i32_327
  let c64_328 : Index := 64#32
  ![v1143.toNat, 0, 64]
def k0_off101 (k0_t5 : Fin k0_t5_loop.trips) (c0_i32_332 : BitVec 32) : Fin 3 → Nat :=
  let c0_i32_218 : BitVec 32 := 0#32
  let c1_i32_220 : BitVec 32 := 1#32
  let arg20 : BitVec 32 := Scf.iv c0_i32_218 c1_i32_220 k0_t5
  let v1156 : BitVec 32 := Scalar.addi arg20 c0_i32_332
  let v1157 : Index := Scalar.indexCast v1156
  let c0_i32_333 : BitVec 32 := 0#32
  let v1158 : Index := Scalar.indexCast c0_i32_333
  let c80_334 : Index := 80#32
  ![v1157.toNat, 0, 80]
def k0_off102 (k0_t5 : Fin k0_t5_loop.trips) (c0_i32_338 : BitVec 32) : Fin 3 → Nat :=
  let c0_i32_218 : BitVec 32 := 0#32
  let c1_i32_220 : BitVec 32 := 1#32
  let arg20 : BitVec 32 := Scf.iv c0_i32_218 c1_i32_220 k0_t5
  let v1170 : BitVec 32 := Scalar.addi arg20 c0_i32_338
  let v1171 : Index := Scalar.indexCast v1170
  let c0_i32_339 : BitVec 32 := 0#32
  let v1172 : Index := Scalar.indexCast c0_i32_339
  let c96_340 : Index := 96#32
  ![v1171.toNat, 0, 96]
def k0_off103 (k0_t5 : Fin k0_t5_loop.trips) (c0_i32_344 : BitVec 32) : Fin 3 → Nat :=
  let c0_i32_218 : BitVec 32 := 0#32
  let c1_i32_220 : BitVec 32 := 1#32
  let arg20 : BitVec 32 := Scf.iv c0_i32_218 c1_i32_220 k0_t5
  let v1184 : BitVec 32 := Scalar.addi arg20 c0_i32_344
  let v1185 : Index := Scalar.indexCast v1184
  let c0_i32_345 : BitVec 32 := 0#32
  let v1186 : Index := Scalar.indexCast c0_i32_345
  let c112_346 : Index := 112#32
  ![v1185.toNat, 0, 112]
def k0_off104 (k0_t5 : Fin k0_t5_loop.trips) (c0_i32_350 : BitVec 32) : Fin 3 → Nat :=
  let c0_i32_218 : BitVec 32 := 0#32
  let c1_i32_220 : BitVec 32 := 1#32
  let arg20 : BitVec 32 := Scf.iv c0_i32_218 c1_i32_220 k0_t5
  let v1198 : BitVec 32 := Scalar.addi arg20 c0_i32_350
  let v1199 : Index := Scalar.indexCast v1198
  let c1_i32_351 : BitVec 32 := 1#32
  let v1200 : Index := Scalar.indexCast c1_i32_351
  let c0_352 : Index := 0#32
  ![v1199.toNat, 1, 0]
def k0_off105 (k0_t5 : Fin k0_t5_loop.trips) (c0_i32_356 : BitVec 32) : Fin 3 → Nat :=
  let c0_i32_218 : BitVec 32 := 0#32
  let c1_i32_220 : BitVec 32 := 1#32
  let arg20 : BitVec 32 := Scf.iv c0_i32_218 c1_i32_220 k0_t5
  let v1212 : BitVec 32 := Scalar.addi arg20 c0_i32_356
  let v1213 : Index := Scalar.indexCast v1212
  let c1_i32_357 : BitVec 32 := 1#32
  let v1214 : Index := Scalar.indexCast c1_i32_357
  let c16_358 : Index := 16#32
  ![v1213.toNat, 1, 16]
def k0_off106 (k0_t5 : Fin k0_t5_loop.trips) (c0_i32_362 : BitVec 32) : Fin 3 → Nat :=
  let c0_i32_218 : BitVec 32 := 0#32
  let c1_i32_220 : BitVec 32 := 1#32
  let arg20 : BitVec 32 := Scf.iv c0_i32_218 c1_i32_220 k0_t5
  let v1226 : BitVec 32 := Scalar.addi arg20 c0_i32_362
  let v1227 : Index := Scalar.indexCast v1226
  let c1_i32_363 : BitVec 32 := 1#32
  let v1228 : Index := Scalar.indexCast c1_i32_363
  let c32_364 : Index := 32#32
  ![v1227.toNat, 1, 32]
def k0_off107 (k0_t5 : Fin k0_t5_loop.trips) (c0_i32_368 : BitVec 32) : Fin 3 → Nat :=
  let c0_i32_218 : BitVec 32 := 0#32
  let c1_i32_220 : BitVec 32 := 1#32
  let arg20 : BitVec 32 := Scf.iv c0_i32_218 c1_i32_220 k0_t5
  let v1240 : BitVec 32 := Scalar.addi arg20 c0_i32_368
  let v1241 : Index := Scalar.indexCast v1240
  let c1_i32_369 : BitVec 32 := 1#32
  let v1242 : Index := Scalar.indexCast c1_i32_369
  let c48_370 : Index := 48#32
  ![v1241.toNat, 1, 48]
def k0_off108 (k0_t5 : Fin k0_t5_loop.trips) (c0_i32_374 : BitVec 32) : Fin 3 → Nat :=
  let c0_i32_218 : BitVec 32 := 0#32
  let c1_i32_220 : BitVec 32 := 1#32
  let arg20 : BitVec 32 := Scf.iv c0_i32_218 c1_i32_220 k0_t5
  let v1254 : BitVec 32 := Scalar.addi arg20 c0_i32_374
  let v1255 : Index := Scalar.indexCast v1254
  let c1_i32_375 : BitVec 32 := 1#32
  let v1256 : Index := Scalar.indexCast c1_i32_375
  let c64_376 : Index := 64#32
  ![v1255.toNat, 1, 64]
def k0_off109 (k0_t5 : Fin k0_t5_loop.trips) (c0_i32_380 : BitVec 32) : Fin 3 → Nat :=
  let c0_i32_218 : BitVec 32 := 0#32
  let c1_i32_220 : BitVec 32 := 1#32
  let arg20 : BitVec 32 := Scf.iv c0_i32_218 c1_i32_220 k0_t5
  let v1268 : BitVec 32 := Scalar.addi arg20 c0_i32_380
  let v1269 : Index := Scalar.indexCast v1268
  let c1_i32_381 : BitVec 32 := 1#32
  let v1270 : Index := Scalar.indexCast c1_i32_381
  let c80_382 : Index := 80#32
  ![v1269.toNat, 1, 80]
def k0_off110 (k0_t5 : Fin k0_t5_loop.trips) (c0_i32_386 : BitVec 32) : Fin 3 → Nat :=
  let c0_i32_218 : BitVec 32 := 0#32
  let c1_i32_220 : BitVec 32 := 1#32
  let arg20 : BitVec 32 := Scf.iv c0_i32_218 c1_i32_220 k0_t5
  let v1282 : BitVec 32 := Scalar.addi arg20 c0_i32_386
  let v1283 : Index := Scalar.indexCast v1282
  let c1_i32_387 : BitVec 32 := 1#32
  let v1284 : Index := Scalar.indexCast c1_i32_387
  let c96_388 : Index := 96#32
  ![v1283.toNat, 1, 96]
def k0_off111 (k0_t5 : Fin k0_t5_loop.trips) (c0_i32_392 : BitVec 32) : Fin 3 → Nat :=
  let c0_i32_218 : BitVec 32 := 0#32
  let c1_i32_220 : BitVec 32 := 1#32
  let arg20 : BitVec 32 := Scf.iv c0_i32_218 c1_i32_220 k0_t5
  let v1296 : BitVec 32 := Scalar.addi arg20 c0_i32_392
  let v1297 : Index := Scalar.indexCast v1296
  let c1_i32_393 : BitVec 32 := 1#32
  let v1298 : Index := Scalar.indexCast c1_i32_393
  let c112_394 : Index := 112#32
  ![v1297.toNat, 1, 112]
def k0_off112 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v837 : Index := Scalar.indexCast v553
  let c0_222 : Index := 0#32
  ![v837.toNat, 0]
def k0_off113 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v841 : Index := Scalar.indexCast v553
  let c16_223 : Index := 16#32
  ![v841.toNat, 16]
def k0_off114 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v845 : Index := Scalar.indexCast v553
  let c32_224 : Index := 32#32
  ![v845.toNat, 32]
def k0_off115 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v849 : Index := Scalar.indexCast v553
  let c48_225 : Index := 48#32
  ![v849.toNat, 48]
def k0_off116 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v853 : Index := Scalar.indexCast v553
  let c64_226 : Index := 64#32
  ![v853.toNat, 64]
def k0_off117 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v857 : Index := Scalar.indexCast v553
  let c80_227 : Index := 80#32
  ![v857.toNat, 80]
def k0_off118 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v861 : Index := Scalar.indexCast v553
  let c96_228 : Index := 96#32
  ![v861.toNat, 96]
def k0_off119 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v865 : Index := Scalar.indexCast v553
  let c112_229 : Index := 112#32
  ![v865.toNat, 112]
def k0_off120 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v869 : Index := Scalar.indexCast v553
  let c128_230 : Index := 128#32
  ![v869.toNat, 128]
def k0_off121 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v873 : Index := Scalar.indexCast v553
  let c144_231 : Index := 144#32
  ![v873.toNat, 144]
def k0_off122 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v877 : Index := Scalar.indexCast v553
  let c160_232 : Index := 160#32
  ![v877.toNat, 160]
def k0_off123 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v881 : Index := Scalar.indexCast v553
  let c176_233 : Index := 176#32
  ![v881.toNat, 176]
def k0_off124 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v885 : Index := Scalar.indexCast v553
  let c192_234 : Index := 192#32
  ![v885.toNat, 192]
def k0_off125 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v889 : Index := Scalar.indexCast v553
  let c208_235 : Index := 208#32
  ![v889.toNat, 208]
def k0_off126 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v893 : Index := Scalar.indexCast v553
  let c224_236 : Index := 224#32
  ![v893.toNat, 224]
def k0_off127 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v897 : Index := Scalar.indexCast v553
  let c240_237 : Index := 240#32
  ![v897.toNat, 240]
def k0_off128 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v901 : Index := Scalar.indexCast v553
  let c256_238 : Index := 256#32
  ![v901.toNat, 256]
def k0_off129 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v905 : Index := Scalar.indexCast v553
  let c272_239 : Index := 272#32
  ![v905.toNat, 272]
def k0_off130 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v909 : Index := Scalar.indexCast v553
  let c288_240 : Index := 288#32
  ![v909.toNat, 288]
def k0_off131 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v913 : Index := Scalar.indexCast v553
  let c304_241 : Index := 304#32
  ![v913.toNat, 304]
def k0_off132 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v917 : Index := Scalar.indexCast v553
  let c320_242 : Index := 320#32
  ![v917.toNat, 320]
def k0_off133 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v921 : Index := Scalar.indexCast v553
  let c336_243 : Index := 336#32
  ![v921.toNat, 336]
def k0_off134 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v925 : Index := Scalar.indexCast v553
  let c352_244 : Index := 352#32
  ![v925.toNat, 352]
def k0_off135 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v929 : Index := Scalar.indexCast v553
  let c368_245 : Index := 368#32
  ![v929.toNat, 368]
@[reducible] def k0_t6_loop : Scf.Loop 32 :=
  let c0_i32_270 : BitVec 32 := 0#32
  let c16_i32_271 : BitVec 32 := 16#32
  let v981 : BitVec 32 := Scalar.addi c0_i32_270 c16_i32_271
  let c1_i32_272 : BitVec 32 := 1#32
  ⟨c0_i32_270, v981, c1_i32_272⟩
def k0_off136 (k0_t6 : Fin k0_t6_loop.trips) : Fin 2 → Nat :=
  let c0_i32_270 : BitVec 32 := 0#32
  let c1_i32_272 : BitVec 32 := 1#32
  let arg20 : BitVec 32 := Scf.iv c0_i32_270 c1_i32_272 k0_t6
  let v1079 : Index := Scalar.indexCast arg20
  let c0_299 : Index := 0#32
  ![v1079.toNat, 0]
def k0_off137 (k0_t6 : Fin k0_t6_loop.trips) : Fin 2 → Nat :=
  let c0_i32_270 : BitVec 32 := 0#32
  let c1_i32_272 : BitVec 32 := 1#32
  let arg20 : BitVec 32 := Scf.iv c0_i32_270 c1_i32_272 k0_t6
  let c16_i32_300 : BitVec 32 := 16#32
  let v1082 : BitVec 32 := Scalar.addi arg20 c16_i32_300
  let v1083 : Index := Scalar.indexCast v1082
  let c0_301 : Index := 0#32
  ![v1083.toNat, 0]
def k0_off138 (k0_t6 : Fin k0_t6_loop.trips) (c32_i32_302 : BitVec 32) : Fin 3 → Nat :=
  let c0_i32_270 : BitVec 32 := 0#32
  let c1_i32_272 : BitVec 32 := 1#32
  let arg20 : BitVec 32 := Scf.iv c0_i32_270 c1_i32_272 k0_t6
  let v1086 : BitVec 32 := Scalar.addi arg20 c32_i32_302
  let v1087 : Index := Scalar.indexCast v1086
  let c1_i32_303 : BitVec 32 := 1#32
  let v1088 : Index := Scalar.indexCast c1_i32_303
  let c0_304 : Index := 0#32
  ![v1087.toNat, 1, 0]
def k0_off139 (k0_t6 : Fin k0_t6_loop.trips) (c32_i32_307 : BitVec 32) : Fin 3 → Nat :=
  let c0_i32_270 : BitVec 32 := 0#32
  let c1_i32_272 : BitVec 32 := 1#32
  let arg20 : BitVec 32 := Scf.iv c0_i32_270 c1_i32_272 k0_t6
  let v1100 : BitVec 32 := Scalar.addi arg20 c32_i32_307
  let v1101 : Index := Scalar.indexCast v1100
  let c1_i32_308 : BitVec 32 := 1#32
  let v1102 : Index := Scalar.indexCast c1_i32_308
  let c16_309 : Index := 16#32
  ![v1101.toNat, 1, 16]
def k0_off140 (k0_t6 : Fin k0_t6_loop.trips) (c32_i32_313 : BitVec 32) : Fin 3 → Nat :=
  let c0_i32_270 : BitVec 32 := 0#32
  let c1_i32_272 : BitVec 32 := 1#32
  let arg20 : BitVec 32 := Scf.iv c0_i32_270 c1_i32_272 k0_t6
  let v1114 : BitVec 32 := Scalar.addi arg20 c32_i32_313
  let v1115 : Index := Scalar.indexCast v1114
  let c1_i32_314 : BitVec 32 := 1#32
  let v1116 : Index := Scalar.indexCast c1_i32_314
  let c32_315 : Index := 32#32
  ![v1115.toNat, 1, 32]
def k0_off141 (k0_t6 : Fin k0_t6_loop.trips) (c32_i32_319 : BitVec 32) : Fin 3 → Nat :=
  let c0_i32_270 : BitVec 32 := 0#32
  let c1_i32_272 : BitVec 32 := 1#32
  let arg20 : BitVec 32 := Scf.iv c0_i32_270 c1_i32_272 k0_t6
  let v1128 : BitVec 32 := Scalar.addi arg20 c32_i32_319
  let v1129 : Index := Scalar.indexCast v1128
  let c1_i32_320 : BitVec 32 := 1#32
  let v1130 : Index := Scalar.indexCast c1_i32_320
  let c48_321 : Index := 48#32
  ![v1129.toNat, 1, 48]
def k0_off142 (k0_t6 : Fin k0_t6_loop.trips) (c32_i32_325 : BitVec 32) : Fin 3 → Nat :=
  let c0_i32_270 : BitVec 32 := 0#32
  let c1_i32_272 : BitVec 32 := 1#32
  let arg20 : BitVec 32 := Scf.iv c0_i32_270 c1_i32_272 k0_t6
  let v1142 : BitVec 32 := Scalar.addi arg20 c32_i32_325
  let v1143 : Index := Scalar.indexCast v1142
  let c1_i32_326 : BitVec 32 := 1#32
  let v1144 : Index := Scalar.indexCast c1_i32_326
  let c64_327 : Index := 64#32
  ![v1143.toNat, 1, 64]
def k0_off143 (k0_t6 : Fin k0_t6_loop.trips) (c32_i32_331 : BitVec 32) : Fin 3 → Nat :=
  let c0_i32_270 : BitVec 32 := 0#32
  let c1_i32_272 : BitVec 32 := 1#32
  let arg20 : BitVec 32 := Scf.iv c0_i32_270 c1_i32_272 k0_t6
  let v1156 : BitVec 32 := Scalar.addi arg20 c32_i32_331
  let v1157 : Index := Scalar.indexCast v1156
  let c1_i32_332 : BitVec 32 := 1#32
  let v1158 : Index := Scalar.indexCast c1_i32_332
  let c80_333 : Index := 80#32
  ![v1157.toNat, 1, 80]
def k0_off144 (k0_t6 : Fin k0_t6_loop.trips) (c32_i32_337 : BitVec 32) : Fin 3 → Nat :=
  let c0_i32_270 : BitVec 32 := 0#32
  let c1_i32_272 : BitVec 32 := 1#32
  let arg20 : BitVec 32 := Scf.iv c0_i32_270 c1_i32_272 k0_t6
  let v1170 : BitVec 32 := Scalar.addi arg20 c32_i32_337
  let v1171 : Index := Scalar.indexCast v1170
  let c1_i32_338 : BitVec 32 := 1#32
  let v1172 : Index := Scalar.indexCast c1_i32_338
  let c96_339 : Index := 96#32
  ![v1171.toNat, 1, 96]
def k0_off145 (k0_t6 : Fin k0_t6_loop.trips) (c32_i32_343 : BitVec 32) : Fin 3 → Nat :=
  let c0_i32_270 : BitVec 32 := 0#32
  let c1_i32_272 : BitVec 32 := 1#32
  let arg20 : BitVec 32 := Scf.iv c0_i32_270 c1_i32_272 k0_t6
  let v1184 : BitVec 32 := Scalar.addi arg20 c32_i32_343
  let v1185 : Index := Scalar.indexCast v1184
  let c1_i32_344 : BitVec 32 := 1#32
  let v1186 : Index := Scalar.indexCast c1_i32_344
  let c112_345 : Index := 112#32
  ![v1185.toNat, 1, 112]
def k0_off146 (k0_t6 : Fin k0_t6_loop.trips) (c64_i32 : BitVec 32) : Fin 3 → Nat :=
  let c0_i32_270 : BitVec 32 := 0#32
  let c1_i32_272 : BitVec 32 := 1#32
  let arg20 : BitVec 32 := Scf.iv c0_i32_270 c1_i32_272 k0_t6
  let v1198 : BitVec 32 := Scalar.addi arg20 c64_i32
  let v1199 : Index := Scalar.indexCast v1198
  let c0_i32_349 : BitVec 32 := 0#32
  let v1200 : Index := Scalar.indexCast c0_i32_349
  let c0_350 : Index := 0#32
  ![v1199.toNat, 0, 0]
def k0_off147 (k0_t6 : Fin k0_t6_loop.trips) (c64_i32_353 : BitVec 32) : Fin 3 → Nat :=
  let c0_i32_270 : BitVec 32 := 0#32
  let c1_i32_272 : BitVec 32 := 1#32
  let arg20 : BitVec 32 := Scf.iv c0_i32_270 c1_i32_272 k0_t6
  let v1212 : BitVec 32 := Scalar.addi arg20 c64_i32_353
  let v1213 : Index := Scalar.indexCast v1212
  let c0_i32_354 : BitVec 32 := 0#32
  let v1214 : Index := Scalar.indexCast c0_i32_354
  let c16_355 : Index := 16#32
  ![v1213.toNat, 0, 16]
def k0_off148 (k0_t6 : Fin k0_t6_loop.trips) (c64_i32_359 : BitVec 32) : Fin 3 → Nat :=
  let c0_i32_270 : BitVec 32 := 0#32
  let c1_i32_272 : BitVec 32 := 1#32
  let arg20 : BitVec 32 := Scf.iv c0_i32_270 c1_i32_272 k0_t6
  let v1226 : BitVec 32 := Scalar.addi arg20 c64_i32_359
  let v1227 : Index := Scalar.indexCast v1226
  let c0_i32_360 : BitVec 32 := 0#32
  let v1228 : Index := Scalar.indexCast c0_i32_360
  let c32_361 : Index := 32#32
  ![v1227.toNat, 0, 32]
def k0_off149 (k0_t6 : Fin k0_t6_loop.trips) (c64_i32_365 : BitVec 32) : Fin 3 → Nat :=
  let c0_i32_270 : BitVec 32 := 0#32
  let c1_i32_272 : BitVec 32 := 1#32
  let arg20 : BitVec 32 := Scf.iv c0_i32_270 c1_i32_272 k0_t6
  let v1240 : BitVec 32 := Scalar.addi arg20 c64_i32_365
  let v1241 : Index := Scalar.indexCast v1240
  let c0_i32_366 : BitVec 32 := 0#32
  let v1242 : Index := Scalar.indexCast c0_i32_366
  let c48_367 : Index := 48#32
  ![v1241.toNat, 0, 48]
def k0_off150 (k0_t6 : Fin k0_t6_loop.trips) (c64_i32_371 : BitVec 32) : Fin 3 → Nat :=
  let c0_i32_270 : BitVec 32 := 0#32
  let c1_i32_272 : BitVec 32 := 1#32
  let arg20 : BitVec 32 := Scf.iv c0_i32_270 c1_i32_272 k0_t6
  let v1254 : BitVec 32 := Scalar.addi arg20 c64_i32_371
  let v1255 : Index := Scalar.indexCast v1254
  let c0_i32_372 : BitVec 32 := 0#32
  let v1256 : Index := Scalar.indexCast c0_i32_372
  let c64_373 : Index := 64#32
  ![v1255.toNat, 0, 64]
def k0_off151 (k0_t6 : Fin k0_t6_loop.trips) (c64_i32_377 : BitVec 32) : Fin 3 → Nat :=
  let c0_i32_270 : BitVec 32 := 0#32
  let c1_i32_272 : BitVec 32 := 1#32
  let arg20 : BitVec 32 := Scf.iv c0_i32_270 c1_i32_272 k0_t6
  let v1268 : BitVec 32 := Scalar.addi arg20 c64_i32_377
  let v1269 : Index := Scalar.indexCast v1268
  let c0_i32_378 : BitVec 32 := 0#32
  let v1270 : Index := Scalar.indexCast c0_i32_378
  let c80_379 : Index := 80#32
  ![v1269.toNat, 0, 80]
def k0_off152 (k0_t6 : Fin k0_t6_loop.trips) (c64_i32_383 : BitVec 32) : Fin 3 → Nat :=
  let c0_i32_270 : BitVec 32 := 0#32
  let c1_i32_272 : BitVec 32 := 1#32
  let arg20 : BitVec 32 := Scf.iv c0_i32_270 c1_i32_272 k0_t6
  let v1282 : BitVec 32 := Scalar.addi arg20 c64_i32_383
  let v1283 : Index := Scalar.indexCast v1282
  let c0_i32_384 : BitVec 32 := 0#32
  let v1284 : Index := Scalar.indexCast c0_i32_384
  let c96_385 : Index := 96#32
  ![v1283.toNat, 0, 96]
def k0_off153 (k0_t6 : Fin k0_t6_loop.trips) (c64_i32_389 : BitVec 32) : Fin 3 → Nat :=
  let c0_i32_270 : BitVec 32 := 0#32
  let c1_i32_272 : BitVec 32 := 1#32
  let arg20 : BitVec 32 := Scf.iv c0_i32_270 c1_i32_272 k0_t6
  let v1296 : BitVec 32 := Scalar.addi arg20 c64_i32_389
  let v1297 : Index := Scalar.indexCast v1296
  let c0_i32_390 : BitVec 32 := 0#32
  let v1298 : Index := Scalar.indexCast c0_i32_390
  let c112_391 : Index := 112#32
  ![v1297.toNat, 0, 112]
def k0_off154 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v983 : Index := Scalar.indexCast v553
  let c384_274 : Index := 384#32
  ![v983.toNat, 384]
def k0_off155 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v987 : Index := Scalar.indexCast v553
  let c400_275 : Index := 400#32
  ![v987.toNat, 400]
def k0_off156 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v991 : Index := Scalar.indexCast v553
  let c416_276 : Index := 416#32
  ![v991.toNat, 416]
def k0_off157 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v995 : Index := Scalar.indexCast v553
  let c432_277 : Index := 432#32
  ![v995.toNat, 432]
def k0_off158 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v999 : Index := Scalar.indexCast v553
  let c448_278 : Index := 448#32
  ![v999.toNat, 448]
def k0_off159 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v1003 : Index := Scalar.indexCast v553
  let c464_279 : Index := 464#32
  ![v1003.toNat, 464]
def k0_off160 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v1007 : Index := Scalar.indexCast v553
  let c480_280 : Index := 480#32
  ![v1007.toNat, 480]
def k0_off161 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v1011 : Index := Scalar.indexCast v553
  let c496_281 : Index := 496#32
  ![v1011.toNat, 496]
def k0_off162 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v1015 : Index := Scalar.indexCast v553
  let c512_282 : Index := 512#32
  ![v1015.toNat, 512]
def k0_off163 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v1019 : Index := Scalar.indexCast v553
  let c528_283 : Index := 528#32
  ![v1019.toNat, 528]
def k0_off164 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v1023 : Index := Scalar.indexCast v553
  let c544_284 : Index := 544#32
  ![v1023.toNat, 544]
def k0_off165 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v1027 : Index := Scalar.indexCast v553
  let c560_285 : Index := 560#32
  ![v1027.toNat, 560]
def k0_off166 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v1031 : Index := Scalar.indexCast v553
  let c576_286 : Index := 576#32
  ![v1031.toNat, 576]
def k0_off167 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v1035 : Index := Scalar.indexCast v553
  let c592_287 : Index := 592#32
  ![v1035.toNat, 592]
def k0_off168 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v1039 : Index := Scalar.indexCast v553
  let c608_288 : Index := 608#32
  ![v1039.toNat, 608]
def k0_off169 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v1043 : Index := Scalar.indexCast v553
  let c624_289 : Index := 624#32
  ![v1043.toNat, 624]
def k0_off170 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v1047 : Index := Scalar.indexCast v553
  let c640_290 : Index := 640#32
  ![v1047.toNat, 640]
def k0_off171 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v1051 : Index := Scalar.indexCast v553
  let c656_291 : Index := 656#32
  ![v1051.toNat, 656]
def k0_off172 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v1055 : Index := Scalar.indexCast v553
  let c672_292 : Index := 672#32
  ![v1055.toNat, 672]
def k0_off173 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v1059 : Index := Scalar.indexCast v553
  let c688_293 : Index := 688#32
  ![v1059.toNat, 688]
def k0_off174 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v1063 : Index := Scalar.indexCast v553
  let c704_294 : Index := 704#32
  ![v1063.toNat, 704]
def k0_off175 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v1067 : Index := Scalar.indexCast v553
  let c720_295 : Index := 720#32
  ![v1067.toNat, 720]
def k0_off176 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v1071 : Index := Scalar.indexCast v553
  let c736_296 : Index := 736#32
  ![v1071.toNat, 736]
def k0_off177 (k0_t2 : Fin k0_t2_loop.trips) : Fin 2 → Nat :=
  let c2_i32_13 : BitVec 32 := 2#32
  let c0_i32_9 : BitVec 32 := 0#32
  let c1_i32_10 : BitVec 32 := 1#32
  let arg18 : BitVec 32 := Scf.iv c0_i32_9 c1_i32_10 k0_t2
  let v13 : BitVec 32 := Scalar.muli c2_i32_13 arg18
  let c1_i32_126 : BitVec 32 := 1#32
  let v553 : BitVec 32 := Scalar.addi v13 c1_i32_126
  let v1075 : Index := Scalar.indexCast v553
  let c752_297 : Index := 752#32
  ![v1075.toNat, 752]
def k0_off178 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_0 : BitVec 32 := 0#32
  let c1_i32 : BitVec 32 := 1#32
  let arg16 : BitVec 32 := Scf.iv c0_i32_0 c1_i32 k0_t1
  let c16_i32_2 : BitVec 32 := 16#32
  let v5 : BitVec 32 := Scalar.muli arg16 c16_i32_2
  let v6 : BitVec 32 := Scalar.addi v2 v5
  let c0_i32_13_r3 : BitVec 32 := 0#32
  ![v6.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S768x24576 : Shape := ⟨2, ![768, 24576]⟩
abbrev S8192x32 : Shape := ⟨2, ![8192, 32]⟩
abbrev S768 : Shape := ⟨1, ![768]⟩
abbrev S24576x768 : Shape := ⟨2, ![24576, 768]⟩
abbrev S_ : Shape := ⟨0, ![]⟩
abbrev S8192x32x1 : Shape := ⟨3, ![8192, 32, 1]⟩
abbrev S8192x32x768 : Shape := ⟨3, ![8192, 32, 768]⟩
abbrev S8192x768 : Shape := ⟨2, ![8192, 768]⟩
abbrev S1x768 : Shape := ⟨2, ![1, 768]⟩

abbrev nBuf : Space → Nat
  | .hbm => 22
  | .vmem => 0
  | .smem => 0
  | _ => 0

abbrev bufTy : (tb : Table) → Fin (tcTables nBuf tb) → BufTy
  | .hbm, ⟨0, _⟩ => ⟨S768x24576, .f32⟩
  | .hbm, ⟨1, _⟩ => ⟨S8192x32, .f32⟩
  | .hbm, ⟨2, _⟩ => ⟨S8192x32, .i32⟩
  | .hbm, ⟨3, _⟩ => ⟨S768, .f32⟩
  | .hbm, ⟨4, _⟩ => ⟨S24576x768, .f32⟩
  | .hbm, ⟨5, _⟩ => ⟨S_, .i32⟩
  | .hbm, ⟨6, _⟩ => ⟨S8192x32, .i32⟩
  | .hbm, ⟨7, _⟩ => ⟨S8192x32, .i1⟩
  | .hbm, ⟨8, _⟩ => ⟨S_, .i32⟩
  | .hbm, ⟨9, _⟩ => ⟨S8192x32, .i32⟩
  | .hbm, ⟨10, _⟩ => ⟨S8192x32, .i32⟩
  | .hbm, ⟨11, _⟩ => ⟨S8192x32, .i32⟩
  | .hbm, ⟨12, _⟩ => ⟨S8192x32x1, .i32⟩
  | .hbm, ⟨13, _⟩ => ⟨S8192x32x768, .f32⟩
  | .hbm, ⟨14, _⟩ => ⟨S8192x32x1, .f32⟩
  | .hbm, ⟨15, _⟩ => ⟨S8192x32x768, .f32⟩
  | .hbm, ⟨16, _⟩ => ⟨S8192x32x768, .f32⟩
  | .hbm, ⟨17, _⟩ => ⟨S_, .f32⟩
  | .hbm, ⟨18, _⟩ => ⟨S8192x768, .f32⟩
  | .hbm, ⟨19, _⟩ => ⟨S1x768, .f32⟩
  | .hbm, ⟨20, _⟩ => ⟨S8192x768, .f32⟩
  | .hbm, ⟨21, _⟩ => ⟨S8192x768, .f32⟩
  | _, _ => ⟨S768x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== ScatteredIdeal.lean ====
abbrev S768x24576 : Shape := ⟨2, ![768, 24576]⟩
abbrev S8192x32 : Shape := ⟨2, ![8192, 32]⟩
abbrev S768 : Shape := ⟨1, ![768]⟩
abbrev S8192 : Shape := ⟨1, ![8192]⟩
abbrev S8192x1 : Shape := ⟨2, ![8192, 1]⟩
abbrev S_ : Shape := ⟨0, ![]⟩
abbrev S8192x24576 : Shape := ⟨2, ![8192, 24576]⟩
abbrev S8192x32x1 : Shape := ⟨3, ![8192, 32, 1]⟩
abbrev S8192x32x2 : Shape := ⟨3, ![8192, 32, 2]⟩
abbrev S24576x768 : Shape := ⟨2, ![24576, 768]⟩
abbrev S8192x768 : Shape := ⟨2, ![8192, 768]⟩
abbrev S1x768 : Shape := ⟨2, ![1, 768]⟩

abbrev nBuf : Space → Nat
  | .hbm => 32
  | .vmem => 0
  | .smem => 0
  | _ => 0

abbrev bufTy : (tb : Table) → Fin (tcTables nBuf tb) → BufTy
  | .hbm, ⟨0, _⟩ => ⟨S768x24576, .f32⟩
  | .hbm, ⟨1, _⟩ => ⟨S8192x32, .f32⟩
  | .hbm, ⟨2, _⟩ => ⟨S8192x32, .i32⟩
  | .hbm, ⟨3, _⟩ => ⟨S768, .f32⟩
  | .hbm, ⟨4, _⟩ => ⟨S8192, .i32⟩
  | .hbm, ⟨5, _⟩ => ⟨S8192x1, .i32⟩
  | .hbm, ⟨6, _⟩ => ⟨S_, .f32⟩
  | .hbm, ⟨7, _⟩ => ⟨S8192x24576, .f32⟩
  | .hbm, ⟨8, _⟩ => ⟨S_, .i32⟩
  | .hbm, ⟨9, _⟩ => ⟨S8192x1, .i32⟩
  | .hbm, ⟨10, _⟩ => ⟨S8192x1, .i1⟩
  | .hbm, ⟨11, _⟩ => ⟨S_, .i32⟩
  | .hbm, ⟨12, _⟩ => ⟨S8192x1, .i32⟩
  | .hbm, ⟨13, _⟩ => ⟨S8192x1, .i32⟩
  | .hbm, ⟨14, _⟩ => ⟨S8192x1, .i32⟩
  | .hbm, ⟨15, _⟩ => ⟨S_, .i32⟩
  | .hbm, ⟨16, _⟩ => ⟨S8192x32, .i32⟩
  | .hbm, ⟨17, _⟩ => ⟨S8192x32, .i1⟩
  | .hbm, ⟨18, _⟩ => ⟨S_, .i32⟩
  | .hbm, ⟨19, _⟩ => ⟨S8192x32, .i32⟩
  | .hbm, ⟨20, _⟩ => ⟨S8192x32, .i32⟩
  | .hbm, ⟨21, _⟩ => ⟨S8192x32, .i32⟩
  | .hbm, ⟨22, _⟩ => ⟨S8192x32, .i32⟩
  | .hbm, ⟨23, _⟩ => ⟨S8192x32x1, .i32⟩
  | .hbm, ⟨24, _⟩ => ⟨S8192x32x1, .i32⟩
  | .hbm, ⟨25, _⟩ => ⟨S8192x32x2, .i32⟩
  | .hbm, ⟨26, _⟩ => ⟨S8192x24576, .f32⟩
  | .hbm, ⟨27, _⟩ => ⟨S24576x768, .f32⟩
  | .hbm, ⟨28, _⟩ => ⟨S8192x768, .f32⟩
  | .hbm, ⟨29, _⟩ => ⟨S1x768, .f32⟩
  | .hbm, ⟨30, _⟩ => ⟨S8192x768, .f32⟩
  | .hbm, ⟨31, _⟩ => ⟨S8192x768, .f32⟩
  | _, _ => ⟨S768x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Encode.lean ====
abbrev S32768x768 : Shape := ⟨2, ![32768, 768]⟩
abbrev S24576x768 : Shape := ⟨2, ![24576, 768]⟩
abbrev S24576 : Shape := ⟨1, ![24576]⟩
abbrev S1x24576 : Shape := ⟨2, ![1, 24576]⟩
abbrev S32768x24576 : Shape := ⟨2, ![32768, 24576]⟩
abbrev S192x32768 : Shape := ⟨2, ![192, 32768]⟩
abbrev S512x768 : Shape := ⟨2, ![512, 768]⟩
abbrev S3072x768 : Shape := ⟨2, ![3072, 768]⟩
abbrev S1x3072 : Shape := ⟨2, ![1, 3072]⟩
abbrev S512x3072 : Shape := ⟨2, ![512, 3072]⟩
abbrev S24x512 : Shape := ⟨2, ![24, 512]⟩
abbrev S512x24x128 : Shape := ⟨3, ![512, 24, 128]⟩
abbrev S512x24 : Shape := ⟨2, ![512, 24]⟩

abbrev nBuf : Space → Nat
  | .hbm => 6
  | .vmem => 10
  | .smem => 0
  | _ => 0

abbrev bufTy : (tb : Table) → Fin (tcTables nBuf tb) → BufTy
  | .hbm, ⟨0, _⟩ => ⟨S32768x768, .f32⟩
  | .hbm, ⟨1, _⟩ => ⟨S24576x768, .f32⟩
  | .hbm, ⟨2, _⟩ => ⟨S24576, .f32⟩
  | .hbm, ⟨3, _⟩ => ⟨S1x24576, .f32⟩
  | .hbm, ⟨4, _⟩ => ⟨S32768x24576, .f32⟩
  | .hbm, ⟨5, _⟩ => ⟨S192x32768, .f32⟩
  | .local _ .vmem, ⟨0, _⟩ => ⟨S512x768, .f32⟩
  | .local _ .vmem, ⟨1, _⟩ => ⟨S512x768, .f32⟩
  | .local _ .vmem, ⟨2, _⟩ => ⟨S3072x768, .f32⟩
  | .local _ .vmem, ⟨3, _⟩ => ⟨S3072x768, .f32⟩
  | .local _ .vmem, ⟨4, _⟩ => ⟨S1x3072, .f32⟩
  | .local _ .vmem, ⟨5, _⟩ => ⟨S1x3072, .f32⟩
  | .local _ .vmem, ⟨6, _⟩ => ⟨S512x3072, .f32⟩
  | .local _ .vmem, ⟨7, _⟩ => ⟨S512x3072, .f32⟩
  | .local _ .vmem, ⟨8, _⟩ => ⟨S24x512, .f32⟩
  | .local _ .vmem, ⟨9, _⟩ => ⟨S24x512, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3072x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S24x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== EncodedIdeal.lean ====
abbrev S32768x768 : Shape := ⟨2, ![32768, 768]⟩
abbrev S24576x768 : Shape := ⟨2, ![24576, 768]⟩
abbrev S24576 : Shape := ⟨1, ![24576]⟩
abbrev S768x24576 : Shape := ⟨2, ![768, 24576]⟩
abbrev S32768x24576 : Shape := ⟨2, ![32768, 24576]⟩
abbrev S1x24576 : Shape := ⟨2, ![1, 24576]⟩
abbrev S32768x192x128 : Shape := ⟨3, ![32768, 192, 128]⟩
abbrev S_ : Shape := ⟨0, ![]⟩
abbrev S32768x192 : Shape := ⟨2, ![32768, 192]⟩
abbrev S192x32768 : Shape := ⟨2, ![192, 32768]⟩

abbrev nBuf : Space → Nat
  | .hbm => 12
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S24576x768, .f32⟩
  | .hbm, ⟨2, _⟩ => ⟨S24576, .f32⟩
  | .hbm, ⟨3, _⟩ => ⟨S768x24576, .f32⟩
  | .hbm, ⟨4, _⟩ => ⟨S32768x24576, .f32⟩
  | .hbm, ⟨5, _⟩ => ⟨S1x24576, .f32⟩
  | .hbm, ⟨6, _⟩ => ⟨S32768x24576, .f32⟩
  | .hbm, ⟨7, _⟩ => ⟨S32768x24576, .f32⟩
  | .hbm, ⟨8, _⟩ => ⟨S32768x192x128, .f32⟩
  | .hbm, ⟨9, _⟩ => ⟨S_, .f32⟩
  | .hbm, ⟨10, _⟩ => ⟨S32768x192, .f32⟩
  | .hbm, ⟨11, _⟩ => ⟨S192x32768, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Chunks.lean ====
abbrev S192x32768 : Shape := ⟨2, ![192, 32768]⟩
abbrev S8192x32 : Shape := ⟨2, ![8192, 32]⟩
abbrev S192x512 : Shape := ⟨2, ![192, 512]⟩
abbrev S512x32 : Shape := ⟨2, ![512, 32]⟩
abbrev S512 : Shape := ⟨1, ![512]⟩
abbrev S1x512 : Shape := ⟨2, ![1, 512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S192x32768, .f32⟩
  | .hbm, ⟨1, _⟩ => ⟨S8192x32, .f32⟩
  | .hbm, ⟨2, _⟩ => ⟨S8192x32, .i32⟩
  | .local _ .vmem, ⟨0, _⟩ => ⟨S192x512, .f32⟩
  | .local _ .vmem, ⟨1, _⟩ => ⟨S192x512, .f32⟩
  | .local _ .vmem, ⟨2, _⟩ => ⟨S512x32, .f32⟩
  | .local _ .vmem, ⟨3, _⟩ => ⟨S512x32, .f32⟩
  | .local _ .vmem, ⟨4, _⟩ => ⟨S512x32, .i32⟩
  | .local _ .vmem, ⟨5, _⟩ => ⟨S512x32, .i32⟩
  | _, _ => ⟨S192x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_2 : BitVec 32 := 0#32
  let c32_i32 : BitVec 32 := 32#32
  let v7 : BitVec 32 := Scalar.addi c0_i32_2 c32_i32
  let c1_i32 : BitVec 32 := 1#32
  ⟨c0_i32_2, v7, c1_i32⟩
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChunksTopIdeal.lean ====
abbrev S192x32768 : Shape := ⟨2, ![192, 32768]⟩
abbrev S192x8192 : Shape := ⟨2, ![192, 8192]⟩
abbrev S8192x192 : Shape := ⟨2, ![8192, 192]⟩
abbrev S8192x32 : Shape := ⟨2, ![8192, 32]⟩

abbrev nBuf : Space → Nat
  | .hbm => 5
  | .vmem => 0
  | .smem => 0
  | _ => 0

abbrev bufTy : (tb : Table) → Fin (tcTables nBuf tb) → BufTy
  | .hbm, ⟨0, _⟩ => ⟨S192x32768, .f32⟩
  | .hbm, ⟨1, _⟩ => ⟨S192x8192, .f32⟩
  | .hbm, ⟨2, _⟩ => ⟨S8192x192, .f32⟩
  | .hbm, ⟨3, _⟩ => ⟨S8192x32, .f32⟩
  | .hbm, ⟨4, _⟩ => ⟨S8192x32, .i32⟩
  | _, _ => ⟨S192x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_values : Ref sig .tc := ⟨.hbm, 3, rfl⟩
abbrev main_indices : Ref sig .tc := ⟨.hbm, 4, rfl⟩

abbrev nD : Nat := 1
abbrev τ : Topo := Topo.v7x

variable {F : FTy → Type} [FloatOps F]
-- ==== Cand.lean ====
abbrev S8192x512 : Shape := ⟨2, ![8192, 512]⟩
abbrev S8192x32 : Shape := ⟨2, ![8192, 32]⟩
abbrev S256x512 : Shape := ⟨2, ![256, 512]⟩
abbrev S256x32 : Shape := ⟨2, ![256, 32]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x512, .i32⟩
  | .hbm, ⟨2, _⟩ => ⟨S8192x32, .f32⟩
  | .hbm, ⟨3, _⟩ => ⟨S8192x32, .i32⟩
  | .local _ .vmem, ⟨0, _⟩ => ⟨S256x512, .f32⟩
  | .local _ .vmem, ⟨1, _⟩ => ⟨S256x512, .f32⟩
  | .local _ .vmem, ⟨2, _⟩ => ⟨S256x512, .i32⟩
  | .local _ .vmem, ⟨3, _⟩ => ⟨S256x512, .i32⟩
  | .local _ .vmem, ⟨4, _⟩ => ⟨S256x32, .f32⟩
  | .local _ .vmem, ⟨5, _⟩ => ⟨S256x32, .f32⟩
  | .local _ .vmem, ⟨6, _⟩ => ⟨S256x32, .i32⟩
  | .local _ .vmem, ⟨7, _⟩ => ⟨S256x32, .i32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_4 : BitVec 32 := 0#32
  let c32_i32 : BitVec 32 := 32#32
  let v7 : BitVec 32 := Scalar.addi c0_i32_4 c32_i32
  let c1_i32 : BitVec 32 := 1#32
  ⟨c0_i32_4, v7, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x32 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CandSortedIdeal.lean ====
abbrev S8192x512 : Shape := ⟨2, ![8192, 512]⟩
abbrev S8192x32 : Shape := ⟨2, ![8192, 32]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .i32⟩
  | .hbm, ⟨2, _⟩ => ⟨S8192x512, .f32⟩
  | .hbm, ⟨3, _⟩ => ⟨S8192x512, .f32⟩
  | .hbm, ⟨4, _⟩ => ⟨S8192x512, .i32⟩
  | .hbm, ⟨5, _⟩ => ⟨S8192x32, .f32⟩
  | .hbm, ⟨6, _⟩ => ⟨S8192x32, .f32⟩
  | .hbm, ⟨7, _⟩ => ⟨S8192x32, .i32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Base.lean ====
/-
  The vocabulary of the proof: the program as the launch theorem sees it, the resource algebra, the names of the
  arrays and scratch buffers as a vector subcore addresses them, and the plain functions that say what the decode
  computes.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.Dec

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the rounds of the handshakes beside the counters of the transfers -/

abbrev UH : Type := URounds (GSem nD τ sig) ℕ
abbrev UU : Type := UH × Counters

abbrev EH : Emb UH (MT nD τ sig (HIx 1) (Elt F) ℕ UU ℕ) := embL

abbrev cV (L : grid0.Coords) : Fin τ.nSC := (L 0).castLE hcore0
abbrev jV (L : grid0.Coords) : Fin τ.nSub := (L 1).castLE hsub0
/-- The vector subcore at the coordinates `L`. -/
abbrev thr (d : Dev nD) (L : grid0.Coords) : Thread nD τ := V d (cV L) (jV L)

/-! ## The arrays and scratch buffers as a vector subcore addresses them -/

abbrev tabM : Memref sig .scVector .hbm S73728x2x128 .f32 := Memref.whole main_v1_scv
abbrev actM : Memref sig .scVector .hbm S262144 .f32 := Memref.whole main_v11_scv
abbrev lstM : Memref sig .scVector .hbm S8192x96 .i32 := Memref.whole main_v10_scv
abbrev biaM : Memref sig .scVector .hbm S768 .f32 := Memref.whole main_arg3_scv
abbrev resM : Memref sig .scVector .hbm S8192x768 .f32 := Memref.whole main_v12_scv
abbrev idxV : Memref sig .scVector .vmem S16x96 .i32 := Memref.whole cc0_scratch0
abbrev actsV : Memref sig .scVector .vmem S512 .f32 := Memref.whole cc0_scratch1
abbrev aspV : Memref sig .scVector .vmem S32x16 .f32 := Memref.whole cc0_scratch2
abbrev rowA : Memref sig .scVector .vmem S96x2x128 .f32 := Memref.whole cc0_scratch3
abbrev rowB : Memref sig .scVector .vmem S96x2x128 .f32 := Memref.whole cc0_scratch4
abbrev outV : Memref sig .scVector .vmem S16x768 .f32 := Memref.whole cc0_scratch5
abbrev biaV : Memref sig .scVector .vmem S768 .f32 := Memref.whole cc0_scratch6

/-! ## Indices and vectors by numbers -/

/-- The index `(r, l)` of the block of splatted activations, every number reduced into its range. -/
def ixA (r l : ℕ) : S32x16.Idx
  | 0 => ⟨r % 32, Nat.mod_lt _ (by decide)⟩
  | 1 => ⟨l % 16, Nat.mod_lt _ (by decide)⟩
  | ⟨_ + 2, h⟩ => absurd h (Nat.not_lt.2 (Nat.le_add_left _ _))

/-- The index `(r, u, l)` of a block of gathered rows, every number reduced into its range. -/
def ixR (r u l : ℕ) : S96x2x128.Idx
  | 0 => ⟨r % 96, Nat.mod_lt _ (by decide)⟩
  | 1 => ⟨u % 2, Nat.mod_lt _ (by decide)⟩
  | 2 => ⟨l % 128, Nat.mod_lt _ (by decide)⟩
  | ⟨_ + 3, h⟩ => absurd h (Nat.not_lt.2 (Nat.le_add_left _ _))

/-- Row `j` of the splatted activations. -/
def actV (A : S32x16.Idx → F .f32) (j : ℕ) : FVec F S16 .f32 := fun l => A (ixA j (l 0).val)

/-- Sixteen lanes from lane `c` of part `u` of gathered row `r`. -/
def rowV (R : S96x2x128.Idx → F .f32) (r u c : ℕ) : FVec F S16 .f32 := fun l => R (ixR r u (c + (l 0).val))

/-- The sixteen lanes a load of one row of the splatted activations reads. -/
theorem load_act (A : S32x16.Idx → F .f32) {off : Fin 2 → ℕ} (inb : ∀ a, off a + S1x16.size a ≤ S32x16.size a)
    (h : S1x16.ShapeCasts S16) (j : ℕ) (hoff : off = ![j, 0]) :
    shapeCast S16 (fun x => A ((Rect.unit (s := S32x16) off S1x16.size inb).toLoadRect.idx x)) h = actV A j := by
  subst hoff
  funext l
  have hj : j < 32 := by have := inb 0; simp at this; omega
  have hl : (l 0).val < 16 := (l 0).isLt
  rw [shapeCast_apply _ h l (fun | 0 => ⟨0, Nat.one_pos⟩ | 1 => ⟨(l 0).val, hl⟩ | ⟨_ + 2, h⟩ => absurd h (Nat.not_lt.2 (Nat.le_add_left _ _)))
    (by rw [Shape.rowMajor_val_two, Shape.rowMajor_val_one]; simp)]
  refine congrArg A (funext fun a => ?_)
  match a with
  | 0 => exact Fin.ext (by show j + 0 * 1 = j % 32; omega)
  | 1 => exact Fin.ext (by show 0 + 1 * (l 0).val = (l 0).val % 16; omega)

/-- The sixteen lanes a load inside one part of a gathered row reads. -/
theorem load_row (R : S96x2x128.Idx → F .f32) {off : Fin 3 → ℕ} (inb : ∀ a, off a + S1x1x16.size a ≤ S96x2x128.size a)
    (h : S1x1x16.ShapeCasts S16) (r u c : ℕ) (hoff : off = ![r, u, c]) :
    shapeCast S16 (fun x => R ((Rect.unit (s := S96x2x128) off S1x1x16.size inb).toLoadRect.idx x)) h = rowV R r u c := by
  subst hoff
  funext l
  have hr : r < 96 := by have := inb 0; simp at this; omega
  have hu : u < 2 := by have := inb 1; simp at this; omega
  have hc : c + 16 ≤ 128 := by have := inb 2; simpa using this
  have hl : (l 0).val < 16 := (l 0).isLt
  rw [shapeCast_apply _ h l (fun | 0 => ⟨0, Nat.one_pos⟩ | 1 => ⟨0, Nat.one_pos⟩ | 2 => ⟨(l 0).val, hl⟩ | ⟨_ + 3, h⟩ => absurd h (Nat.not_lt.2 (Nat.le_add_left _ _)))
    (by rw [Shape.rowMajor_val_three, Shape.rowMajor_val_one]; simp)]
  refine congrArg R (funext fun a => ?_)
  match a with
  | 0 => exact Fin.ext (by show r + 0 * 1 = r % 96; omega)
  | 1 => exact Fin.ext (by show u + 0 * 1 = u % 2; omega)
  | 2 => exact Fin.ext (by show c + 1 * (l 0).val = (c + (l 0).val) % 128; omega)

/-! ## The carried sums of one half of a row of the result -/

variable [FloatOps F]

/-- Twenty-four vectors of sixteen lanes, as the loops carry them. -/
abbrev T24 (F : FTy → Type) : Type :=
  FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32

def tup (g : ℕ → FVec F S16 .f32) : T24 F :=
  (g 0, g 1, g 2, g 3, g 4, g 5, g 6, g 7, g 8, g 9, g 10, g 11, g 12, g 13, g 14, g 15, g 16, g 17, g 18, g 19, g 20,
    g 21, g 22, g 23)

/-- One step of the sum at vector `w` of the 48 that make a row of the result: latents `k` and `k + 16`. -/
def stepV (A : S32x16.Idx → F .f32) (R : S96x2x128.Idx → F .f32) (w k : ℕ) (g : FVec F S16 .f32) : FVec F S16 .f32 :=
  addf (addf g (mulf (actV A k) (rowV R (k + 32 * (w / 16)) (w % 16 / 8) (16 * (w % 8)))))
    (mulf (actV A (k + 16)) (rowV R (k + (32 * (w / 16) + 16)) (w % 16 / 8) (16 * (w % 8))))

/-- The sum at vector `w` after `k` steps from `g`. -/
def sumV (A : S32x16.Idx → F .f32) (R : S96x2x128.Idx → F .f32) (w : ℕ) (g : FVec F S16 .f32) : ℕ → FVec F S16 .f32
  | 0 => g
  | k + 1 => stepV A R w k (sumV A R w g k)

end Cert.Proof.Dec

end
-- ==== Proof.Inner.lean ====
/-
  The inner loop. A token's result is 768 columns, held as 48 vectors of sixteen lanes; two loops of sixteen steps make
  24 of them each. A step adds latents `k` and `k + 16`: for each vector, the splatted activation times the sixteen
  lanes of the gathered row. One step here is proved for each of the four loops (two halves, two row buffers), and
  then the whole loop by its iterate.
-/
module

public import proofs.«01_k».proof.Proof.Base

@[expose] public section

noncomputable section

namespace Cert.Proof.Dec

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

/-- One vector's step as the loop spells it. -/
theorem step_eq (A : S32x16.Idx → F .f32) (R : S96x2x128.Idx → F .f32) (w k : ℕ) (g : FVec F S16 .f32)
    {o1 o2 : Fin 2 → ℕ} {o3 o4 : Fin 3 → ℕ}
    {i1 : ∀ a, o1 a + S1x16.size a ≤ S32x16.size a} {i2 : ∀ a, o2 a + S1x16.size a ≤ S32x16.size a}
    {i3 : ∀ a, o3 a + S1x1x16.size a ≤ S96x2x128.size a} {i4 : ∀ a, o4 a + S1x1x16.size a ≤ S96x2x128.size a}
    {h1 h1' : S1x16.ShapeCasts S16} {h2 h2' : S1x1x16.ShapeCasts S16}
    (e1 : o1 = ![k, 0]) (e2 : o2 = ![k + 16, 0])
    (e3 : o3 = ![k + 32 * (w / 16), w % 16 / 8, 16 * (w % 8)])
    (e4 : o4 = ![k + (32 * (w / 16) + 16), w % 16 / 8, 16 * (w % 8)]) :
    addf (addf g (mulf (shapeCast S16 (fun x => A ((Rect.unit (s := S32x16) o1 S1x16.size i1).toLoadRect.idx x)) h1)
        (shapeCast S16 (fun x => R ((Rect.unit (s := S96x2x128) o3 S1x1x16.size i3).toLoadRect.idx x)) h2)))
      (mulf (shapeCast S16 (fun x => A ((Rect.unit (s := S32x16) o2 S1x16.size i2).toLoadRect.idx x)) h1')
        (shapeCast S16 (fun x => R ((Rect.unit (s := S96x2x128) o4 S1x1x16.size i4).toLoadRect.idx x)) h2'))
      = stepV A R w k g := by
  rw [load_act A i1 h1 k e1, load_act A i2 h1' (k + 16) e2, load_row R i3 h2 _ _ _ e3, load_row R i4 h2' _ _ _ e4]
  rfl

theorem t3_trip (d : Dev nD) (L : grid0.Coords) {k0_t2 : Fin k0_t2_loop.trips} {v13 : BitVec 32} {v255 v257 v259 v261 v263 v265 v267 v269 v271 v273 v275 v277 v279 v281 v283 v285 v287 v289 v291 v293 v295 v297 : FVec F S16 .f32}
    (f9 : S32x16.Idx → F .f32) (fr : S96x2x128.Idx → F .f32) (k : Fin k0_t3_loop.trips) (g : ℕ → FVec F S16 .f32) :
    iprop(((aspV).view.loc (thr d L) ↦{fullShare} f9) ∗ ((rowA).view.loc (thr d L) ↦{fullShare} fr))
      ⊢@{sProp 𝕄} wp frame (wpE (defs₀ (F := F)) 𝒱₀ (thr d L) none) Set.univ
        (k0_t3_body L tabM (Memref.isWhole_whole _) actM (Memref.isWhole_whole _) lstM (Memref.isWhole_whole _) biaM (Memref.isWhole_whole _) resM (Memref.isWhole_whole _) idxV (Memref.isWhole_whole _) actsV (Memref.isWhole_whole _) aspV (Memref.isWhole_whole _) rowA (Memref.isWhole_whole _) rowB (Memref.isWhole_whole _) outV (Memref.isWhole_whole _) biaV (Memref.isWhole_whole _) cc0_scratch7 cc0_scratch8 cc0_scoped0 cc0_scoped1 cc0_scoped2 cc0_scoped3 k0_t2 v13 v255 v257 v259 v261 v263 v265 v267 v269 v271 v273 v275 v277 v279 v281 v283 v285 v287 v289 v291 v293 v295 v297 k (tup g))
        fun r => iprop(⌜r = tup (fun v => stepV f9 fr v k.val (g v))⌝
          ∗ ((aspV).view.loc (thr d L) ↦{fullShare} f9) ∗ ((rowA).view.loc (thr d L) ↦{fullShare} fr)) := by
  unfold k0_t3_body tup
  iintro ⟨HA, HR⟩
  sl_exec
  sl_step
  isplitr [HA HR]
  · ipureintro
    exact congrArg₂ Prod.mk (step_eq f9 fr 0 k.val (g 0) (k0_off7_eq k) (k0_off8_eq k) (k0_off9_eq k 0) (k0_off9_eq k 1))
      (congrArg₂ Prod.mk (step_eq f9 fr 1 k.val (g 1) (k0_off7_eq k) (k0_off8_eq k) (k0_off10_eq k 0) (k0_off10_eq k 1))
      (congrArg₂ Prod.mk (step_eq f9 fr 2 k.val (g 2) (k0_off7_eq k) (k0_off8_eq k) (k0_off11_eq k 0) (k0_off11_eq k 1))
      (congrArg₂ Prod.mk (step_eq f9 fr 3 k.val (g 3) (k0_off7_eq k) (k0_off8_eq k) (k0_off12_eq k 0) (k0_off12_eq k 1))
      (congrArg₂ Prod.mk (step_eq f9 fr 4 k.val (g 4) (k0_off7_eq k) (k0_off8_eq k) (k0_off13_eq k 0) (k0_off13_eq k 1))
      (congrArg₂ Prod.mk (step_eq f9 fr 5 k.val (g 5) (k0_off7_eq k) (k0_off8_eq k) (k0_off14_eq k 0) (k0_off14_eq k 1))
      (congrArg₂ Prod.mk (step_eq f9 fr 6 k.val (g 6) (k0_off7_eq k) (k0_off8_eq k) (k0_off15_eq k 0) (k0_off15_eq k 1))
      (congrArg₂ Prod.mk (step_eq f9 fr 7 k.val (g 7) (k0_off7_eq k) (k0_off8_eq k) (k0_off16_eq k 0) (k0_off16_eq k 1))
      (congrArg₂ Prod.mk (step_eq f9 fr 8 k.val (g 8) (k0_off7_eq k) (k0_off8_eq k) (k0_off17_eq k 0) (k0_off17_eq k 1))
      (congrArg₂ Prod.mk (step_eq f9 fr 9 k.val (g 9) (k0_off7_eq k) (k0_off8_eq k) (k0_off18_eq k 0) (k0_off18_eq k 1))
      (congrArg₂ Prod.mk (step_eq f9 fr 10 k.val (g 10) (k0_off7_eq k) (k0_off8_eq k) (k0_off19_eq k 0) (k0_off19_eq k 1))
      (congrArg₂ Prod.mk (step_eq f9 fr 11 k.val (g 11) (k0_off7_eq k) (k0_off8_eq k) (k0_off20_eq k 0) (k0_off20_eq k 1))
      (congrArg₂ Prod.mk (step_eq f9 fr 12 k.val (g 12) (k0_off7_eq k) (k0_off8_eq k) (k0_off21_eq k 0) (k0_off21_eq k 1))
      (congrArg₂ Prod.mk (step_eq f9 fr 13 k.val (g 13) (k0_off7_eq k) (k0_off8_eq k) (k0_off22_eq k 0) (k0_off22_eq k 1))
      (congrArg₂ Prod.mk (step_eq f9 fr 14 k.val (g 14) (k0_off7_eq k) (k0_off8_eq k) (k0_off23_eq k 0) (k0_off23_eq k 1))
      (congrArg₂ Prod.mk (step_eq f9 fr 15 k.val (g 15) (k0_off7_eq k) (k0_off8_eq k) (k0_off24_eq k 0) (k0_off24_eq k 1))
      (congrArg₂ Prod.mk (step_eq f9 fr 16 k.val (g 16) (k0_off7_eq k) (k0_off8_eq k) (k0_off9_eq k 2) (k0_off9_eq k 3))
      (congrArg₂ Prod.mk (step_eq f9 fr 17 k.val (g 17) (k0_off7_eq k) (k0_off8_eq k) (k0_off10_eq k 2) (k0_off10_eq k 3))
      (congrArg₂ Prod.mk (step_eq f9 fr 18 k.val (g 18) (k0_off7_eq k) (k0_off8_eq k) (k0_off11_eq k 2) (k0_off11_eq k 3))
      (congrArg₂ Prod.mk (step_eq f9 fr 19 k.val (g 19) (k0_off7_eq k) (k0_off8_eq k) (k0_off12_eq k 2) (k0_off12_eq k 3))
      (congrArg₂ Prod.mk (step_eq f9 fr 20 k.val (g 20) (k0_off7_eq k) (k0_off8_eq k) (k0_off13_eq k 2) (k0_off13_eq k 3))
      (congrArg₂ Prod.mk (step_eq f9 fr 21 k.val (g 21) (k0_off7_eq k) (k0_off8_eq k) (k0_off14_eq k 2) (k0_off14_eq k 3))
      (congrArg₂ Prod.mk (step_eq f9 fr 22 k.val (g 22) (k0_off7_eq k) (k0_off8_eq k) (k0_off15_eq k 2) (k0_off15_eq k 3))
      ((step_eq f9 fr 23 k.val (g 23) (k0_off7_eq k) (k0_off8_eq k) (k0_off16_eq k 2) (k0_off16_eq k 3)))))))))))))))))))))))))
  isplitl [HA]
  · iexact HA
  · iexact HR

theorem t4_trip (d : Dev nD) (L : grid0.Coords) {k0_t2 : Fin k0_t2_loop.trips} {v13 : BitVec 32} {v401 v403 v405 v407 v409 v411 v413 v415 : FVec F S16 .f32}
    (f9 : S32x16.Idx → F .f32) (fr : S96x2x128.Idx → F .f32) (k : Fin k0_t4_loop.trips) (g : ℕ → FVec F S16 .f32) :
    iprop(((aspV).view.loc (thr d L) ↦{fullShare} f9) ∗ ((rowA).view.loc (thr d L) ↦{fullShare} fr))
      ⊢@{sProp 𝕄} wp frame (wpE (defs₀ (F := F)) 𝒱₀ (thr d L) none) Set.univ
        (k0_t4_body L tabM (Memref.isWhole_whole _) actM (Memref.isWhole_whole _) lstM (Memref.isWhole_whole _) biaM (Memref.isWhole_whole _) resM (Memref.isWhole_whole _) idxV (Memref.isWhole_whole _) actsV (Memref.isWhole_whole _) aspV (Memref.isWhole_whole _) rowA (Memref.isWhole_whole _) rowB (Memref.isWhole_whole _) outV (Memref.isWhole_whole _) biaV (Memref.isWhole_whole _) cc0_scratch7 cc0_scratch8 cc0_scoped0 cc0_scoped1 cc0_scoped2 cc0_scoped3 k0_t2 v13 v401 v403 v405 v407 v409 v411 v413 v415 k (tup g))
        fun r => iprop(⌜r = tup (fun v => stepV f9 fr (v + 24) k.val (g v))⌝
          ∗ ((aspV).view.loc (thr d L) ↦{fullShare} f9) ∗ ((rowA).view.loc (thr d L) ↦{fullShare} fr)) := by
  unfold k0_t4_body tup
  iintro ⟨HA, HR⟩
  sl_exec
  sl_step
  isplitr [HA HR]
  · ipureintro
    exact congrArg₂ Prod.mk (step_eq f9 fr 24 k.val (g 0) (k0_off49_eq k) (k0_off50_eq k) (k0_off51_eq k 0) (k0_off51_eq k 1))
      (congrArg₂ Prod.mk (step_eq f9 fr 25 k.val (g 1) (k0_off49_eq k) (k0_off50_eq k) (k0_off52_eq k 0) (k0_off52_eq k 1))
      (congrArg₂ Prod.mk (step_eq f9 fr 26 k.val (g 2) (k0_off49_eq k) (k0_off50_eq k) (k0_off53_eq k 0) (k0_off53_eq k 1))
      (congrArg₂ Prod.mk (step_eq f9 fr 27 k.val (g 3) (k0_off49_eq k) (k0_off50_eq k) (k0_off54_eq k 0) (k0_off54_eq k 1))
      (congrArg₂ Prod.mk (step_eq f9 fr 28 k.val (g 4) (k0_off49_eq k) (k0_off50_eq k) (k0_off55_eq k 0) (k0_off55_eq k 1))
      (congrArg₂ Prod.mk (step_eq f9 fr 29 k.val (g 5) (k0_off49_eq k) (k0_off50_eq k) (k0_off56_eq k 0) (k0_off56_eq k 1))
      (congrArg₂ Prod.mk (step_eq f9 fr 30 k.val (g 6) (k0_off49_eq k) (k0_off50_eq k) (k0_off57_eq k 0) (k0_off57_eq k 1))
      (congrArg₂ Prod.mk (step_eq f9 fr 31 k.val (g 7) (k0_off49_eq k) (k0_off50_eq k) (k0_off58_eq k 0) (k0_off58_eq k 1))
      (congrArg₂ Prod.mk (step_eq f9 fr 32 k.val (g 8) (k0_off49_eq k) (k0_off50_eq k) (k0_off59_eq k 0) (k0_off59_eq k 1))
      (congrArg₂ Prod.mk (step_eq f9 fr 33 k.val (g 9) (k0_off49_eq k) (k0_off50_eq k) (k0_off60_eq k 0) (k0_off60_eq k 1))
      (congrArg₂ Prod.mk (step_eq f9 fr 34 k.val (g 10) (k0_off49_eq k) (k0_off50_eq k) (k0_off61_eq k 0) (k0_off61_eq k 1))
      (congrArg₂ Prod.mk (step_eq f9 fr 35 k.val (g 11) (k0_off49_eq k) (k0_off50_eq k) (k0_off62_eq k 0) (k0_off62_eq k 1))
      (congrArg₂ Prod.mk (step_eq f9 fr 36 k.val (g 12) (k0_off49_eq k) (k0_off50_eq k) (k0_off63_eq k 0) (k0_off63_eq k 1))
      (congrArg₂ Prod.mk (step_eq f9 fr 37 k.val (g 13) (k0_off49_eq k) (k0_off50_eq k) (k0_off64_eq k 0) (k0_off64_eq k 1))
      (congrArg₂ Prod.mk (step_eq f9 fr 38 k.val (g 14) (k0_off49_eq k) (k0_off50_eq k) (k0_off65_eq k 0) (k0_off65_eq k 1))
      (congrArg₂ Prod.mk (step_eq f9 fr 39 k.val (g 15) (k0_off49_eq k) (k0_off50_eq k) (k0_off66_eq k 0) (k0_off66_eq k 1))
      (congrArg₂ Prod.mk (step_eq f9 fr 40 k.val (g 16) (k0_off49_eq k) (k0_off50_eq k) (k0_off51_eq k 2) (k0_off51_eq k 3))
      (congrArg₂ Prod.mk (step_eq f9 fr 41 k.val (g 17) (k0_off49_eq k) (k0_off50_eq k) (k0_off52_eq k 2) (k0_off52_eq k 3))
      (congrArg₂ Prod.mk (step_eq f9 fr 42 k.val (g 18) (k0_off49_eq k) (k0_off50_eq k) (k0_off53_eq k 2) (k0_off53_eq k 3))
      (congrArg₂ Prod.mk (step_eq f9 fr 43 k.val (g 19) (k0_off49_eq k) (k0_off50_eq k) (k0_off54_eq k 2) (k0_off54_eq k 3))
      (congrArg₂ Prod.mk (step_eq f9 fr 44 k.val (g 20) (k0_off49_eq k) (k0_off50_eq k) (k0_off55_eq k 2) (k0_off55_eq k 3))
      (congrArg₂ Prod.mk (step_eq f9 fr 45 k.val (g 21) (k0_off49_eq k) (k0_off50_eq k) (k0_off56_eq k 2) (k0_off56_eq k 3))
      (congrArg₂ Prod.mk (step_eq f9 fr 46 k.val (g 22) (k0_off49_eq k) (k0_off50_eq k) (k0_off57_eq k 2) (k0_off57_eq k 3))
      ((step_eq f9 fr 47 k.val (g 23) (k0_off49_eq k) (k0_off50_eq k) (k0_off58_eq k 2) (k0_off58_eq k 3)))))))))))))))))))))))))
  isplitl [HA]
  · iexact HA
  · iexact HR

theorem t5_trip (d : Dev nD) (L : grid0.Coords) {k0_t2 : Fin k0_t2_loop.trips} {v553 : BitVec 32} {v788 v790 v792 v794 v796 v798 v800 v802 v804 v806 v808 v810 v812 v814 v816 v818 v820 : FVec F S16 .f32} {v821 : Vec F S16 .f32}
    (f9 : S32x16.Idx → F .f32) (fr : S96x2x128.Idx → F .f32) (k : Fin k0_t5_loop.trips) (g : ℕ → FVec F S16 .f32) :
    iprop(((aspV).view.loc (thr d L) ↦{fullShare} f9) ∗ ((rowB).view.loc (thr d L) ↦{fullShare} fr))
      ⊢@{sProp 𝕄} wp frame (wpE (defs₀ (F := F)) 𝒱₀ (thr d L) none) Set.univ
        (k0_t5_body L tabM (Memref.isWhole_whole _) actM (Memref.isWhole_whole _) lstM (Memref.isWhole_whole _) biaM (Memref.isWhole_whole _) resM (Memref.isWhole_whole _) idxV (Memref.isWhole_whole _) actsV (Memref.isWhole_whole _) aspV (Memref.isWhole_whole _) rowA (Memref.isWhole_whole _) rowB (Memref.isWhole_whole _) outV (Memref.isWhole_whole _) biaV (Memref.isWhole_whole _) cc0_scratch7 cc0_scratch8 cc0_scoped0 cc0_scoped1 cc0_scoped2 cc0_scoped3 k0_t2 v553 v788 v790 v792 v794 v796 v798 v800 v802 v804 v806 v808 v810 v812 v814 v816 v818 v820 v821 k (tup g))
        fun r => iprop(⌜r = tup (fun v => stepV f9 fr v k.val (g v))⌝
          ∗ ((aspV).view.loc (thr d L) ↦{fullShare} f9) ∗ ((rowB).view.loc (thr d L) ↦{fullShare} fr)) := by
  unfold k0_t5_body tup
  iintro ⟨HA, HR⟩
  sl_exec
  sl_step
  isplitr [HA HR]
  · ipureintro
    exact congrArg₂ Prod.mk (step_eq f9 fr 0 k.val (g 0) (k0_off94_eq k) (k0_off95_eq k) (k0_off96_eq k 0) (k0_off96_eq k 1))
      (congrArg₂ Prod.mk (step_eq f9 fr 1 k.val (g 1) (k0_off94_eq k) (k0_off95_eq k) (k0_off97_eq k 0) (k0_off97_eq k 1))
      (congrArg₂ Prod.mk (step_eq f9 fr 2 k.val (g 2) (k0_off94_eq k) (k0_off95_eq k) (k0_off98_eq k 0) (k0_off98_eq k 1))
      (congrArg₂ Prod.mk (step_eq f9 fr 3 k.val (g 3) (k0_off94_eq k) (k0_off95_eq k) (k0_off99_eq k 0) (k0_off99_eq k 1))
      (congrArg₂ Prod.mk (step_eq f9 fr 4 k.val (g 4) (k0_off94_eq k) (k0_off95_eq k) (k0_off100_eq k 0) (k0_off100_eq k 1))
      (congrArg₂ Prod.mk (step_eq f9 fr 5 k.val (g 5) (k0_off94_eq k) (k0_off95_eq k) (k0_off101_eq k 0) (k0_off101_eq k 1))
      (congrArg₂ Prod.mk (step_eq f9 fr 6 k.val (g 6) (k0_off94_eq k) (k0_off95_eq k) (k0_off102_eq k 0) (k0_off102_eq k 1))
      (congrArg₂ Prod.mk (step_eq f9 fr 7 k.val (g 7) (k0_off94_eq k) (k0_off95_eq k) (k0_off103_eq k 0) (k0_off103_eq k 1))
      (congrArg₂ Prod.mk (step_eq f9 fr 8 k.val (g 8) (k0_off94_eq k) (k0_off95_eq k) (k0_off104_eq k 0) (k0_off104_eq k 1))
      (congrArg₂ Prod.mk (step_eq f9 fr 9 k.val (g 9) (k0_off94_eq k) (k0_off95_eq k) (k0_off105_eq k 0) (k0_off105_eq k 1))
      (congrArg₂ Prod.mk (step_eq f9 fr 10 k.val (g 10) (k0_off94_eq k) (k0_off95_eq k) (k0_off106_eq k 0) (k0_off106_eq k 1))
      (congrArg₂ Prod.mk (step_eq f9 fr 11 k.val (g 11) (k0_off94_eq k) (k0_off95_eq k) (k0_off107_eq k 0) (k0_off107_eq k 1))
      (congrArg₂ Prod.mk (step_eq f9 fr 12 k.val (g 12) (k0_off94_eq k) (k0_off95_eq k) (k0_off108_eq k 0) (k0_off108_eq k 1))
      (congrArg₂ Prod.mk (step_eq f9 fr 13 k.val (g 13) (k0_off94_eq k) (k0_off95_eq k) (k0_off109_eq k 0) (k0_off109_eq k 1))
      (congrArg₂ Prod.mk (step_eq f9 fr 14 k.val (g 14) (k0_off94_eq k) (k0_off95_eq k) (k0_off110_eq k 0) (k0_off110_eq k 1))
      (congrArg₂ Prod.mk (step_eq f9 fr 15 k.val (g 15) (k0_off94_eq k) (k0_off95_eq k) (k0_off111_eq k 0) (k0_off111_eq k 1))
      (congrArg₂ Prod.mk (step_eq f9 fr 16 k.val (g 16) (k0_off94_eq k) (k0_off95_eq k) (k0_off96_eq k 2) (k0_off96_eq k 3))
      (congrArg₂ Prod.mk (step_eq f9 fr 17 k.val (g 17) (k0_off94_eq k) (k0_off95_eq k) (k0_off97_eq k 2) (k0_off97_eq k 3))
      (congrArg₂ Prod.mk (step_eq f9 fr 18 k.val (g 18) (k0_off94_eq k) (k0_off95_eq k) (k0_off98_eq k 2) (k0_off98_eq k 3))
      (congrArg₂ Prod.mk (step_eq f9 fr 19 k.val (g 19) (k0_off94_eq k) (k0_off95_eq k) (k0_off99_eq k 2) (k0_off99_eq k 3))
      (congrArg₂ Prod.mk (step_eq f9 fr 20 k.val (g 20) (k0_off94_eq k) (k0_off95_eq k) (k0_off100_eq k 2) (k0_off100_eq k 3))
      (congrArg₂ Prod.mk (step_eq f9 fr 21 k.val (g 21) (k0_off94_eq k) (k0_off95_eq k) (k0_off101_eq k 2) (k0_off101_eq k 3))
      (congrArg₂ Prod.mk (step_eq f9 fr 22 k.val (g 22) (k0_off94_eq k) (k0_off95_eq k) (k0_off102_eq k 2) (k0_off102_eq k 3))
      ((step_eq f9 fr 23 k.val (g 23) (k0_off94_eq k) (k0_off95_eq k) (k0_off103_eq k 2) (k0_off103_eq k 3)))))))))))))))))))))))))
  isplitl [HA]
  · iexact HA
  · iexact HR

theorem t6_trip (d : Dev nD) (L : grid0.Coords) {k0_t2 : Fin k0_t2_loop.trips} {v553 : BitVec 32} {v934 v936 v938 v940 v942 v944 v946 v948 v950 v952 v954 v956 v958 v960 v962 v964 v966 v968 v970 v972 v974 v976 v978 : FVec F S16 .f32} {v979 : Vec F S16 .f32}
    (f9 : S32x16.Idx → F .f32) (fr : S96x2x128.Idx → F .f32) (k : Fin k0_t6_loop.trips) (g : ℕ → FVec F S16 .f32) :
    iprop(((aspV).view.loc (thr d L) ↦{fullShare} f9) ∗ ((rowB).view.loc (thr d L) ↦{fullShare} fr))
      ⊢@{sProp 𝕄} wp frame (wpE (defs₀ (F := F)) 𝒱₀ (thr d L) none) Set.univ
        (k0_t6_body L tabM (Memref.isWhole_whole _) actM (Memref.isWhole_whole _) lstM (Memref.isWhole_whole _) biaM (Memref.isWhole_whole _) resM (Memref.isWhole_whole _) idxV (Memref.isWhole_whole _) actsV (Memref.isWhole_whole _) aspV (Memref.isWhole_whole _) rowA (Memref.isWhole_whole _) rowB (Memref.isWhole_whole _) outV (Memref.isWhole_whole _) biaV (Memref.isWhole_whole _) cc0_scratch7 cc0_scratch8 cc0_scoped0 cc0_scoped1 cc0_scoped2 cc0_scoped3 k0_t2 v553 v934 v936 v938 v940 v942 v944 v946 v948 v950 v952 v954 v956 v958 v960 v962 v964 v966 v968 v970 v972 v974 v976 v978 v979 k (tup g))
        fun r => iprop(⌜r = tup (fun v => stepV f9 fr (v + 24) k.val (g v))⌝
          ∗ ((aspV).view.loc (thr d L) ↦{fullShare} f9) ∗ ((rowB).view.loc (thr d L) ↦{fullShare} fr)) := by
  unfold k0_t6_body tup
  iintro ⟨HA, HR⟩
  sl_exec
  sl_step
  isplitr [HA HR]
  · ipureintro
    exact congrArg₂ Prod.mk (step_eq f9 fr 24 k.val (g 0) (k0_off136_eq k) (k0_off137_eq k) (k0_off138_eq k 0) (k0_off138_eq k 1))
      (congrArg₂ Prod.mk (step_eq f9 fr 25 k.val (g 1) (k0_off136_eq k) (k0_off137_eq k) (k0_off139_eq k 0) (k0_off139_eq k 1))
      (congrArg₂ Prod.mk (step_eq f9 fr 26 k.val (g 2) (k0_off136_eq k) (k0_off137_eq k) (k0_off140_eq k 0) (k0_off140_eq k 1))
      (congrArg₂ Prod.mk (step_eq f9 fr 27 k.val (g 3) (k0_off136_eq k) (k0_off137_eq k) (k0_off141_eq k 0) (k0_off141_eq k 1))
      (congrArg₂ Prod.mk (step_eq f9 fr 28 k.val (g 4) (k0_off136_eq k) (k0_off137_eq k) (k0_off142_eq k 0) (k0_off142_eq k 1))
      (congrArg₂ Prod.mk (step_eq f9 fr 29 k.val (g 5) (k0_off136_eq k) (k0_off137_eq k) (k0_off143_eq k 0) (k0_off143_eq k 1))
      (congrArg₂ Prod.mk (step_eq f9 fr 30 k.val (g 6) (k0_off136_eq k) (k0_off137_eq k) (k0_off144_eq k 0) (k0_off144_eq k 1))
      (congrArg₂ Prod.mk (step_eq f9 fr 31 k.val (g 7) (k0_off136_eq k) (k0_off137_eq k) (k0_off145_eq k 0) (k0_off145_eq k 1))
      (congrArg₂ Prod.mk (step_eq f9 fr 32 k.val (g 8) (k0_off136_eq k) (k0_off137_eq k) (k0_off146_eq k 0) (k0_off146_eq k 1))
      (congrArg₂ Prod.mk (step_eq f9 fr 33 k.val (g 9) (k0_off136_eq k) (k0_off137_eq k) (k0_off147_eq k 0) (k0_off147_eq k 1))
      (congrArg₂ Prod.mk (step_eq f9 fr 34 k.val (g 10) (k0_off136_eq k) (k0_off137_eq k) (k0_off148_eq k 0) (k0_off148_eq k 1))
      (congrArg₂ Prod.mk (step_eq f9 fr 35 k.val (g 11) (k0_off136_eq k) (k0_off137_eq k) (k0_off149_eq k 0) (k0_off149_eq k 1))
      (congrArg₂ Prod.mk (step_eq f9 fr 36 k.val (g 12) (k0_off136_eq k) (k0_off137_eq k) (k0_off150_eq k 0) (k0_off150_eq k 1))
      (congrArg₂ Prod.mk (step_eq f9 fr 37 k.val (g 13) (k0_off136_eq k) (k0_off137_eq k) (k0_off151_eq k 0) (k0_off151_eq k 1))
      (congrArg₂ Prod.mk (step_eq f9 fr 38 k.val (g 14) (k0_off136_eq k) (k0_off137_eq k) (k0_off152_eq k 0) (k0_off152_eq k 1))
      (congrArg₂ Prod.mk (step_eq f9 fr 39 k.val (g 15) (k0_off136_eq k) (k0_off137_eq k) (k0_off153_eq k 0) (k0_off153_eq k 1))
      (congrArg₂ Prod.mk (step_eq f9 fr 40 k.val (g 16) (k0_off136_eq k) (k0_off137_eq k) (k0_off138_eq k 2) (k0_off138_eq k 3))
      (congrArg₂ Prod.mk (step_eq f9 fr 41 k.val (g 17) (k0_off136_eq k) (k0_off137_eq k) (k0_off139_eq k 2) (k0_off139_eq k 3))
      (congrArg₂ Prod.mk (step_eq f9 fr 42 k.val (g 18) (k0_off136_eq k) (k0_off137_eq k) (k0_off140_eq k 2) (k0_off140_eq k 3))
      (congrArg₂ Prod.mk (step_eq f9 fr 43 k.val (g 19) (k0_off136_eq k) (k0_off137_eq k) (k0_off141_eq k 2) (k0_off141_eq k 3))
      (congrArg₂ Prod.mk (step_eq f9 fr 44 k.val (g 20) (k0_off136_eq k) (k0_off137_eq k) (k0_off142_eq k 2) (k0_off142_eq k 3))
      (congrArg₂ Prod.mk (step_eq f9 fr 45 k.val (g 21) (k0_off136_eq k) (k0_off137_eq k) (k0_off143_eq k 2) (k0_off143_eq k 3))
      (congrArg₂ Prod.mk (step_eq f9 fr 46 k.val (g 22) (k0_off136_eq k) (k0_off137_eq k) (k0_off144_eq k 2) (k0_off144_eq k 3))
      ((step_eq f9 fr 47 k.val (g 23) (k0_off136_eq k) (k0_off137_eq k) (k0_off145_eq k 2) (k0_off145_eq k 3)))))))))))))))))))))))))
  isplitl [HA]
  · iexact HA
  · iexact HR

end Cert.Proof.Dec

end
-- ==== Proof.Values.lean ====
/-
  What the transfers and the stores of a token leave, as functions: the gathered rows, the splatted activations, the
  rows of the result.
-/
module

public import proofs.«01_k».proof.Proof.Inner

@[expose] public section

noncomputable section

namespace Cert.Proof.Dec

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

/-- The index `(r, u, l)` of the table of row segments, every number reduced into its range. -/
def ixT (r u l : ℕ) : S73728x2x128.Idx
  | 0 => ⟨r % 73728, Nat.mod_lt _ (by decide)⟩
  | 1 => ⟨u % 2, Nat.mod_lt _ (by decide)⟩
  | 2 => ⟨l % 128, Nat.mod_lt _ (by decide)⟩
  | ⟨_ + 3, h⟩ => absurd h (Nat.not_lt.2 (Nat.le_add_left _ _))

/-- The index `(r, j)` of a chunk's lists. -/
def ixL (r j : ℕ) : S16x96.Idx
  | 0 => ⟨r % 16, Nat.mod_lt _ (by decide)⟩
  | 1 => ⟨j % 96, Nat.mod_lt _ (by decide)⟩
  | ⟨_ + 2, h⟩ => absurd h (Nat.not_lt.2 (Nat.le_add_left _ _))

/-- The index `n` of a chunk's activations. -/
def ix8 (n : ℕ) : S512.Idx
  | 0 => ⟨n % 512, Nat.mod_lt _ (by decide)⟩
  | ⟨_ + 1, h⟩ => absurd h (Nat.not_lt.2 (Nat.le_add_left _ _))

/-- The index `n` of the bias. -/
def ixB (n : ℕ) : S768.Idx
  | 0 => ⟨n % 768, Nat.mod_lt _ (by decide)⟩
  | ⟨_ + 1, h⟩ => absurd h (Nat.not_lt.2 (Nat.le_add_left _ _))

/-- The lane `n`, reduced. -/
def lane (n : ℕ) : S16.Idx
  | 0 => ⟨n % 16, Nat.mod_lt _ (by decide)⟩
  | ⟨_ + 1, h⟩ => absurd h (Nat.not_lt.2 (Nat.le_add_left _ _))

/-! ## The gathered rows -/

/-- The 96 row segments the list's row `r` names. -/
def gath (T : S73728x2x128.Idx → F .f32) (l : S16x96.Idx → BitVec 32) (r : ℕ) : S96x2x128.Idx → F .f32 :=
  fun x => T (ixT (l (ixL r (x 0).val)).toNat (x 1).val (x 2).val)

/-- The table as a gather reads it. -/
abbrev tabS (inb : ∀ a, (![0, 0, 0] : Fin 3 → ℕ) a + S73728x2x128.size a ≤ S73728x2x128.size a) :
    Memref sig .scVector .hbm S73728x2x128 .f32 :=
  tabM.slice (Rect.unit (s := S73728x2x128) ![0, 0, 0] S73728x2x128.size inb) (fun _ => rfl)

/-- A row of the chunk's lists as a gather reads it. -/
abbrev lstS (off : Fin 2 → ℕ) (inb : ∀ a, off a + S1x96.size a ≤ S16x96.size a) : Memref sig .scVector .vmem S96 .i32 :=
  (idxV.slice (Rect.unit (s := S16x96) off S1x96.size inb) (fun _ => rfl)).squeeze S96 squeezes_S1x96_S96

omit [FloatOps F] in
theorem read_lstS (l : S16x96.Idx → BitVec 32) {off : Fin 2 → ℕ} (inb : ∀ a, off a + S1x96.size a ≤ S16x96.size a)
    (r : ℕ) (hoff : off = ![r, 0]) (x : S96.Idx) :
    (lstS off inb).view.read (Elt F) l x = l (ixL r (x 0).val) := by
  subst hoff
  have hr : r < 16 := by have := inb 0; simp at this; omega
  have hx : (x 0).val < 96 := (x 0).isLt
  have e : Shape.reshapeEquiv squeezes_S1x96_S96.numel_eq x
      = (fun | 0 => ⟨0, Nat.one_pos⟩ | 1 => ⟨(x 0).val, hx⟩ | ⟨_ + 2, h⟩ => absurd h (Nat.not_lt.2 (Nat.le_add_left _ _)) : S1x96.Idx) :=
    Shape.reshapeEquiv_eq_of_rowMajor _ (by rw [Shape.rowMajor_val_two, Shape.rowMajor_val_one]; simp)
  show l ((Rect.unit (s := S16x96) ![r, 0] S1x96.size inb).emb (Shape.reshapeEquiv squeezes_S1x96_S96.numel_eq x)) = _
  rw [e]
  refine congrArg l (funext fun a => ?_)
  match a with
  | 0 => exact Fin.ext (by show r + 1 * 0 = r % 16; omega)
  | 1 => exact Fin.ext (by show 0 + 1 * (x 0).val = (x 0).val % 96; omega)

omit [FloatOps F] in
theorem gath_eq (T : S73728x2x128.Idx → F .f32) (l : S16x96.Idx → BitVec 32) {off : Fin 2 → ℕ}
    (inb : ∀ a, off a + S1x96.size a ≤ S16x96.size a) (i3 : ∀ a, (![0, 0, 0] : Fin 3 → ℕ) a + S73728x2x128.size a ≤ S73728x2x128.size a)
    (r : ℕ) (hoff : off = ![r, 0]) (hg : S73728x2x128.Gathers 0 S96x2x128) (hn : S96.numel = S96x2x128.size hg.axis')
    (hin : ∀ x, ((lstS off inb).view.read (Elt F) l x).toNat < S73728x2x128.size hg.axis) :
    SparseCore.gatherPayload hg ((tabS i3).view.read (Elt F) T) (SparseCore.rows ((lstS off inb).view.read (Elt F) l) hn hin) = gath T l r := by
  funext x
  have h0 : (x 0).val < 96 := (x 0).isLt
  have h1 : (x 1).val < 2 := (x 1).isLt
  have h2 : (x 2).val < 128 := (x 2).isLt
  have e : ((S96.rowMajor.symm ((x hg.axis').cast hn.symm)) 0).val = (x 0).val :=
    (Shape.rowMajor_val_one _).symm.trans (congrArg Fin.val (Equiv.apply_symm_apply _ _))
  have hk : (SparseCore.rows ((lstS off inb).view.read (Elt F) l) hn hin (x hg.axis')).val = (l (ixL r (x 0).val)).toNat := by
    show ((lstS off inb).view.read (Elt F) l (S96.rowMajor.symm ((x hg.axis').cast hn.symm))).toNat = _
    rw [read_lstS l inb r hoff, e]
  have hlt : (l (ixL r (x 0).val)).toNat < 73728 := hk ▸ (SparseCore.rows ((lstS off inb).view.read (Elt F) l) hn hin (x hg.axis')).isLt
  show T ((Rect.unit (s := S73728x2x128) ![0, 0, 0] S73728x2x128.size i3).emb (hg.idx (SparseCore.rows ((lstS off inb).view.read (Elt F) l) hn hin) x)) = _
  refine congrArg T (funext fun a => ?_)
  match a with
  | 0 =>
    refine Fin.ext ?_
    show 0 + 1 * (hg.idx (SparseCore.rows ((lstS off inb).view.read (Elt F) l) hn hin) x hg.axis).val = (l (ixL r (x 0).val)).toNat % 73728
    rw [hg.idx_axis, hk]; omega
  | 1 =>
    refine Fin.ext ?_
    show 0 + 1 * (hg.idx (SparseCore.rows ((lstS off inb).view.read (Elt F) l) hn hin) x 1).val = (x 1).val % 2
    rw [hg.idx_of_ne _ _ 1 (by decide)]
    show 0 + 1 * (x 1).val = _
    omega
  | 2 =>
    refine Fin.ext ?_
    show 0 + 1 * (hg.idx (SparseCore.rows ((lstS off inb).view.read (Elt F) l) hn hin) x 2).val = (x 2).val % 128
    rw [hg.idx_of_ne _ _ 2 (by decide)]
    show 0 + 1 * (x 2).val = _
    omega

/-! ## The splatted activations -/

/-- Token `t`'s 32 activations, each on sixteen lanes. -/
def spl (f8 : S512.Idx → F .f32) (t : ℕ) : S32x16.Idx → F .f32 := fun x => f8 (ix8 (32 * t + (x 0).val))

/-- The first `n` of them, over what the block held. -/
def splN (f : S32x16.Idx → F .f32) (f8 : S512.Idx → F .f32) (t n : ℕ) : S32x16.Idx → F .f32 :=
  fun x => if (x 0).val < n then spl f8 t x else f x

omit [FloatOps F] in
theorem splN_zero (f : S32x16.Idx → F .f32) (f8 : S512.Idx → F .f32) (t : ℕ) : f = splN f f8 t 0 := by
  funext x; simp [splN]

omit [FloatOps F] in
theorem splN_all (f : S32x16.Idx → F .f32) (f8 : S512.Idx → F .f32) (t : ℕ) : splN f f8 t 32 = spl f8 t := by
  funext x
  have : (x 0).val < 32 := (x 0).isLt
  simp [splN, this]

omit [FloatOps F] in
/-- Lane `j` of a vector, splatted, read anywhere. -/
theorem splat_at (v : S16.Idx → F .f32) (j : ℕ) (h2 : S16.Slices ![j] S1) (h3 : ∀ a, (![0] : Fin 1 → ℕ) a < S1.size a)
    (h4 : S16.ShapeCasts S1x16) (x : S1x16.Idx) :
    shapeCast S1x16 (broadcast S16 (extractAt ![0] (extractStridedSlice S1 ![j] v h2) h3)) h4 x = v (lane j) := by
  have hj : j < 16 := by have := h2.2 0; simp at this; omega
  refine congrArg v (funext fun a => ?_)
  match a with
  | 0 => exact Fin.ext (by show j + 0 = j % 16; omega)

/-- One lane of a load of sixteen activations, splatted. -/
theorem splat_pay (f8 : S512.Idx → F .f32) {o : Fin 1 → ℕ} (i1 : ∀ a, o a + S16.size a ≤ S512.size a) (b j : ℕ) (ho : o = ![b])
    (h1 : S16.ShapeCasts S16) (h2 : S16.Slices ![j] S1) (h3 : ∀ a, (![0] : Fin 1 → ℕ) a < S1.size a) (h4 : S16.ShapeCasts S1x16) (x : S1x16.Idx) :
    shapeCast S1x16 (broadcast S16 (extractAt ![0] (extractStridedSlice S1 ![j]
      (shapeCast S16 (fun x => f8 ((Rect.unit (s := S512) o S16.size i1).toLoadRect.idx x)) h1) h2) h3)) h4 x = f8 (ix8 (b + j)) := by
  subst ho
  have hj : j < 16 := by have := h2.2 0; simp at this; omega
  have hb : b + 16 ≤ 512 := by have := i1 0; simpa using this
  refine (splat_at (shapeCast S16 _ h1) j h2 h3 h4 x).trans ?_
  refine (shapeCast_apply _ h1 _ (lane j) rfl).trans ?_
  refine congrArg f8 (funext fun a => ?_)
  match a with
  | 0 => exact Fin.ext (by show b + 1 * (j % 16) = (b + j) % 512; omega)

/-- One store of the splats. -/
theorem spl_store (f : S32x16.Idx → F .f32) (f8 : S512.Idx → F .f32) (t n : ℕ) (z : S32x16.Idx → F .f32) {off : Fin 2 → ℕ}
    (inb : ∀ a, off a + S1x16.size a ≤ S32x16.size a) (w : S1x16.Idx → F .f32) (hw : ∀ x, w x = f8 (ix8 (32 * t + n)))
    (hz : z = splN f f8 t n) (hoff : off = ![n, 0]) :
    (aspV.view.slice (Rect.unit (s := S32x16) off S1x16.size inb)).write (Elt F) z w Finset.univ = splN f f8 t (n + 1) := by
  subst hz hoff
  refine (View.write_whole_slice_unit cc0_scratch2 _ _ _ _ _).trans ?_
  funext x
  unfold updateSlice
  have h1 : (x 1).val < 16 := (x 1).isLt
  split
  · next h =>
    have h0 := h 0
    have h0' : n ≤ (x 0).val ∧ (x 0).val < n + 1 := h0
    have e : (x 0).val = n := by omega
    rw [hw]
    simp [splN, spl, e]
  · next h =>
    have hne : (x 0).val ≠ n := fun e => h fun a => by
      match a with
      | 0 => exact ⟨by show n ≤ (x 0).val; omega, by show (x 0).val < n + 1; omega⟩
      | 1 => exact ⟨Nat.zero_le _, by show (x 1).val < 0 + 16; omega⟩
    by_cases hl : (x 0).val < n
    · simp [splN, hl, Nat.lt_succ_of_lt hl]
    · have : ¬ (x 0).val < n + 1 := by omega
      simp [splN, hl, this]

/-- A list of stores, the last first, that are the splats of activations `0`, …, `n - 1` of token `t`. -/
def SplList (f8 : S512.Idx → F .f32) (t : ℕ) : List (View.Piece (Elt F) S32x16 .f32) → ℕ → Prop
  | [], n => n = 0
  | P :: L, n => ∃ k, n = k + 1 ∧ (∃ (off : Fin 2 → ℕ) (inb : ∀ a, off a + S1x16.size a ≤ S32x16.size a) (w : S1x16.Idx → F .f32),
      P = ⟨Rect.unit (s := S32x16) off S1x16.size inb, w⟩ ∧ off = ![k, 0] ∧ ∀ x, w x = f8 (ix8 (32 * t + k))) ∧ SplList f8 t L k

theorem spl_writes (f : S32x16.Idx → F .f32) (f8 : S512.Idx → F .f32) (t : ℕ) (L : List (View.Piece (Elt F) S32x16 .f32)) :
    ∀ n, SplList f8 t L n → aspV.view.writes (Elt F) f L = splN f f8 t n := by
  induction L with
  | nil => intro n h; cases h; exact splN_zero f f8 t
  | cons P L ih =>
    rintro n ⟨k, rfl, ⟨off, inb, w, rfl, hoff, hw⟩, h⟩
    exact spl_store f f8 t k _ inb w hw (ih k h) hoff

/-- Thirty-two such stores leave the splats. -/
theorem spl_done (f : S32x16.Idx → F .f32) (f8 : S512.Idx → F .f32) (t : ℕ) (L : List (View.Piece (Elt F) S32x16 .f32))
    (h : SplList f8 t L 32) : aspV.view.writes (Elt F) f L = spl f8 t :=
  (spl_writes f f8 t L 32 h).trans (splN_all f f8 t)

/-! ## The rows of the result -/

/-- The bias's sixteen lanes at vector `w`. -/
def biasV (b : S768.Idx → F .f32) (w : ℕ) : FVec F S16 .f32 := fun l => b (ixB (16 * w + (l 0).val))

theorem load_bias (b : S768.Idx → F .f32) {o : Fin 1 → ℕ} (i1 : ∀ a, o a + S16.size a ≤ S768.size a) (h1 : S16.ShapeCasts S16)
    (w : ℕ) (ho : o = ![16 * w]) :
    shapeCast S16 (fun x => b ((Rect.unit (s := S768) o S16.size i1).toLoadRect.idx x)) h1 = biasV b w := by
  subst ho
  have hb : 16 * w + 16 ≤ 768 := by have := i1 0; simpa using this
  funext l
  refine (shapeCast_apply _ h1 _ _ rfl).trans ?_
  have hl : (l 0).val < 16 := (l 0).isLt
  refine congrArg b (funext fun a => ?_)
  match a with
  | 0 => exact Fin.ext (by show 16 * w + 1 * (l 0).val = (16 * w + (l 0).val) % 768; omega)

/-- Vectors `c`, …, `c + n - 1` of row `t` written with `g 0`, …, over `f`. -/
def updN (f : S16x768.Idx → F .f32) (t c : ℕ) (g : ℕ → FVec F S16 .f32) (n : ℕ) : S16x768.Idx → F .f32 :=
  fun x => if (x 0).val = t ∧ 16 * c ≤ (x 1).val ∧ (x 1).val < 16 * (c + n) then g ((x 1).val / 16 - c) (lane (x 1).val) else f x

omit [FloatOps F] in
theorem updN_zero (f : S16x768.Idx → F .f32) (t c : ℕ) (g : ℕ → FVec F S16 .f32) : f = updN f t c g 0 := by
  funext x
  have : ¬ ((x 0).val = t ∧ 16 * c ≤ (x 1).val ∧ (x 1).val < 16 * (c + 0)) := by omega
  exact (if_neg this).symm

/-- One store of a row's vector. -/
theorem upd_store (f : S16x768.Idx → F .f32) (t c : ℕ) (g : ℕ → FVec F S16 .f32) (n : ℕ) (z : S16x768.Idx → F .f32) {off : Fin 2 → ℕ}
    (inb : ∀ a, off a + S1x16.size a ≤ S16x768.size a) (h : S16.ShapeCasts S1x16)
    (hz : z = updN f t c g n) (hoff : off = ![t, 16 * (c + n)]) :
    (outV.view.slice (Rect.unit (s := S16x768) off S1x16.size inb)).write (Elt F) z (shapeCast S1x16 (g n) h) Finset.univ
      = updN f t c g (n + 1) := by
  subst hz hoff
  refine (View.write_whole_slice_unit cc0_scratch5 _ _ _ _ _).trans ?_
  funext x
  unfold updateSlice
  split
  · next hin =>
    have h0 : t ≤ (x 0).val ∧ (x 0).val < t + 1 := hin 0
    have h1 : 16 * (c + n) ≤ (x 1).val ∧ (x 1).val < 16 * (c + n) + 16 := hin 1
    have e : (x 0).val = t ∧ 16 * c ≤ (x 1).val ∧ (x 1).val < 16 * (c + (n + 1)) := by omega
    unfold updN
    rw [if_pos e, show (x 1).val / 16 - c = n by omega]
    rw [shapeCast_apply _ h _ (lane (x 1).val)]
    rw [Shape.rowMajor_val_one, Shape.rowMajor_val_two]
    show (x 1).val % 16 = ((x 0).val - t) * 16 + ((x 1).val - 16 * (c + n))
    omega
  · next hin =>
    have hne : ¬ ((x 0).val = t ∧ 16 * (c + n) ≤ (x 1).val ∧ (x 1).val < 16 * (c + n) + 16) := fun e => hin fun a => by
      match a with
      | 0 => exact ⟨by show t ≤ (x 0).val; omega, by show (x 0).val < t + 1; omega⟩
      | 1 => exact e.2
    unfold updN
    by_cases hl : (x 0).val = t ∧ 16 * c ≤ (x 1).val ∧ (x 1).val < 16 * (c + n)
    · rw [if_pos hl, if_pos (by omega)]
    · rw [if_neg hl, if_neg (by omega)]

/-- A list of stores, the last first, that are vectors `c`, …, `c + n - 1` of row `t`. -/
def UpdList (t c : ℕ) (g : ℕ → FVec F S16 .f32) : List (View.Piece (Elt F) S16x768 .f32) → ℕ → Prop
  | [], n => n = 0
  | P :: L, n => ∃ k, n = k + 1 ∧ (∃ (off : Fin 2 → ℕ) (inb : ∀ a, off a + S1x16.size a ≤ S16x768.size a) (h : S16.ShapeCasts S1x16),
      P = ⟨Rect.unit (s := S16x768) off S1x16.size inb, shapeCast S1x16 (g k) h⟩ ∧ off = ![t, 16 * (c + k)]) ∧ UpdList t c g L k

/-- Such stores leave those vectors. -/
theorem upd_writes (f : S16x768.Idx → F .f32) (t c : ℕ) (g : ℕ → FVec F S16 .f32) (L : List (View.Piece (Elt F) S16x768 .f32)) :
    ∀ n, UpdList t c g L n → outV.view.writes (Elt F) f L = updN f t c g n := by
  induction L with
  | nil => intro n h; cases h; exact updN_zero f t c g
  | cons P L ih =>
    rintro n ⟨k, rfl, ⟨off, inb, w, rfl, hoff⟩, h⟩
    exact upd_store f t c g k _ inb w (ih k h) hoff

/-- Vector `w` of token `t`'s result: the bias and the 32 products. -/
def valV (T : S73728x2x128.Idx → F .f32) (l : S16x96.Idx → BitVec 32) (f8 : S512.Idx → F .f32) (b : S768.Idx → F .f32) (t w : ℕ) :
    FVec F S16 .f32 := sumV (spl f8 t) (gath T l t) w (biasV b w) 16

/-- The chunk's first `n` rows done, over what the block held. -/
def outP (T : S73728x2x128.Idx → F .f32) (l : S16x96.Idx → BitVec 32) (f8 : S512.Idx → F .f32) (b : S768.Idx → F .f32)
    (fo : S16x768.Idx → F .f32) (n : ℕ) : S16x768.Idx → F .f32 :=
  fun x => if (x 0).val < n then valV T l f8 b (x 0).val ((x 1).val / 16) (lane (x 1).val) else fo x

theorem outP_zero (T : S73728x2x128.Idx → F .f32) (l : S16x96.Idx → BitVec 32) (f8 : S512.Idx → F .f32) (b : S768.Idx → F .f32)
    (fo : S16x768.Idx → F .f32) : outP T l f8 b fo 0 = fo := by
  funext x; simp [outP]

/-- The two halves of a row. -/
theorem outP_succ (T : S73728x2x128.Idx → F .f32) (l : S16x96.Idx → BitVec 32) (f8 : S512.Idx → F .f32) (b : S768.Idx → F .f32)
    (fo : S16x768.Idx → F .f32) (n : ℕ) :
    updN (updN (outP T l f8 b fo n) n 0 (fun v => valV T l f8 b n v) 24) n 24 (fun v => valV T l f8 b n (v + 24)) 24
      = outP T l f8 b fo (n + 1) := by
  funext x
  have h1 : (x 1).val < 768 := (x 1).isLt
  unfold updN outP
  by_cases e : (x 0).val = n
  · rw [if_pos (show (x 0).val < n + 1 by omega)]
    by_cases hh : (x 1).val < 384
    · rw [if_neg (by omega), if_pos (by omega), e]; rfl
    · rw [if_pos (by omega), e]; exact congrArg (fun w => valV T l f8 b n w (lane (x 1).val)) (by omega)
  · rw [if_neg (by omega), if_neg (by omega)]
    by_cases hl : (x 0).val < n
    · rw [if_pos hl, if_pos (by omega)]
    · rw [if_neg hl, if_neg (by omega)]

end Cert.Proof.Dec

end
-- ==== Proof.Pair.lean ====
module

public import proofs.«01_k».proof.Proof.Values
public import Idealize.ShloMosaic.Lib.SparseCore.FromWhole

@[expose] public section

noncomputable section

namespace Cert.Proof.Dec

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

theorem hNA : ∀ h : S73728x2x128.Gathers 0 S96x2x128, ∑ j, ((rowA).slice (S96x2x128.rowRect h.axis' j) (S96x2x128.stride_rowRect h.axis' j)).view.dmaCredit
      = (rowA).view.dmaCredit := by decide
theorem hNB : ∀ h : S73728x2x128.Gathers 0 S96x2x128, ∑ j, ((rowB).slice (S96x2x128.rowRect h.axis' j) (S96x2x128.stride_rowRect h.axis' j)).view.dmaCredit
      = (rowB).view.dmaCredit := by decide

/-- A list whose entries name rows of the table names them through any of its rows. -/
theorem lt_rows (l : S16x96.Idx → BitVec 32) (hl : ∀ x, (l x).toNat < 73728) {off : Fin 2 → ℕ}
    (inb : ∀ a, off a + S1x96.size a ≤ S16x96.size a) (r : ℕ) (hoff : off = ![r, 0]) (x : S96.Idx) :
    ((lstS off inb).view.read (Elt F) l x).toNat < 73728 := by
  rw [read_lstS (F := F) l inb r hoff]; exact hl _

/-- A block written by the splats of one token. -/
theorem spl_pts (d : Dev nD) (L : grid0.Coords) (f8 : S512.Idx → F .f32) (t : ℕ) (f : S32x16.Idx → F .f32)
    (P : List (View.Piece (Elt F) S32x16 .f32)) :
    ((aspV).view.loc (thr d L) ↦{fullShare} (aspV).view.writes (Elt F) f P)
      ⊢@{sProp 𝕄} iprop(⌜SplList f8 t P 32⌝ -∗ ((aspV).view.loc (thr d L) ↦{fullShare} spl f8 t)) := by
  iintro H %h
  iapply (Entails.of_eq (congrArg (fun f => ((aspV).view.loc (thr d L) ↦{fullShare} f : sProp 𝕄)) (spl_done f f8 t P h)))
  iexact H

/-- A chunk's block written by half a row. -/
theorem upd_pts (d : Dev nD) (L : grid0.Coords) (f : S16x768.Idx → F .f32) (t c : ℕ) (g : ℕ → FVec F S16 .f32)
    (P : List (View.Piece (Elt F) S16x768 .f32)) :
    ((outV).view.loc (thr d L) ↦{fullShare} (outV).view.writes (Elt F) f P)
      ⊢@{sProp 𝕄} iprop(⌜UpdList t c g P 24⌝ -∗ ((outV).view.loc (thr d L) ↦{fullShare} updN f t c g 24)) := by
  iintro H %h
  iapply (Entails.of_eq (congrArg (fun f => ((outV).view.loc (thr d L) ↦{fullShare} f : sProp 𝕄)) (upd_writes f t c g P 24 h)))
  iexact H

/-- The gather of one row of the lists into buffer A, started: what arrives is the segments that row names. -/
theorem gatherA {α : Type} {Q : α → sProp 𝕄} (d : Dev nD) (L : grid0.Coords) (l : S16x96.Idx → BitVec 32)
    (hl : ∀ x, (l x).toNat < 73728) (Tb : S73728x2x128.Idx → F .f32) {off : Fin 2 → ℕ} {inb : ∀ a, off a + S1x96.size a ≤ S16x96.size a}
    {i3 : ∀ a, (![0, 0, 0] : Fin 3 → ℕ) a + S73728x2x128.size a ≤ S73728x2x128.size a}
    {hg : S73728x2x128.Gathers 0 S96x2x128} {hn : S96.numel = S96x2x128.size hg.axis'}
    {hp : (thr d L).2.kind = .scVector} {hsrc : (tabS i3).view.WordExact} {he : EltTy.bits .f32 = 32} {hsp : Space.hbm = .hbm ∨ Space.hbm = .shared}
    {hr : S73728x2x128.StreamRows 0}
    {k : PUnit → Prog (TpuEff nD τ sig (Elt F) Λ₀ (thr d L).2) α} (q qo : PosShare TreeShare) (fd : S96x2x128.Idx → F .f32)
    (r : ℕ) (hoff : off = ![r, 0]) :
    iprop(((tabM).view.loc (thr d L) ↦{q} Tb) ∗ ((rowA).view.loc (thr d L) ↦{fullShare} fd) ∗ ((idxV).view.loc (thr d L) ↦{qo} l)
        ∗ semVal (thr d L, SemLoc.dma cc0_scratch7.sem) 0)
      ⊢@{sProp 𝕄} iprop((Transfers.Flight countersEmb (thr d L) (.dma cc0_scratch7.sem) (default : HIx 1) (rowA).view.dmaCredit
            iprop(((rowA).view.loc (thr d L) ↦{fullShare} gath Tb l r) ∗ ((tabM).view.loc (thr d L) ↦{q} Tb) ∗ ((idxV).view.loc (thr d L) ↦{qo} l))
          -∗ wp frame (wpE (defs₀ (F := F)) 𝒱₀ (thr d L) none) Set.univ (k ⟨⟩) Q)
        -∗ wp frame (wpE (defs₀ (F := F)) 𝒱₀ (thr d L) none) Set.univ
          (SparseCore.enqueueIndirectGather hp (tabS i3) rowA hg (lstS off inb) hn cc0_scratch7.sem hsrc he hsp hr >>= k) Q) := by
  have hin : ∀ x, ((lstS off inb).view.read (Elt F) l x).toNat < S73728x2x128.size hg.axis := fun x => lt_rows l hl inb r hoff x
  have hN : ∑ j, ((rowA).slice (S96x2x128.rowRect hg.axis' j) (S96x2x128.stride_rowRect hg.axis' j)).view.dmaCredit = (rowA).view.dmaCredit := hNA hg
  iintro ⟨Ht, Hr, Hi, Hs⟩ Hk
  iapply (SparseCore.wp_gatherFromWhole countersEmb 𝒱₀ (thr d L) none (hg := hg) (default : HIx 1)
    (rowA).view.dmaCredit hN (by decide) hin) $$ [Ht Hr Hi Hs]
  · isplitl [Ht]; · iexact Ht
    isplitl [Hr]; · iexact Hr
    isplitl [Hi]; · iexact Hi
    iexact Hs
  iintro Hf
  iapply Hk
  iapply (Transfers.Flight_mono countersEmb (thr d L) (BI.sep_mono (Entails.of_eq (congrArg (fun f => ((rowA).view.loc (thr d L) ↦{fullShare} f : sProp 𝕄))
    ((View.write_whole_univ (cc0_scratch3) _ _).trans (gath_eq Tb l inb i3 r hoff hg hn hin)))) (Entails.refl _)))
  iexact Hf

/-- The gather of one row of the lists into buffer B, started: what arrives is the segments that row names. -/
theorem gatherB {α : Type} {Q : α → sProp 𝕄} (d : Dev nD) (L : grid0.Coords) (l : S16x96.Idx → BitVec 32)
    (hl : ∀ x, (l x).toNat < 73728) (Tb : S73728x2x128.Idx → F .f32) {off : Fin 2 → ℕ} {inb : ∀ a, off a + S1x96.size a ≤ S16x96.size a}
    {i3 : ∀ a, (![0, 0, 0] : Fin 3 → ℕ) a + S73728x2x128.size a ≤ S73728x2x128.size a}
    {hg : S73728x2x128.Gathers 0 S96x2x128} {hn : S96.numel = S96x2x128.size hg.axis'}
    {hp : (thr d L).2.kind = .scVector} {hsrc : (tabS i3).view.WordExact} {he : EltTy.bits .f32 = 32} {hsp : Space.hbm = .hbm ∨ Space.hbm = .shared}
    {hr : S73728x2x128.StreamRows 0}
    {k : PUnit → Prog (TpuEff nD τ sig (Elt F) Λ₀ (thr d L).2) α} (q qo : PosShare TreeShare) (fd : S96x2x128.Idx → F .f32)
    (r : ℕ) (hoff : off = ![r, 0]) :
    iprop(((tabM).view.loc (thr d L) ↦{q} Tb) ∗ ((rowB).view.loc (thr d L) ↦{fullShare} fd) ∗ ((idxV).view.loc (thr d L) ↦{qo} l)
        ∗ semVal (thr d L, SemLoc.dma cc0_scratch8.sem) 0)
      ⊢@{sProp 𝕄} iprop((Transfers.Flight countersEmb (thr d L) (.dma cc0_scratch8.sem) (default : HIx 1) (rowB).view.dmaCredit
            iprop(((rowB).view.loc (thr d L) ↦{fullShare} gath Tb l r) ∗ ((tabM).view.loc (thr d L) ↦{q} Tb) ∗ ((idxV).view.loc (thr d L) ↦{qo} l))
          -∗ wp frame (wpE (defs₀ (F := F)) 𝒱₀ (thr d L) none) Set.univ (k ⟨⟩) Q)
        -∗ wp frame (wpE (defs₀ (F := F)) 𝒱₀ (thr d L) none) Set.univ
          (SparseCore.enqueueIndirectGather hp (tabS i3) rowB hg (lstS off inb) hn cc0_scratch8.sem hsrc he hsp hr >>= k) Q) := by
  have hin : ∀ x, ((lstS off inb).view.read (Elt F) l x).toNat < S73728x2x128.size hg.axis := fun x => lt_rows l hl inb r hoff x
  have hN : ∑ j, ((rowB).slice (S96x2x128.rowRect hg.axis' j) (S96x2x128.stride_rowRect hg.axis' j)).view.dmaCredit = (rowB).view.dmaCredit := hNB hg
  iintro ⟨Ht, Hr, Hi, Hs⟩ Hk
  iapply (SparseCore.wp_gatherFromWhole countersEmb 𝒱₀ (thr d L) none (hg := hg) (default : HIx 1)
    (rowB).view.dmaCredit hN (by decide) hin) $$ [Ht Hr Hi Hs]
  · isplitl [Ht]; · iexact Ht
    isplitl [Hr]; · iexact Hr
    isplitl [Hi]; · iexact Hi
    iexact Hs
  iintro Hf
  iapply Hk
  iapply (Transfers.Flight_mono countersEmb (thr d L) (BI.sep_mono (Entails.of_eq (congrArg (fun f => ((rowB).view.loc (thr d L) ↦{fullShare} f : sProp 𝕄))
    ((View.write_whole_univ (cc0_scratch4) _ _).trans (gath_eq Tb l inb i3 r hoff hg hn hin)))) (Entails.refl _)))
  iexact Hf

set_option maxHeartbeats 4000000 in
/-- One pair of tokens, the next one following: both rows made, each under the other's gather. -/
theorem t2_go (d : Dev nD) (L : grid0.Coords) (O : CellTallies nD τ sig (HIx 1)) (W : Waits sig (HIx 1))
    (Tb : S73728x2x128.Idx → F .f32) (l : S16x96.Idx → BitVec 32) (hl : ∀ x, (l x).toNat < 73728) (f8 : S512.Idx → F .f32) (b : S768.Idx → F .f32)
    (fo : S16x768.Idx → F .f32) (fa : S32x16.Idx → F .f32) (fB : S96x2x128.Idx → F .f32) (qa qb : PosShare TreeShare)
    (p : Fin k0_t2_loop.trips) (s : BitVec 32) (hC : k0_cond1 p = 1#1) :
    iprop(Transfers.MayWaits (thr d L) none O
        ∗ Transfers.Flight countersEmb (thr d L) (.dma cc0_scratch7.sem) (default : HIx 1) (rowA).view.dmaCredit
          iprop(((rowA).view.loc (thr d L) ↦{fullShare} gath Tb l (2 * p.val)) ∗ ((tabM).view.loc (thr d L) ↦{qa} Tb) ∗ ((idxV).view.loc (thr d L) ↦{fullShare.left} l))
        ∗ ((rowB).view.loc (thr d L) ↦{fullShare} fB) ∗ ((tabM).view.loc (thr d L) ↦{qb} Tb) ∗ ((idxV).view.loc (thr d L) ↦{fullShare.right} l)
        ∗ semVal (thr d L, SemLoc.dma cc0_scratch8.sem) 0
        ∗ ((actsV).view.loc (thr d L) ↦{fullShare} f8) ∗ ((biaV).view.loc (thr d L) ↦{fullShare} b)
        ∗ ((aspV).view.loc (thr d L) ↦{fullShare} fa) ∗ ((outV).view.loc (thr d L) ↦{fullShare} fo)
        ∗ owes (thr d L) O W)
      ⊢@{sProp 𝕄} wp frame (wpE (defs₀ (F := F)) 𝒱₀ (thr d L) none) Set.univ
        (k0_t2_body L tabM (Memref.isWhole_whole _) actM (Memref.isWhole_whole _) lstM (Memref.isWhole_whole _) biaM (Memref.isWhole_whole _) resM (Memref.isWhole_whole _) idxV (Memref.isWhole_whole _) actsV (Memref.isWhole_whole _) aspV (Memref.isWhole_whole _) rowA (Memref.isWhole_whole _) rowB (Memref.isWhole_whole _) outV (Memref.isWhole_whole _) biaV (Memref.isWhole_whole _) cc0_scratch7 cc0_scratch8 cc0_scoped0 cc0_scoped1 cc0_scoped2 cc0_scoped3 p s)
        fun _ => iprop(Transfers.Flight countersEmb (thr d L) (.dma cc0_scratch7.sem) (default : HIx 1) (rowA).view.dmaCredit
          iprop(((rowA).view.loc (thr d L) ↦{fullShare} gath Tb l (2 * p.val + 2)) ∗ ((tabM).view.loc (thr d L) ↦{qa} Tb) ∗ ((idxV).view.loc (thr d L) ↦{fullShare.left} l))
        ∗ ((rowB).view.loc (thr d L) ↦{fullShare} gath Tb l (2 * p.val + 1)) ∗ ((tabM).view.loc (thr d L) ↦{qb} Tb) ∗ ((idxV).view.loc (thr d L) ↦{fullShare.right} l)
        ∗ semVal (thr d L, SemLoc.dma cc0_scratch8.sem) 0
        ∗ ((actsV).view.loc (thr d L) ↦{fullShare} f8) ∗ ((biaV).view.loc (thr d L) ↦{fullShare} b)
        ∗ ((aspV).view.loc (thr d L) ↦{fullShare} spl f8 (2 * p.val + 1))
        ∗ ((outV).view.loc (thr d L) ↦{fullShare} (updN (updN (updN (updN fo (2 * p.val) 0 (fun v => valV Tb l f8 b (2 * p.val) (v)) 24) (2 * p.val) 24 (fun v => valV Tb l f8 b (2 * p.val) (v + 24)) 24) (2 * p.val + 1) 0 (fun v => valV Tb l f8 b (2 * p.val + 1) (v)) 24) (2 * p.val + 1) 24 (fun v => valV Tb l f8 b (2 * p.val + 1) (v + 24)) 24))
        ∗ owes (thr d L) O (insert (SemLoc.dma cc0_scratch8.sem, (default : HIx 1)) (insert (SemLoc.dma cc0_scratch7.sem, (default : HIx 1)) W))) := by
  unfold k0_t2_body
  iintro ⟨#Hmw, HFa, HrB, Htb, Hib, Hsb, H8, Hbi, Ha, Ho, HO⟩
  sl_exec
  iapply (gatherB d L l hl Tb qb fullShare.right fB (2 * p.val + 1) (k0_off3_eq p)) $$ [HrB Htb Hib Hsb]
  · isplitl [Htb]; · iexact Htb
    isplitl [HrB]; · iexact HrB
    isplitl [Hib]; · iexact Hib
    iexact Hsb
  iintro HFb
  sl_exec
  iapply (Transfers.wp_waitLocalO countersEmb 𝒱₀ (thr d L) none (default : HIx 1) (rfl : (rowA).view.dmaCredit = _)) $$ [HFa HO]
  · isplitl [HFa]; · iexact HFa
    isplitl [HO]; · iexact HO
    iapply (Transfers.MayWaits.elim (SemLoc.dma cc0_scratch7.sem)) $$ Hmw
  iintro ⟨⟨HrA, Hta, Hia⟩, Hsa, HO⟩
  sl_exec
  ihave Hu := (spl_pts d L f8 (2 * p.val) _ _) $$ Ha
  ihave Ha := Hu $$ []
  · ipureintro
    exact ⟨31, rfl, ⟨_, _, _, rfl, rfl, fun x => (splat_pay f8 _ (64 * p.val + 16) 15 (k0_off6_eq p) _ _ _ _ x).trans (congrArg (fun n => f8 (ix8 n)) (by omega))⟩,
      ⟨30, rfl, ⟨_, _, _, rfl, rfl, fun x => (splat_pay f8 _ (64 * p.val + 16) 14 (k0_off6_eq p) _ _ _ _ x).trans (congrArg (fun n => f8 (ix8 n)) (by omega))⟩,
      ⟨29, rfl, ⟨_, _, _, rfl, rfl, fun x => (splat_pay f8 _ (64 * p.val + 16) 13 (k0_off6_eq p) _ _ _ _ x).trans (congrArg (fun n => f8 (ix8 n)) (by omega))⟩,
      ⟨28, rfl, ⟨_, _, _, rfl, rfl, fun x => (splat_pay f8 _ (64 * p.val + 16) 12 (k0_off6_eq p) _ _ _ _ x).trans (congrArg (fun n => f8 (ix8 n)) (by omega))⟩,
      ⟨27, rfl, ⟨_, _, _, rfl, rfl, fun x => (splat_pay f8 _ (64 * p.val + 16) 11 (k0_off6_eq p) _ _ _ _ x).trans (congrArg (fun n => f8 (ix8 n)) (by omega))⟩,
      ⟨26, rfl, ⟨_, _, _, rfl, rfl, fun x => (splat_pay f8 _ (64 * p.val + 16) 10 (k0_off6_eq p) _ _ _ _ x).trans (congrArg (fun n => f8 (ix8 n)) (by omega))⟩,
      ⟨25, rfl, ⟨_, _, _, rfl, rfl, fun x => (splat_pay f8 _ (64 * p.val + 16) 9 (k0_off6_eq p) _ _ _ _ x).trans (congrArg (fun n => f8 (ix8 n)) (by omega))⟩,
      ⟨24, rfl, ⟨_, _, _, rfl, rfl, fun x => (splat_pay f8 _ (64 * p.val + 16) 8 (k0_off6_eq p) _ _ _ _ x).trans (congrArg (fun n => f8 (ix8 n)) (by omega))⟩,
      ⟨23, rfl, ⟨_, _, _, rfl, rfl, fun x => (splat_pay f8 _ (64 * p.val + 16) 7 (k0_off6_eq p) _ _ _ _ x).trans (congrArg (fun n => f8 (ix8 n)) (by omega))⟩,
      ⟨22, rfl, ⟨_, _, _, rfl, rfl, fun x => (splat_pay f8 _ (64 * p.val + 16) 6 (k0_off6_eq p) _ _ _ _ x).trans (congrArg (fun n => f8 (ix8 n)) (by omega))⟩,
      ⟨21, rfl, ⟨_, _, _, rfl, rfl, fun x => (splat_pay f8 _ (64 * p.val + 16) 5 (k0_off6_eq p) _ _ _ _ x).trans (congrArg (fun n => f8 (ix8 n)) (by omega))⟩,
      ⟨20, rfl, ⟨_, _, _, rfl, rfl, fun x => (splat_pay f8 _ (64 * p.val + 16) 4 (k0_off6_eq p) _ _ _ _ x).trans (congrArg (fun n => f8 (ix8 n)) (by omega))⟩,
      ⟨19, rfl, ⟨_, _, _, rfl, rfl, fun x => (splat_pay f8 _ (64 * p.val + 16) 3 (k0_off6_eq p) _ _ _ _ x).trans (congrArg (fun n => f8 (ix8 n)) (by omega))⟩,
      ⟨18, rfl, ⟨_, _, _, rfl, rfl, fun x => (splat_pay f8 _ (64 * p.val + 16) 2 (k0_off6_eq p) _ _ _ _ x).trans (congrArg (fun n => f8 (ix8 n)) (by omega))⟩,
      ⟨17, rfl, ⟨_, _, _, rfl, rfl, fun x => (splat_pay f8 _ (64 * p.val + 16) 1 (k0_off6_eq p) _ _ _ _ x).trans (congrArg (fun n => f8 (ix8 n)) (by omega))⟩,
      ⟨16, rfl, ⟨_, _, _, rfl, rfl, fun x => (splat_pay f8 _ (64 * p.val + 16) 0 (k0_off6_eq p) _ _ _ _ x).trans (congrArg (fun n => f8 (ix8 n)) (by omega))⟩,
      ⟨15, rfl, ⟨_, _, _, rfl, rfl, fun x => (splat_pay f8 _ (64 * p.val) 15 (k0_off5_eq p) _ _ _ _ x).trans (congrArg (fun n => f8 (ix8 n)) (by omega))⟩,
      ⟨14, rfl, ⟨_, _, _, rfl, rfl, fun x => (splat_pay f8 _ (64 * p.val) 14 (k0_off5_eq p) _ _ _ _ x).trans (congrArg (fun n => f8 (ix8 n)) (by omega))⟩,
      ⟨13, rfl, ⟨_, _, _, rfl, rfl, fun x => (splat_pay f8 _ (64 * p.val) 13 (k0_off5_eq p) _ _ _ _ x).trans (congrArg (fun n => f8 (ix8 n)) (by omega))⟩,
      ⟨12, rfl, ⟨_, _, _, rfl, rfl, fun x => (splat_pay f8 _ (64 * p.val) 12 (k0_off5_eq p) _ _ _ _ x).trans (congrArg (fun n => f8 (ix8 n)) (by omega))⟩,
      ⟨11, rfl, ⟨_, _, _, rfl, rfl, fun x => (splat_pay f8 _ (64 * p.val) 11 (k0_off5_eq p) _ _ _ _ x).trans (congrArg (fun n => f8 (ix8 n)) (by omega))⟩,
      ⟨10, rfl, ⟨_, _, _, rfl, rfl, fun x => (splat_pay f8 _ (64 * p.val) 10 (k0_off5_eq p) _ _ _ _ x).trans (congrArg (fun n => f8 (ix8 n)) (by omega))⟩,
      ⟨9, rfl, ⟨_, _, _, rfl, rfl, fun x => (splat_pay f8 _ (64 * p.val) 9 (k0_off5_eq p) _ _ _ _ x).trans (congrArg (fun n => f8 (ix8 n)) (by omega))⟩,
      ⟨8, rfl, ⟨_, _, _, rfl, rfl, fun x => (splat_pay f8 _ (64 * p.val) 8 (k0_off5_eq p) _ _ _ _ x).trans (congrArg (fun n => f8 (ix8 n)) (by omega))⟩,
      ⟨7, rfl, ⟨_, _, _, rfl, rfl, fun x => (splat_pay f8 _ (64 * p.val) 7 (k0_off5_eq p) _ _ _ _ x).trans (congrArg (fun n => f8 (ix8 n)) (by omega))⟩,
      ⟨6, rfl, ⟨_, _, _, rfl, rfl, fun x => (splat_pay f8 _ (64 * p.val) 6 (k0_off5_eq p) _ _ _ _ x).trans (congrArg (fun n => f8 (ix8 n)) (by omega))⟩,
      ⟨5, rfl, ⟨_, _, _, rfl, rfl, fun x => (splat_pay f8 _ (64 * p.val) 5 (k0_off5_eq p) _ _ _ _ x).trans (congrArg (fun n => f8 (ix8 n)) (by omega))⟩,
      ⟨4, rfl, ⟨_, _, _, rfl, rfl, fun x => (splat_pay f8 _ (64 * p.val) 4 (k0_off5_eq p) _ _ _ _ x).trans (congrArg (fun n => f8 (ix8 n)) (by omega))⟩,
      ⟨3, rfl, ⟨_, _, _, rfl, rfl, fun x => (splat_pay f8 _ (64 * p.val) 3 (k0_off5_eq p) _ _ _ _ x).trans (congrArg (fun n => f8 (ix8 n)) (by omega))⟩,
      ⟨2, rfl, ⟨_, _, _, rfl, rfl, fun x => (splat_pay f8 _ (64 * p.val) 2 (k0_off5_eq p) _ _ _ _ x).trans (congrArg (fun n => f8 (ix8 n)) (by omega))⟩,
      ⟨1, rfl, ⟨_, _, _, rfl, rfl, fun x => (splat_pay f8 _ (64 * p.val) 1 (k0_off5_eq p) _ _ _ _ x).trans (congrArg (fun n => f8 (ix8 n)) (by omega))⟩,
      ⟨0, rfl, ⟨_, _, _, rfl, rfl, fun x => (splat_pay f8 _ (64 * p.val) 0 (k0_off5_eq p) _ _ _ _ x).trans (congrArg (fun n => f8 (ix8 n)) (by omega))⟩,
      rfl⟩⟩⟩⟩⟩⟩⟩⟩⟩⟩⟩⟩⟩⟩⟩⟩⟩⟩⟩⟩⟩⟩⟩⟩⟩⟩⟩⟩⟩⟩⟩⟩
  sl_for (fun (k : ℕ) (s : T24 F) => iprop(⌜s = tup (fun v => sumV (spl f8 (2 * p.val)) (gath Tb l (2 * p.val)) (v) (biasV b (v)) k)⌝
      ∗ ((aspV).view.loc (thr d L) ↦{fullShare} spl f8 (2 * p.val)) ∗ ((rowA).view.loc (thr d L) ↦{fullShare} gath Tb l (2 * p.val)))) $$ [Ha HrA]
  case region =>
    intro k s
    iintro ⟨%hs, HA, HR⟩
    subst hs
    ihave Hw := (t3_trip d L _ _ k (fun v => sumV (spl f8 (2 * p.val)) (gath Tb l (2 * p.val)) (v) (biasV b (v)) k)) $$ [HA HR]
    · isplitl [HA] <;> iassumption
    iapply (wp_wand frame (wpE (defs₀ (F := F)) 𝒱₀ (thr d L) none) Set.univ) $$ Hw
    iintro %r ⟨%hr, HA, HR⟩
    isplitr [HA HR]
    · ipureintro; exact hr
    isplitl [HA] <;> iassumption
  · isplitr [Ha HrA]
    · ipureintro; exact (congrArg₂ Prod.mk (load_bias b _ _ 0 rfl) (congrArg₂ Prod.mk (load_bias b _ _ 1 rfl) (congrArg₂ Prod.mk (load_bias b _ _ 2 rfl) (congrArg₂ Prod.mk (load_bias b _ _ 3 rfl) (congrArg₂ Prod.mk (load_bias b _ _ 4 rfl) (congrArg₂ Prod.mk (load_bias b _ _ 5 rfl) (congrArg₂ Prod.mk (load_bias b _ _ 6 rfl) (congrArg₂ Prod.mk (load_bias b _ _ 7 rfl) (congrArg₂ Prod.mk (load_bias b _ _ 8 rfl) (congrArg₂ Prod.mk (load_bias b _ _ 9 rfl) (congrArg₂ Prod.mk (load_bias b _ _ 10 rfl) (congrArg₂ Prod.mk (load_bias b _ _ 11 rfl) (congrArg₂ Prod.mk (load_bias b _ _ 12 rfl) (congrArg₂ Prod.mk (load_bias b _ _ 13 rfl) (congrArg₂ Prod.mk (load_bias b _ _ 14 rfl) (congrArg₂ Prod.mk (load_bias b _ _ 15 rfl) (congrArg₂ Prod.mk (load_bias b _ _ 16 rfl) (congrArg₂ Prod.mk (load_bias b _ _ 17 rfl) (congrArg₂ Prod.mk (load_bias b _ _ 18 rfl) (congrArg₂ Prod.mk (load_bias b _ _ 19 rfl) (congrArg₂ Prod.mk (load_bias b _ _ 20 rfl) (congrArg₂ Prod.mk (load_bias b _ _ 21 rfl) (congrArg₂ Prod.mk (load_bias b _ _ 22 rfl) (load_bias b _ _ 23 rfl))))))))))))))))))))))))
    isplitl [Ha] <;> iassumption
  iintro %s ⟨%hs, Ha, HrA⟩
  rw [show Scf.trips k0_t3_loop.lb k0_t3_loop.ub k0_t3_loop.st = 16 by decide] at hs
  subst hs
  sl_exec
  ihave Hu := (upd_pts d L fo (2 * p.val) 0 (fun v => valV Tb l f8 b (2 * p.val) (v)) _) $$ Ho
  ihave Ho := Hu $$ []
  · ipureintro
    exact ⟨23, rfl, ⟨_, _, _, rfl, k0_off48_eq p⟩,
      ⟨22, rfl, ⟨_, _, _, rfl, k0_off47_eq p⟩,
      ⟨21, rfl, ⟨_, _, _, rfl, k0_off46_eq p⟩,
      ⟨20, rfl, ⟨_, _, _, rfl, k0_off45_eq p⟩,
      ⟨19, rfl, ⟨_, _, _, rfl, k0_off44_eq p⟩,
      ⟨18, rfl, ⟨_, _, _, rfl, k0_off43_eq p⟩,
      ⟨17, rfl, ⟨_, _, _, rfl, k0_off42_eq p⟩,
      ⟨16, rfl, ⟨_, _, _, rfl, k0_off41_eq p⟩,
      ⟨15, rfl, ⟨_, _, _, rfl, k0_off40_eq p⟩,
      ⟨14, rfl, ⟨_, _, _, rfl, k0_off39_eq p⟩,
      ⟨13, rfl, ⟨_, _, _, rfl, k0_off38_eq p⟩,
      ⟨12, rfl, ⟨_, _, _, rfl, k0_off37_eq p⟩,
      ⟨11, rfl, ⟨_, _, _, rfl, k0_off36_eq p⟩,
      ⟨10, rfl, ⟨_, _, _, rfl, k0_off35_eq p⟩,
      ⟨9, rfl, ⟨_, _, _, rfl, k0_off34_eq p⟩,
      ⟨8, rfl, ⟨_, _, _, rfl, k0_off33_eq p⟩,
      ⟨7, rfl, ⟨_, _, _, rfl, k0_off32_eq p⟩,
      ⟨6, rfl, ⟨_, _, _, rfl, k0_off31_eq p⟩,
      ⟨5, rfl, ⟨_, _, _, rfl, k0_off30_eq p⟩,
      ⟨4, rfl, ⟨_, _, _, rfl, k0_off29_eq p⟩,
      ⟨3, rfl, ⟨_, _, _, rfl, k0_off28_eq p⟩,
      ⟨2, rfl, ⟨_, _, _, rfl, k0_off27_eq p⟩,
      ⟨1, rfl, ⟨_, _, _, rfl, k0_off26_eq p⟩,
      ⟨0, rfl, ⟨_, _, _, rfl, k0_off25_eq p⟩,
      rfl⟩⟩⟩⟩⟩⟩⟩⟩⟩⟩⟩⟩⟩⟩⟩⟩⟩⟩⟩⟩⟩⟩⟩⟩
  sl_for (fun (k : ℕ) (s : T24 F) => iprop(⌜s = tup (fun v => sumV (spl f8 (2 * p.val)) (gath Tb l (2 * p.val)) (v + 24) (biasV b (v + 24)) k)⌝
      ∗ ((aspV).view.loc (thr d L) ↦{fullShare} spl f8 (2 * p.val)) ∗ ((rowA).view.loc (thr d L) ↦{fullShare} gath Tb l (2 * p.val)))) $$ [Ha HrA]
  case region =>
    intro k s
    iintro ⟨%hs, HA, HR⟩
    subst hs
    ihave Hw := (t4_trip d L _ _ k (fun v => sumV (spl f8 (2 * p.val)) (gath Tb l (2 * p.val)) (v + 24) (biasV b (v + 24)) k)) $$ [HA HR]
    · isplitl [HA] <;> iassumption
    iapply (wp_wand frame (wpE (defs₀ (F := F)) 𝒱₀ (thr d L) none) Set.univ) $$ Hw
    iintro %r ⟨%hr, HA, HR⟩
    isplitr [HA HR]
    · ipureintro; exact hr
    isplitl [HA] <;> iassumption
  · isplitr [Ha HrA]
    · ipureintro; exact (congrArg₂ Prod.mk (load_bias b _ _ 24 rfl) (congrArg₂ Prod.mk (load_bias b _ _ 25 rfl) (congrArg₂ Prod.mk (load_bias b _ _ 26 rfl) (congrArg₂ Prod.mk (load_bias b _ _ 27 rfl) (congrArg₂ Prod.mk (load_bias b _ _ 28 rfl) (congrArg₂ Prod.mk (load_bias b _ _ 29 rfl) (congrArg₂ Prod.mk (load_bias b _ _ 30 rfl) (congrArg₂ Prod.mk (load_bias b _ _ 31 rfl) (congrArg₂ Prod.mk (load_bias b _ _ 32 rfl) (congrArg₂ Prod.mk (load_bias b _ _ 33 rfl) (congrArg₂ Prod.mk (load_bias b _ _ 34 rfl) (congrArg₂ Prod.mk (load_bias b _ _ 35 rfl) (congrArg₂ Prod.mk (load_bias b _ _ 36 rfl) (congrArg₂ Prod.mk (load_bias b _ _ 37 rfl) (congrArg₂ Prod.mk (load_bias b _ _ 38 rfl) (congrArg₂ Prod.mk (load_bias b _ _ 39 rfl) (congrArg₂ Prod.mk (load_bias b _ _ 40 rfl) (congrArg₂ Prod.mk (load_bias b _ _ 41 rfl) (congrArg₂ Prod.mk (load_bias b _ _ 42 rfl) (congrArg₂ Prod.mk (load_bias b _ _ 43 rfl) (congrArg₂ Prod.mk (load_bias b _ _ 44 rfl) (congrArg₂ Prod.mk (load_bias b _ _ 45 rfl) (congrArg₂ Prod.mk (load_bias b _ _ 46 rfl) (load_bias b _ _ 47 rfl))))))))))))))))))))))))
    isplitl [Ha] <;> iassumption
  iintro %s ⟨%hs, Ha, HrA⟩
  rw [show Scf.trips k0_t4_loop.lb k0_t4_loop.ub k0_t4_loop.st = 16 by decide] at hs
  subst hs
  sl_exec
  ihave Hu := (upd_pts d L (updN fo (2 * p.val) 0 (fun v => valV Tb l f8 b (2 * p.val) (v)) 24) (2 * p.val) 24 (fun v => valV Tb l f8 b (2 * p.val) (v + 24)) _) $$ Ho
  ihave Ho := Hu $$ []
  · ipureintro
    exact ⟨23, rfl, ⟨_, _, _, rfl, k0_off90_eq p⟩,
      ⟨22, rfl, ⟨_, _, _, rfl, k0_off89_eq p⟩,
      ⟨21, rfl, ⟨_, _, _, rfl, k0_off88_eq p⟩,
      ⟨20, rfl, ⟨_, _, _, rfl, k0_off87_eq p⟩,
      ⟨19, rfl, ⟨_, _, _, rfl, k0_off86_eq p⟩,
      ⟨18, rfl, ⟨_, _, _, rfl, k0_off85_eq p⟩,
      ⟨17, rfl, ⟨_, _, _, rfl, k0_off84_eq p⟩,
      ⟨16, rfl, ⟨_, _, _, rfl, k0_off83_eq p⟩,
      ⟨15, rfl, ⟨_, _, _, rfl, k0_off82_eq p⟩,
      ⟨14, rfl, ⟨_, _, _, rfl, k0_off81_eq p⟩,
      ⟨13, rfl, ⟨_, _, _, rfl, k0_off80_eq p⟩,
      ⟨12, rfl, ⟨_, _, _, rfl, k0_off79_eq p⟩,
      ⟨11, rfl, ⟨_, _, _, rfl, k0_off78_eq p⟩,
      ⟨10, rfl, ⟨_, _, _, rfl, k0_off77_eq p⟩,
      ⟨9, rfl, ⟨_, _, _, rfl, k0_off76_eq p⟩,
      ⟨8, rfl, ⟨_, _, _, rfl, k0_off75_eq p⟩,
      ⟨7, rfl, ⟨_, _, _, rfl, k0_off74_eq p⟩,
      ⟨6, rfl, ⟨_, _, _, rfl, k0_off73_eq p⟩,
      ⟨5, rfl, ⟨_, _, _, rfl, k0_off72_eq p⟩,
      ⟨4, rfl, ⟨_, _, _, rfl, k0_off71_eq p⟩,
      ⟨3, rfl, ⟨_, _, _, rfl, k0_off70_eq p⟩,
      ⟨2, rfl, ⟨_, _, _, rfl, k0_off69_eq p⟩,
      ⟨1, rfl, ⟨_, _, _, rfl, k0_off68_eq p⟩,
      ⟨0, rfl, ⟨_, _, _, rfl, k0_off67_eq p⟩,
      rfl⟩⟩⟩⟩⟩⟩⟩⟩⟩⟩⟩⟩⟩⟩⟩⟩⟩⟩⟩⟩⟩⟩⟩⟩
  iapply (gatherA d L l hl Tb qa fullShare.left (gath Tb l (2 * p.val)) (2 * p.val + 2) (k0_off91_eq p)) $$ [HrA Hta Hia Hsa]
  · isplitl [Hta]; · iexact Hta
    isplitl [HrA]; · iexact HrA
    isplitl [Hia]; · iexact Hia
    iexact Hsa
  iintro HFa
  sl_exec
  iapply (Transfers.wp_waitLocalO countersEmb 𝒱₀ (thr d L) none (default : HIx 1) (rfl : (rowB).view.dmaCredit = _)) $$ [HFb HO]
  · isplitl [HFb]; · iexact HFb
    isplitl [HO]; · iexact HO
    iapply (Transfers.MayWaits.elim (SemLoc.dma cc0_scratch8.sem)) $$ Hmw
  iintro ⟨⟨HrB, Htb, Hib⟩, Hsb, HO⟩
  sl_exec
  ihave Hu := (spl_pts d L f8 (2 * p.val + 1) _ _) $$ Ha
  ihave Ha := Hu $$ []
  · ipureintro
    exact ⟨31, rfl, ⟨_, _, _, rfl, rfl, fun x => (splat_pay f8 _ (64 * p.val + 48) 15 (k0_off93_eq p) _ _ _ _ x).trans (congrArg (fun n => f8 (ix8 n)) (by omega))⟩,
      ⟨30, rfl, ⟨_, _, _, rfl, rfl, fun x => (splat_pay f8 _ (64 * p.val + 48) 14 (k0_off93_eq p) _ _ _ _ x).trans (congrArg (fun n => f8 (ix8 n)) (by omega))⟩,
      ⟨29, rfl, ⟨_, _, _, rfl, rfl, fun x => (splat_pay f8 _ (64 * p.val + 48) 13 (k0_off93_eq p) _ _ _ _ x).trans (congrArg (fun n => f8 (ix8 n)) (by omega))⟩,
      ⟨28, rfl, ⟨_, _, _, rfl, rfl, fun x => (splat_pay f8 _ (64 * p.val + 48) 12 (k0_off93_eq p) _ _ _ _ x).trans (congrArg (fun n => f8 (ix8 n)) (by omega))⟩,
      ⟨27, rfl, ⟨_, _, _, rfl, rfl, fun x => (splat_pay f8 _ (64 * p.val + 48) 11 (k0_off93_eq p) _ _ _ _ x).trans (congrArg (fun n => f8 (ix8 n)) (by omega))⟩,
      ⟨26, rfl, ⟨_, _, _, rfl, rfl, fun x => (splat_pay f8 _ (64 * p.val + 48) 10 (k0_off93_eq p) _ _ _ _ x).trans (congrArg (fun n => f8 (ix8 n)) (by omega))⟩,
      ⟨25, rfl, ⟨_, _, _, rfl, rfl, fun x => (splat_pay f8 _ (64 * p.val + 48) 9 (k0_off93_eq p) _ _ _ _ x).trans (congrArg (fun n => f8 (ix8 n)) (by omega))⟩,
      ⟨24, rfl, ⟨_, _, _, rfl, rfl, fun x => (splat_pay f8 _ (64 * p.val + 48) 8 (k0_off93_eq p) _ _ _ _ x).trans (congrArg (fun n => f8 (ix8 n)) (by omega))⟩,
      ⟨23, rfl, ⟨_, _, _, rfl, rfl, fun x => (splat_pay f8 _ (64 * p.val + 48) 7 (k0_off93_eq p) _ _ _ _ x).trans (congrArg (fun n => f8 (ix8 n)) (by omega))⟩,
      ⟨22, rfl, ⟨_, _, _, rfl, rfl, fun x => (splat_pay f8 _ (64 * p.val + 48) 6 (k0_off93_eq p) _ _ _ _ x).trans (congrArg (fun n => f8 (ix8 n)) (by omega))⟩,
      ⟨21, rfl, ⟨_, _, _, rfl, rfl, fun x => (splat_pay f8 _ (64 * p.val + 48) 5 (k0_off93_eq p) _ _ _ _ x).trans (congrArg (fun n => f8 (ix8 n)) (by omega))⟩,
      ⟨20, rfl, ⟨_, _, _, rfl, rfl, fun x => (splat_pay f8 _ (64 * p.val + 48) 4 (k0_off93_eq p) _ _ _ _ x).trans (congrArg (fun n => f8 (ix8 n)) (by omega))⟩,
      ⟨19, rfl, ⟨_, _, _, rfl, rfl, fun x => (splat_pay f8 _ (64 * p.val + 48) 3 (k0_off93_eq p) _ _ _ _ x).trans (congrArg (fun n => f8 (ix8 n)) (by omega))⟩,
      ⟨18, rfl, ⟨_, _, _, rfl, rfl, fun x => (splat_pay f8 _ (64 * p.val + 48) 2 (k0_off93_eq p) _ _ _ _ x).trans (congrArg (fun n => f8 (ix8 n)) (by omega))⟩,
      ⟨17, rfl, ⟨_, _, _, rfl, rfl, fun x => (splat_pay f8 _ (64 * p.val + 48) 1 (k0_off93_eq p) _ _ _ _ x).trans (congrArg (fun n => f8 (ix8 n)) (by omega))⟩,
      ⟨16, rfl, ⟨_, _, _, rfl, rfl, fun x => (splat_pay f8 _ (64 * p.val + 48) 0 (k0_off93_eq p) _ _ _ _ x).trans (congrArg (fun n => f8 (ix8 n)) (by omega))⟩,
      ⟨15, rfl, ⟨_, _, _, rfl, rfl, fun x => (splat_pay f8 _ (64 * p.val + 32) 15 (k0_off92_eq p) _ _ _ _ x).trans (congrArg (fun n => f8 (ix8 n)) (by omega))⟩,
      ⟨14, rfl, ⟨_, _, _, rfl, rfl, fun x => (splat_pay f8 _ (64 * p.val + 32) 14 (k0_off92_eq p) _ _ _ _ x).trans (congrArg (fun n => f8 (ix8 n)) (by omega))⟩,
      ⟨13, rfl, ⟨_, _, _, rfl, rfl, fun x => (splat_pay f8 _ (64 * p.val + 32) 13 (k0_off92_eq p) _ _ _ _ x).trans (congrArg (fun n => f8 (ix8 n)) (by omega))⟩,
      ⟨12, rfl, ⟨_, _, _, rfl, rfl, fun x => (splat_pay f8 _ (64 * p.val + 32) 12 (k0_off92_eq p) _ _ _ _ x).trans (congrArg (fun n => f8 (ix8 n)) (by omega))⟩,
      ⟨11, rfl, ⟨_, _, _, rfl, rfl, fun x => (splat_pay f8 _ (64 * p.val + 32) 11 (k0_off92_eq p) _ _ _ _ x).trans (congrArg (fun n => f8 (ix8 n)) (by omega))⟩,
      ⟨10, rfl, ⟨_, _, _, rfl, rfl, fun x => (splat_pay f8 _ (64 * p.val + 32) 10 (k0_off92_eq p) _ _ _ _ x).trans (congrArg (fun n => f8 (ix8 n)) (by omega))⟩,
      ⟨9, rfl, ⟨_, _, _, rfl, rfl, fun x => (splat_pay f8 _ (64 * p.val + 32) 9 (k0_off92_eq p) _ _ _ _ x).trans (congrArg (fun n => f8 (ix8 n)) (by omega))⟩,
      ⟨8, rfl, ⟨_, _, _, rfl, rfl, fun x => (splat_pay f8 _ (64 * p.val + 32) 8 (k0_off92_eq p) _ _ _ _ x).trans (congrArg (fun n => f8 (ix8 n)) (by omega))⟩,
      ⟨7, rfl, ⟨_, _, _, rfl, rfl, fun x => (splat_pay f8 _ (64 * p.val + 32) 7 (k0_off92_eq p) _ _ _ _ x).trans (congrArg (fun n => f8 (ix8 n)) (by omega))⟩,
      ⟨6, rfl, ⟨_, _, _, rfl, rfl, fun x => (splat_pay f8 _ (64 * p.val + 32) 6 (k0_off92_eq p) _ _ _ _ x).trans (congrArg (fun n => f8 (ix8 n)) (by omega))⟩,
      ⟨5, rfl, ⟨_, _, _, rfl, rfl, fun x => (splat_pay f8 _ (64 * p.val + 32) 5 (k0_off92_eq p) _ _ _ _ x).trans (congrArg (fun n => f8 (ix8 n)) (by omega))⟩,
      ⟨4, rfl, ⟨_, _, _, rfl, rfl, fun x => (splat_pay f8 _ (64 * p.val + 32) 4 (k0_off92_eq p) _ _ _ _ x).trans (congrArg (fun n => f8 (ix8 n)) (by omega))⟩,
      ⟨3, rfl, ⟨_, _, _, rfl, rfl, fun x => (splat_pay f8 _ (64 * p.val + 32) 3 (k0_off92_eq p) _ _ _ _ x).trans (congrArg (fun n => f8 (ix8 n)) (by omega))⟩,
      ⟨2, rfl, ⟨_, _, _, rfl, rfl, fun x => (splat_pay f8 _ (64 * p.val + 32) 2 (k0_off92_eq p) _ _ _ _ x).trans (congrArg (fun n => f8 (ix8 n)) (by omega))⟩,
      ⟨1, rfl, ⟨_, _, _, rfl, rfl, fun x => (splat_pay f8 _ (64 * p.val + 32) 1 (k0_off92_eq p) _ _ _ _ x).trans (congrArg (fun n => f8 (ix8 n)) (by omega))⟩,
      ⟨0, rfl, ⟨_, _, _, rfl, rfl, fun x => (splat_pay f8 _ (64 * p.val + 32) 0 (k0_off92_eq p) _ _ _ _ x).trans (congrArg (fun n => f8 (ix8 n)) (by omega))⟩,
      rfl⟩⟩⟩⟩⟩⟩⟩⟩⟩⟩⟩⟩⟩⟩⟩⟩⟩⟩⟩⟩⟩⟩⟩⟩⟩⟩⟩⟩⟩⟩⟩⟩
  sl_for (fun (k : ℕ) (s : T24 F) => iprop(⌜s = tup (fun v => sumV (spl f8 (2 * p.val + 1)) (gath Tb l (2 * p.val + 1)) (v) (biasV b (v)) k)⌝
      ∗ ((aspV).view.loc (thr d L) ↦{fullShare} spl f8 (2 * p.val + 1)) ∗ ((rowB).view.loc (thr d L) ↦{fullShare} gath Tb l (2 * p.val + 1)))) $$ [Ha HrB]
  case region =>
    intro k s
    iintro ⟨%hs, HA, HR⟩
    subst hs
    ihave Hw := (t5_trip d L _ _ k (fun v => sumV (spl f8 (2 * p.val + 1)) (gath Tb l (2 * p.val + 1)) (v) (biasV b (v)) k)) $$ [HA HR]
    · isplitl [HA] <;> iassumption
    iapply (wp_wand frame (wpE (defs₀ (F := F)) 𝒱₀ (thr d L) none) Set.univ) $$ Hw
    iintro %r ⟨%hr, HA, HR⟩
    isplitr [HA HR]
    · ipureintro; exact hr
    isplitl [HA] <;> iassumption
  · isplitr [Ha HrB]
    · ipureintro; exact (congrArg₂ Prod.mk (load_bias b _ _ 0 rfl) (congrArg₂ Prod.mk (load_bias b _ _ 1 rfl) (congrArg₂ Prod.mk (load_bias b _ _ 2 rfl) (congrArg₂ Prod.mk (load_bias b _ _ 3 rfl) (congrArg₂ Prod.mk (load_bias b _ _ 4 rfl) (congrArg₂ Prod.mk (load_bias b _ _ 5 rfl) (congrArg₂ Prod.mk (load_bias b _ _ 6 rfl) (congrArg₂ Prod.mk (load_bias b _ _ 7 rfl) (congrArg₂ Prod.mk (load_bias b _ _ 8 rfl) (congrArg₂ Prod.mk (load_bias b _ _ 9 rfl) (congrArg₂ Prod.mk (load_bias b _ _ 10 rfl) (congrArg₂ Prod.mk (load_bias b _ _ 11 rfl) (congrArg₂ Prod.mk (load_bias b _ _ 12 rfl) (congrArg₂ Prod.mk (load_bias b _ _ 13 rfl) (congrArg₂ Prod.mk (load_bias b _ _ 14 rfl) (congrArg₂ Prod.mk (load_bias b _ _ 15 rfl) (congrArg₂ Prod.mk (load_bias b _ _ 16 rfl) (congrArg₂ Prod.mk (load_bias b _ _ 17 rfl) (congrArg₂ Prod.mk (load_bias b _ _ 18 rfl) (congrArg₂ Prod.mk (load_bias b _ _ 19 rfl) (congrArg₂ Prod.mk (load_bias b _ _ 20 rfl) (congrArg₂ Prod.mk (load_bias b _ _ 21 rfl) (congrArg₂ Prod.mk (load_bias b _ _ 22 rfl) (load_bias b _ _ 23 rfl))))))))))))))))))))))))
    isplitl [Ha] <;> iassumption
  iintro %s ⟨%hs, Ha, HrB⟩
  rw [show Scf.trips k0_t5_loop.lb k0_t5_loop.ub k0_t5_loop.st = 16 by decide] at hs
  subst hs
  sl_exec
  ihave Hu := (upd_pts d L (updN (updN fo (2 * p.val) 0 (fun v => valV Tb l f8 b (2 * p.val) (v)) 24) (2 * p.val) 24 (fun v => valV Tb l f8 b (2 * p.val) (v + 24)) 24) (2 * p.val + 1) 0 (fun v => valV Tb l f8 b (2 * p.val + 1) (v)) _) $$ Ho
  ihave Ho := Hu $$ []
  · ipureintro
    exact ⟨23, rfl, ⟨_, _, _, rfl, k0_off135_eq p⟩,
      ⟨22, rfl, ⟨_, _, _, rfl, k0_off134_eq p⟩,
      ⟨21, rfl, ⟨_, _, _, rfl, k0_off133_eq p⟩,
      ⟨20, rfl, ⟨_, _, _, rfl, k0_off132_eq p⟩,
      ⟨19, rfl, ⟨_, _, _, rfl, k0_off131_eq p⟩,
      ⟨18, rfl, ⟨_, _, _, rfl, k0_off130_eq p⟩,
      ⟨17, rfl, ⟨_, _, _, rfl, k0_off129_eq p⟩,
      ⟨16, rfl, ⟨_, _, _, rfl, k0_off128_eq p⟩,
      ⟨15, rfl, ⟨_, _, _, rfl, k0_off127_eq p⟩,
      ⟨14, rfl, ⟨_, _, _, rfl, k0_off126_eq p⟩,
      ⟨13, rfl, ⟨_, _, _, rfl, k0_off125_eq p⟩,
      ⟨12, rfl, ⟨_, _, _, rfl, k0_off124_eq p⟩,
      ⟨11, rfl, ⟨_, _, _, rfl, k0_off123_eq p⟩,
      ⟨10, rfl, ⟨_, _, _, rfl, k0_off122_eq p⟩,
      ⟨9, rfl, ⟨_, _, _, rfl, k0_off121_eq p⟩,
      ⟨8, rfl, ⟨_, _, _, rfl, k0_off120_eq p⟩,
      ⟨7, rfl, ⟨_, _, _, rfl, k0_off119_eq p⟩,
      ⟨6, rfl, ⟨_, _, _, rfl, k0_off118_eq p⟩,
      ⟨5, rfl, ⟨_, _, _, rfl, k0_off117_eq p⟩,
      ⟨4, rfl, ⟨_, _, _, rfl, k0_off116_eq p⟩,
      ⟨3, rfl, ⟨_, _, _, rfl, k0_off115_eq p⟩,
      ⟨2, rfl, ⟨_, _, _, rfl, k0_off114_eq p⟩,
      ⟨1, rfl, ⟨_, _, _, rfl, k0_off113_eq p⟩,
      ⟨0, rfl, ⟨_, _, _, rfl, k0_off112_eq p⟩,
      rfl⟩⟩⟩⟩⟩⟩⟩⟩⟩⟩⟩⟩⟩⟩⟩⟩⟩⟩⟩⟩⟩⟩⟩⟩
  sl_for (fun (k : ℕ) (s : T24 F) => iprop(⌜s = tup (fun v => sumV (spl f8 (2 * p.val + 1)) (gath Tb l (2 * p.val + 1)) (v + 24) (biasV b (v + 24)) k)⌝
      ∗ ((aspV).view.loc (thr d L) ↦{fullShare} spl f8 (2 * p.val + 1)) ∗ ((rowB).view.loc (thr d L) ↦{fullShare} gath Tb l (2 * p.val + 1)))) $$ [Ha HrB]
  case region =>
    intro k s
    iintro ⟨%hs, HA, HR⟩
    subst hs
    ihave Hw := (t6_trip d L _ _ k (fun v => sumV (spl f8 (2 * p.val + 1)) (gath Tb l (2 * p.val + 1)) (v + 24) (biasV b (v + 24)) k)) $$ [HA HR]
    · isplitl [HA] <;> iassumption
    iapply (wp_wand frame (wpE (defs₀ (F := F)) 𝒱₀ (thr d L) none) Set.univ) $$ Hw
    iintro %r ⟨%hr, HA, HR⟩
    isplitr [HA HR]
    · ipureintro; exact hr
    isplitl [HA] <;> iassumption
  · isplitr [Ha HrB]
    · ipureintro; exact (congrArg₂ Prod.mk (load_bias b _ _ 24 rfl) (congrArg₂ Prod.mk (load_bias b _ _ 25 rfl) (congrArg₂ Prod.mk (load_bias b _ _ 26 rfl) (congrArg₂ Prod.mk (load_bias b _ _ 27 rfl) (congrArg₂ Prod.mk (load_bias b _ _ 28 rfl) (congrArg₂ Prod.mk (load_bias b _ _ 29 rfl) (congrArg₂ Prod.mk (load_bias b _ _ 30 rfl) (congrArg₂ Prod.mk (load_bias b _ _ 31 rfl) (congrArg₂ Prod.mk (load_bias b _ _ 32 rfl) (congrArg₂ Prod.mk (load_bias b _ _ 33 rfl) (congrArg₂ Prod.mk (load_bias b _ _ 34 rfl) (congrArg₂ Prod.mk (load_bias b _ _ 35 rfl) (congrArg₂ Prod.mk (load_bias b _ _ 36 rfl) (congrArg₂ Prod.mk (load_bias b _ _ 37 rfl) (congrArg₂ Prod.mk (load_bias b _ _ 38 rfl) (congrArg₂ Prod.mk (load_bias b _ _ 39 rfl) (congrArg₂ Prod.mk (load_bias b _ _ 40 rfl) (congrArg₂ Prod.mk (load_bias b _ _ 41 rfl) (congrArg₂ Prod.mk (load_bias b _ _ 42 rfl) (congrArg₂ Prod.mk (load_bias b _ _ 43 rfl) (congrArg₂ Prod.mk (load_bias b _ _ 44 rfl) (congrArg₂ Prod.mk (load_bias b _ _ 45 rfl) (congrArg₂ Prod.mk (load_bias b _ _ 46 rfl) (load_bias b _ _ 47 rfl))))))))))))))))))))))))
    isplitl [Ha] <;> iassumption
  iintro %s ⟨%hs, Ha, HrB⟩
  rw [show Scf.trips k0_t6_loop.lb k0_t6_loop.ub k0_t6_loop.st = 16 by decide] at hs
  subst hs
  sl_exec
  ihave Hu := (upd_pts d L (updN (updN (updN fo (2 * p.val) 0 (fun v => valV Tb l f8 b (2 * p.val) (v)) 24) (2 * p.val) 24 (fun v => valV Tb l f8 b (2 * p.val) (v + 24)) 24) (2 * p.val + 1) 0 (fun v => valV Tb l f8 b (2 * p.val + 1) (v)) 24) (2 * p.val + 1) 24 (fun v => valV Tb l f8 b (2 * p.val + 1) (v + 24)) _) $$ Ho
  ihave Ho := Hu $$ []
  · ipureintro
    exact ⟨23, rfl, ⟨_, _, _, rfl, k0_off177_eq p⟩,
      ⟨22, rfl, ⟨_, _, _, rfl, k0_off176_eq p⟩,
      ⟨21, rfl, ⟨_, _, _, rfl, k0_off175_eq p⟩,
      ⟨20, rfl, ⟨_, _, _, rfl, k0_off174_eq p⟩,
      ⟨19, rfl, ⟨_, _, _, rfl, k0_off173_eq p⟩,
      ⟨18, rfl, ⟨_, _, _, rfl, k0_off172_eq p⟩,
      ⟨17, rfl, ⟨_, _, _, rfl, k0_off171_eq p⟩,
      ⟨16, rfl, ⟨_, _, _, rfl, k0_off170_eq p⟩,
      ⟨15, rfl, ⟨_, _, _, rfl, k0_off169_eq p⟩,
      ⟨14, rfl, ⟨_, _, _, rfl, k0_off168_eq p⟩,
      ⟨13, rfl, ⟨_, _, _, rfl, k0_off167_eq p⟩,
      ⟨12, rfl, ⟨_, _, _, rfl, k0_off166_eq p⟩,
      ⟨11, rfl, ⟨_, _, _, rfl, k0_off165_eq p⟩,
      ⟨10, rfl, ⟨_, _, _, rfl, k0_off164_eq p⟩,
      ⟨9, rfl, ⟨_, _, _, rfl, k0_off163_eq p⟩,
      ⟨8, rfl, ⟨_, _, _, rfl, k0_off162_eq p⟩,
      ⟨7, rfl, ⟨_, _, _, rfl, k0_off161_eq p⟩,
      ⟨6, rfl, ⟨_, _, _, rfl, k0_off160_eq p⟩,
      ⟨5, rfl, ⟨_, _, _, rfl, k0_off159_eq p⟩,
      ⟨4, rfl, ⟨_, _, _, rfl, k0_off158_eq p⟩,
      ⟨3, rfl, ⟨_, _, _, rfl, k0_off157_eq p⟩,
      ⟨2, rfl, ⟨_, _, _, rfl, k0_off156_eq p⟩,
      ⟨1, rfl, ⟨_, _, _, rfl, k0_off155_eq p⟩,
      ⟨0, rfl, ⟨_, _, _, rfl, k0_off154_eq p⟩,
      rfl⟩⟩⟩⟩⟩⟩⟩⟩⟩⟩⟩⟩⟩⟩⟩⟩⟩⟩⟩⟩⟩⟩⟩⟩
  sl_step
  isplitl [HFa]; · iexact HFa
  isplitl [HrB]; · iexact HrB
  isplitl [Htb]; · iexact Htb
  isplitl [Hib]; · iexact Hib
  isplitl [Hsb]; · iexact Hsb
  isplitl [H8]; · iexact H8
  isplitl [Hbi]; · iexact Hbi
  isplitl [Ha]; · iexact Ha
  isplitl [Ho]; · iexact Ho
  iexact HO

set_option maxHeartbeats 4000000 in
/-- One pair of tokens, the last: both rows made, each under the other's gather. -/
theorem t2_last (d : Dev nD) (L : grid0.Coords) (O : CellTallies nD τ sig (HIx 1)) (W : Waits sig (HIx 1))
    (Tb : S73728x2x128.Idx → F .f32) (l : S16x96.Idx → BitVec 32) (hl : ∀ x, (l x).toNat < 73728) (f8 : S512.Idx → F .f32) (b : S768.Idx → F .f32)
    (fo : S16x768.Idx → F .f32) (fa : S32x16.Idx → F .f32) (fB : S96x2x128.Idx → F .f32) (qa qb : PosShare TreeShare)
    (p : Fin k0_t2_loop.trips) (s : BitVec 32) (hC : ¬ k0_cond1 p = 1#1) :
    iprop(Transfers.MayWaits (thr d L) none O
        ∗ Transfers.Flight countersEmb (thr d L) (.dma cc0_scratch7.sem) (default : HIx 1) (rowA).view.dmaCredit
          iprop(((rowA).view.loc (thr d L) ↦{fullShare} gath Tb l (2 * p.val)) ∗ ((tabM).view.loc (thr d L) ↦{qa} Tb) ∗ ((idxV).view.loc (thr d L) ↦{fullShare.left} l))
        ∗ ((rowB).view.loc (thr d L) ↦{fullShare} fB) ∗ ((tabM).view.loc (thr d L) ↦{qb} Tb) ∗ ((idxV).view.loc (thr d L) ↦{fullShare.right} l)
        ∗ semVal (thr d L, SemLoc.dma cc0_scratch8.sem) 0
        ∗ ((actsV).view.loc (thr d L) ↦{fullShare} f8) ∗ ((biaV).view.loc (thr d L) ↦{fullShare} b)
        ∗ ((aspV).view.loc (thr d L) ↦{fullShare} fa) ∗ ((outV).view.loc (thr d L) ↦{fullShare} fo)
        ∗ owes (thr d L) O W)
      ⊢@{sProp 𝕄} wp frame (wpE (defs₀ (F := F)) 𝒱₀ (thr d L) none) Set.univ
        (k0_t2_body L tabM (Memref.isWhole_whole _) actM (Memref.isWhole_whole _) lstM (Memref.isWhole_whole _) biaM (Memref.isWhole_whole _) resM (Memref.isWhole_whole _) idxV (Memref.isWhole_whole _) actsV (Memref.isWhole_whole _) aspV (Memref.isWhole_whole _) rowA (Memref.isWhole_whole _) rowB (Memref.isWhole_whole _) outV (Memref.isWhole_whole _) biaV (Memref.isWhole_whole _) cc0_scratch7 cc0_scratch8 cc0_scoped0 cc0_scoped1 cc0_scoped2 cc0_scoped3 p s)
        fun _ => iprop((((rowA).view.loc (thr d L) ↦{fullShare} gath Tb l (2 * p.val)) ∗ ((tabM).view.loc (thr d L) ↦{qa} Tb) ∗ ((idxV).view.loc (thr d L) ↦{fullShare.left} l)
          ∗ semVal (thr d L, SemLoc.dma cc0_scratch7.sem) 0)
        ∗ ((rowB).view.loc (thr d L) ↦{fullShare} gath Tb l (2 * p.val + 1)) ∗ ((tabM).view.loc (thr d L) ↦{qb} Tb) ∗ ((idxV).view.loc (thr d L) ↦{fullShare.right} l)
        ∗ semVal (thr d L, SemLoc.dma cc0_scratch8.sem) 0
        ∗ ((actsV).view.loc (thr d L) ↦{fullShare} f8) ∗ ((biaV).view.loc (thr d L) ↦{fullShare} b)
        ∗ ((aspV).view.loc (thr d L) ↦{fullShare} spl f8 (2 * p.val + 1))
        ∗ ((outV).view.loc (thr d L) ↦{fullShare} (updN (updN (updN (updN fo (2 * p.val) 0 (fun v => valV Tb l f8 b (2 * p.val) (v)) 24) (2 * p.val) 24 (fun v => valV Tb l f8 b (2 * p.val) (v + 24)) 24) (2 * p.val + 1) 0 (fun v => valV Tb l f8 b (2 * p.val + 1) (v)) 24) (2 * p.val + 1) 24 (fun v => valV Tb l f8 b (2 * p.val + 1) (v + 24)) 24))
        ∗ owes (thr d L) O (insert (SemLoc.dma cc0_scratch8.sem, (default : HIx 1)) (insert (SemLoc.dma cc0_scratch7.sem, (default : HIx 1)) W))) := by
  unfold k0_t2_body
  iintro ⟨#Hmw, HFa, HrB, Htb, Hib, Hsb, H8, Hbi, Ha, Ho, HO⟩
  sl_exec
  iapply (gatherB d L l hl Tb qb fullShare.right fB (2 * p.val + 1) (k0_off3_eq p)) $$ [HrB Htb Hib Hsb]
  · isplitl [Htb]; · iexact Htb
    isplitl [HrB]; · iexact HrB
    isplitl [Hib]; · iexact Hib
    iexact Hsb
  iintro HFb
  sl_exec
  iapply (Transfers.wp_waitLocalO countersEmb 𝒱₀ (thr d L) none (default : HIx 1) (rfl : (rowA).view.dmaCredit = _)) $$ [HFa HO]
  · isplitl [HFa]; · iexact HFa
    isplitl [HO]; · iexact HO
    iapply (Transfers.MayWaits.elim (SemLoc.dma cc0_scratch7.sem)) $$ Hmw
  iintro ⟨⟨HrA, Hta, Hia⟩, Hsa, HO⟩
  sl_exec
  ihave Hu := (spl_pts d L f8 (2 * p.val) _ _) $$ Ha
  ihave Ha := Hu $$ []
  · ipureintro
    exact ⟨31, rfl, ⟨_, _, _, rfl, rfl, fun x => (splat_pay f8 _ (64 * p.val + 16) 15 (k0_off6_eq p) _ _ _ _ x).trans (congrArg (fun n => f8 (ix8 n)) (by omega))⟩,
      ⟨30, rfl, ⟨_, _, _, rfl, rfl, fun x => (splat_pay f8 _ (64 * p.val + 16) 14 (k0_off6_eq p) _ _ _ _ x).trans (congrArg (fun n => f8 (ix8 n)) (by omega))⟩,
      ⟨29, rfl, ⟨_, _, _, rfl, rfl, fun x => (splat_pay f8 _ (64 * p.val + 16) 13 (k0_off6_eq p) _ _ _ _ x).trans (congrArg (fun n => f8 (ix8 n)) (by omega))⟩,
      ⟨28, rfl, ⟨_, _, _, rfl, rfl, fun x => (splat_pay f8 _ (64 * p.val + 16) 12 (k0_off6_eq p) _ _ _ _ x).trans (congrArg (fun n => f8 (ix8 n)) (by omega))⟩,
      ⟨27, rfl, ⟨_, _, _, rfl, rfl, fun x => (splat_pay f8 _ (64 * p.val + 16) 11 (k0_off6_eq p) _ _ _ _ x).trans (congrArg (fun n => f8 (ix8 n)) (by omega))⟩,
      ⟨26, rfl, ⟨_, _, _, rfl, rfl, fun x => (splat_pay f8 _ (64 * p.val + 16) 10 (k0_off6_eq p) _ _ _ _ x).trans (congrArg (fun n => f8 (ix8 n)) (by omega))⟩,
      ⟨25, rfl, ⟨_, _, _, rfl, rfl, fun x => (splat_pay f8 _ (64 * p.val + 16) 9 (k0_off6_eq p) _ _ _ _ x).trans (congrArg (fun n => f8 (ix8 n)) (by omega))⟩,
      ⟨24, rfl, ⟨_, _, _, rfl, rfl, fun x => (splat_pay f8 _ (64 * p.val + 16) 8 (k0_off6_eq p) _ _ _ _ x).trans (congrArg (fun n => f8 (ix8 n)) (by omega))⟩,
      ⟨23, rfl, ⟨_, _, _, rfl, rfl, fun x => (splat_pay f8 _ (64 * p.val + 16) 7 (k0_off6_eq p) _ _ _ _ x).trans (congrArg (fun n => f8 (ix8 n)) (by omega))⟩,
      ⟨22, rfl, ⟨_, _, _, rfl, rfl, fun x => (splat_pay f8 _ (64 * p.val + 16) 6 (k0_off6_eq p) _ _ _ _ x).trans (congrArg (fun n => f8 (ix8 n)) (by omega))⟩,
      ⟨21, rfl, ⟨_, _, _, rfl, rfl, fun x => (splat_pay f8 _ (64 * p.val + 16) 5 (k0_off6_eq p) _ _ _ _ x).trans (congrArg (fun n => f8 (ix8 n)) (by omega))⟩,
      ⟨20, rfl, ⟨_, _, _, rfl, rfl, fun x => (splat_pay f8 _ (64 * p.val + 16) 4 (k0_off6_eq p) _ _ _ _ x).trans (congrArg (fun n => f8 (ix8 n)) (by omega))⟩,
      ⟨19, rfl, ⟨_, _, _, rfl, rfl, fun x => (splat_pay f8 _ (64 * p.val + 16) 3 (k0_off6_eq p) _ _ _ _ x).trans (congrArg (fun n => f8 (ix8 n)) (by omega))⟩,
      ⟨18, rfl, ⟨_, _, _, rfl, rfl, fun x => (splat_pay f8 _ (64 * p.val + 16) 2 (k0_off6_eq p) _ _ _ _ x).trans (congrArg (fun n => f8 (ix8 n)) (by omega))⟩,
      ⟨17, rfl, ⟨_, _, _, rfl, rfl, fun x => (splat_pay f8 _ (64 * p.val + 16) 1 (k0_off6_eq p) _ _ _ _ x).trans (congrArg (fun n => f8 (ix8 n)) (by omega))⟩,
      ⟨16, rfl, ⟨_, _, _, rfl, rfl, fun x => (splat_pay f8 _ (64 * p.val + 16) 0 (k0_off6_eq p) _ _ _ _ x).trans (congrArg (fun n => f8 (ix8 n)) (by omega))⟩,
      ⟨15, rfl, ⟨_, _, _, rfl, rfl, fun x => (splat_pay f8 _ (64 * p.val) 15 (k0_off5_eq p) _ _ _ _ x).trans (congrArg (fun n => f8 (ix8 n)) (by omega))⟩,
      ⟨14, rfl, ⟨_, _, _, rfl, rfl, fun x => (splat_pay f8 _ (64 * p.val) 14 (k0_off5_eq p) _ _ _ _ x).trans (congrArg (fun n => f8 (ix8 n)) (by omega))⟩,
      ⟨13, rfl, ⟨_, _, _, rfl, rfl, fun x => (splat_pay f8 _ (64 * p.val) 13 (k0_off5_eq p) _ _ _ _ x).trans (congrArg (fun n => f8 (ix8 n)) (by omega))⟩,
      ⟨12, rfl, ⟨_, _, _, rfl, rfl, fun x => (splat_pay f8 _ (64 * p.val) 12 (k0_off5_eq p) _ _ _ _ x).trans (congrArg (fun n => f8 (ix8 n)) (by omega))⟩,
      ⟨11, rfl, ⟨_, _, _, rfl, rfl, fun x => (splat_pay f8 _ (64 * p.val) 11 (k0_off5_eq p) _ _ _ _ x).trans (congrArg (fun n => f8 (ix8 n)) (by omega))⟩,
      ⟨10, rfl, ⟨_, _, _, rfl, rfl, fun x => (splat_pay f8 _ (64 * p.val) 10 (k0_off5_eq p) _ _ _ _ x).trans (congrArg (fun n => f8 (ix8 n)) (by omega))⟩,
      ⟨9, rfl, ⟨_, _, _, rfl, rfl, fun x => (splat_pay f8 _ (64 * p.val) 9 (k0_off5_eq p) _ _ _ _ x).trans (congrArg (fun n => f8 (ix8 n)) (by omega))⟩,
      ⟨8, rfl, ⟨_, _, _, rfl, rfl, fun x => (splat_pay f8 _ (64 * p.val) 8 (k0_off5_eq p) _ _ _ _ x).trans (congrArg (fun n => f8 (ix8 n)) (by omega))⟩,
      ⟨7, rfl, ⟨_, _, _, rfl, rfl, fun x => (splat_pay f8 _ (64 * p.val) 7 (k0_off5_eq p) _ _ _ _ x).trans (congrArg (fun n => f8 (ix8 n)) (by omega))⟩,
      ⟨6, rfl, ⟨_, _, _, rfl, rfl, fun x => (splat_pay f8 _ (64 * p.val) 6 (k0_off5_eq p) _ _ _ _ x).trans (congrArg (fun n => f8 (ix8 n)) (by omega))⟩,
      ⟨5, rfl, ⟨_, _, _, rfl, rfl, fun x => (splat_pay f8 _ (64 * p.val) 5 (k0_off5_eq p) _ _ _ _ x).trans (congrArg (fun n => f8 (ix8 n)) (by omega))⟩,
      ⟨4, rfl, ⟨_, _, _, rfl, rfl, fun x => (splat_pay f8 _ (64 * p.val) 4 (k0_off5_eq p) _ _ _ _ x).trans (congrArg (fun n => f8 (ix8 n)) (by omega))⟩,
      ⟨3, rfl, ⟨_, _, _, rfl, rfl, fun x => (splat_pay f8 _ (64 * p.val) 3 (k0_off5_eq p) _ _ _ _ x).trans (congrArg (fun n => f8 (ix8 n)) (by omega))⟩,
      ⟨2, rfl, ⟨_, _, _, rfl, rfl, fun x => (splat_pay f8 _ (64 * p.val) 2 (k0_off5_eq p) _ _ _ _ x).trans (congrArg (fun n => f8 (ix8 n)) (by omega))⟩,
      ⟨1, rfl, ⟨_, _, _, rfl, rfl, fun x => (splat_pay f8 _ (64 * p.val) 1 (k0_off5_eq p) _ _ _ _ x).trans (congrArg (fun n => f8 (ix8 n)) (by omega))⟩,
      ⟨0, rfl, ⟨_, _, _, rfl, rfl, fun x => (splat_pay f8 _ (64 * p.val) 0 (k0_off5_eq p) _ _ _ _ x).trans (congrArg (fun n => f8 (ix8 n)) (by omega))⟩,
      rfl⟩⟩⟩⟩⟩⟩⟩⟩⟩⟩⟩⟩⟩⟩⟩⟩⟩⟩⟩⟩⟩⟩⟩⟩⟩⟩⟩⟩⟩⟩⟩⟩
  sl_for (fun (k : ℕ) (s : T24 F) => iprop(⌜s = tup (fun v => sumV (spl f8 (2 * p.val)) (gath Tb l (2 * p.val)) (v) (biasV b (v)) k)⌝
      ∗ ((aspV).view.loc (thr d L) ↦{fullShare} spl f8 (2 * p.val)) ∗ ((rowA).view.loc (thr d L) ↦{fullShare} gath Tb l (2 * p.val)))) $$ [Ha HrA]
  case region =>
    intro k s
    iintro ⟨%hs, HA, HR⟩
    subst hs
    ihave Hw := (t3_trip d L _ _ k (fun v => sumV (spl f8 (2 * p.val)) (gath Tb l (2 * p.val)) (v) (biasV b (v)) k)) $$ [HA HR]
    · isplitl [HA] <;> iassumption
    iapply (wp_wand frame (wpE (defs₀ (F := F)) 𝒱₀ (thr d L) none) Set.univ) $$ Hw
    iintro %r ⟨%hr, HA, HR⟩
    isplitr [HA HR]
    · ipureintro; exact hr
    isplitl [HA] <;> iassumption
  · isplitr [Ha HrA]
    · ipureintro; exact (congrArg₂ Prod.mk (load_bias b _ _ 0 rfl) (congrArg₂ Prod.mk (load_bias b _ _ 1 rfl) (congrArg₂ Prod.mk (load_bias b _ _ 2 rfl) (congrArg₂ Prod.mk (load_bias b _ _ 3 rfl) (congrArg₂ Prod.mk (load_bias b _ _ 4 rfl) (congrArg₂ Prod.mk (load_bias b _ _ 5 rfl) (congrArg₂ Prod.mk (load_bias b _ _ 6 rfl) (congrArg₂ Prod.mk (load_bias b _ _ 7 rfl) (congrArg₂ Prod.mk (load_bias b _ _ 8 rfl) (congrArg₂ Prod.mk (load_bias b _ _ 9 rfl) (congrArg₂ Prod.mk (load_bias b _ _ 10 rfl) (congrArg₂ Prod.mk (load_bias b _ _ 11 rfl) (congrArg₂ Prod.mk (load_bias b _ _ 12 rfl) (congrArg₂ Prod.mk (load_bias b _ _ 13 rfl) (congrArg₂ Prod.mk (load_bias b _ _ 14 rfl) (congrArg₂ Prod.mk (load_bias b _ _ 15 rfl) (congrArg₂ Prod.mk (load_bias b _ _ 16 rfl) (congrArg₂ Prod.mk (load_bias b _ _ 17 rfl) (congrArg₂ Prod.mk (load_bias b _ _ 18 rfl) (congrArg₂ Prod.mk (load_bias b _ _ 19 rfl) (congrArg₂ Prod.mk (load_bias b _ _ 20 rfl) (congrArg₂ Prod.mk (load_bias b _ _ 21 rfl) (congrArg₂ Prod.mk (load_bias b _ _ 22 rfl) (load_bias b _ _ 23 rfl))))))))))))))))))))))))
    isplitl [Ha] <;> iassumption
  iintro %s ⟨%hs, Ha, HrA⟩
  rw [show Scf.trips k0_t3_loop.lb k0_t3_loop.ub k0_t3_loop.st = 16 by decide] at hs
  subst hs
  sl_exec
  ihave Hu := (upd_pts d L fo (2 * p.val) 0 (fun v => valV Tb l f8 b (2 * p.val) (v)) _) $$ Ho
  ihave Ho := Hu $$ []
  · ipureintro
    exact ⟨23, rfl, ⟨_, _, _, rfl, k0_off48_eq p⟩,
      ⟨22, rfl, ⟨_, _, _, rfl, k0_off47_eq p⟩,
      ⟨21, rfl, ⟨_, _, _, rfl, k0_off46_eq p⟩,
      ⟨20, rfl, ⟨_, _, _, rfl, k0_off45_eq p⟩,
      ⟨19, rfl, ⟨_, _, _, rfl, k0_off44_eq p⟩,
      ⟨18, rfl, ⟨_, _, _, rfl, k0_off43_eq p⟩,
      ⟨17, rfl, ⟨_, _, _, rfl, k0_off42_eq p⟩,
      ⟨16, rfl, ⟨_, _, _, rfl, k0_off41_eq p⟩,
      ⟨15, rfl, ⟨_, _, _, rfl, k0_off40_eq p⟩,
      ⟨14, rfl, ⟨_, _, _, rfl, k0_off39_eq p⟩,
      ⟨13, rfl, ⟨_, _, _, rfl, k0_off38_eq p⟩,
      ⟨12, rfl, ⟨_, _, _, rfl, k0_off37_eq p⟩,
      ⟨11, rfl, ⟨_, _, _, rfl, k0_off36_eq p⟩,
      ⟨10, rfl, ⟨_, _, _, rfl, k0_off35_eq p⟩,
      ⟨9, rfl, ⟨_, _, _, rfl, k0_off34_eq p⟩,
      ⟨8, rfl, ⟨_, _, _, rfl, k0_off33_eq p⟩,
      ⟨7, rfl, ⟨_, _, _, rfl, k0_off32_eq p⟩,
      ⟨6, rfl, ⟨_, _, _, rfl, k0_off31_eq p⟩,
      ⟨5, rfl, ⟨_, _, _, rfl, k0_off30_eq p⟩,
      ⟨4, rfl, ⟨_, _, _, rfl, k0_off29_eq p⟩,
      ⟨3, rfl, ⟨_, _, _, rfl, k0_off28_eq p⟩,
      ⟨2, rfl, ⟨_, _, _, rfl, k0_off27_eq p⟩,
      ⟨1, rfl, ⟨_, _, _, rfl, k0_off26_eq p⟩,
      ⟨0, rfl, ⟨_, _, _, rfl, k0_off25_eq p⟩,
      rfl⟩⟩⟩⟩⟩⟩⟩⟩⟩⟩⟩⟩⟩⟩⟩⟩⟩⟩⟩⟩⟩⟩⟩⟩
  sl_for (fun (k : ℕ) (s : T24 F) => iprop(⌜s = tup (fun v => sumV (spl f8 (2 * p.val)) (gath Tb l (2 * p.val)) (v + 24) (biasV b (v + 24)) k)⌝
      ∗ ((aspV).view.loc (thr d L) ↦{fullShare} spl f8 (2 * p.val)) ∗ ((rowA).view.loc (thr d L) ↦{fullShare} gath Tb l (2 * p.val)))) $$ [Ha HrA]
  case region =>
    intro k s
    iintro ⟨%hs, HA, HR⟩
    subst hs
    ihave Hw := (t4_trip d L _ _ k (fun v => sumV (spl f8 (2 * p.val)) (gath Tb l (2 * p.val)) (v + 24) (biasV b (v + 24)) k)) $$ [HA HR]
    · isplitl [HA] <;> iassumption
    iapply (wp_wand frame (wpE (defs₀ (F := F)) 𝒱₀ (thr d L) none) Set.univ) $$ Hw
    iintro %r ⟨%hr, HA, HR⟩
    isplitr [HA HR]
    · ipureintro; exact hr
    isplitl [HA] <;> iassumption
  · isplitr [Ha HrA]
    · ipureintro; exact (congrArg₂ Prod.mk (load_bias b _ _ 24 rfl) (congrArg₂ Prod.mk (load_bias b _ _ 25 rfl) (congrArg₂ Prod.mk (load_bias b _ _ 26 rfl) (congrArg₂ Prod.mk (load_bias b _ _ 27 rfl) (congrArg₂ Prod.mk (load_bias b _ _ 28 rfl) (congrArg₂ Prod.mk (load_bias b _ _ 29 rfl) (congrArg₂ Prod.mk (load_bias b _ _ 30 rfl) (congrArg₂ Prod.mk (load_bias b _ _ 31 rfl) (congrArg₂ Prod.mk (load_bias b _ _ 32 rfl) (congrArg₂ Prod.mk (load_bias b _ _ 33 rfl) (congrArg₂ Prod.mk (load_bias b _ _ 34 rfl) (congrArg₂ Prod.mk (load_bias b _ _ 35 rfl) (congrArg₂ Prod.mk (load_bias b _ _ 36 rfl) (congrArg₂ Prod.mk (load_bias b _ _ 37 rfl) (congrArg₂ Prod.mk (load_bias b _ _ 38 rfl) (congrArg₂ Prod.mk (load_bias b _ _ 39 rfl) (congrArg₂ Prod.mk (load_bias b _ _ 40 rfl) (congrArg₂ Prod.mk (load_bias b _ _ 41 rfl) (congrArg₂ Prod.mk (load_bias b _ _ 42 rfl) (congrArg₂ Prod.mk (load_bias b _ _ 43 rfl) (congrArg₂ Prod.mk (load_bias b _ _ 44 rfl) (congrArg₂ Prod.mk (load_bias b _ _ 45 rfl) (congrArg₂ Prod.mk (load_bias b _ _ 46 rfl) (load_bias b _ _ 47 rfl))))))))))))))))))))))))
    isplitl [Ha] <;> iassumption
  iintro %s ⟨%hs, Ha, HrA⟩
  rw [show Scf.trips k0_t4_loop.lb k0_t4_loop.ub k0_t4_loop.st = 16 by decide] at hs
  subst hs
  sl_exec
  ihave Hu := (upd_pts d L (updN fo (2 * p.val) 0 (fun v => valV Tb l f8 b (2 * p.val) (v)) 24) (2 * p.val) 24 (fun v => valV Tb l f8 b (2 * p.val) (v + 24)) _) $$ Ho
  ihave Ho := Hu $$ []
  · ipureintro
    exact ⟨23, rfl, ⟨_, _, _, rfl, k0_off90_eq p⟩,
      ⟨22, rfl, ⟨_, _, _, rfl, k0_off89_eq p⟩,
      ⟨21, rfl, ⟨_, _, _, rfl, k0_off88_eq p⟩,
      ⟨20, rfl, ⟨_, _, _, rfl, k0_off87_eq p⟩,
      ⟨19, rfl, ⟨_, _, _, rfl, k0_off86_eq p⟩,
      ⟨18, rfl, ⟨_, _, _, rfl, k0_off85_eq p⟩,
      ⟨17, rfl, ⟨_, _, _, rfl, k0_off84_eq p⟩,
      ⟨16, rfl, ⟨_, _, _, rfl, k0_off83_eq p⟩,
      ⟨15, rfl, ⟨_, _, _, rfl, k0_off82_eq p⟩,
      ⟨14, rfl, ⟨_, _, _, rfl, k0_off81_eq p⟩,
      ⟨13, rfl, ⟨_, _, _, rfl, k0_off80_eq p⟩,
      ⟨12, rfl, ⟨_, _, _, rfl, k0_off79_eq p⟩,
      ⟨11, rfl, ⟨_, _, _, rfl, k0_off78_eq p⟩,
      ⟨10, rfl, ⟨_, _, _, rfl, k0_off77_eq p⟩,
      ⟨9, rfl, ⟨_, _, _, rfl, k0_off76_eq p⟩,
      ⟨8, rfl, ⟨_, _, _, rfl, k0_off75_eq p⟩,
      ⟨7, rfl, ⟨_, _, _, rfl, k0_off74_eq p⟩,
      ⟨6, rfl, ⟨_, _, _, rfl, k0_off73_eq p⟩,
      ⟨5, rfl, ⟨_, _, _, rfl, k0_off72_eq p⟩,
      ⟨4, rfl, ⟨_, _, _, rfl, k0_off71_eq p⟩,
      ⟨3, rfl, ⟨_, _, _, rfl, k0_off70_eq p⟩,
      ⟨2, rfl, ⟨_, _, _, rfl, k0_off69_eq p⟩,
      ⟨1, rfl, ⟨_, _, _, rfl, k0_off68_eq p⟩,
      ⟨0, rfl, ⟨_, _, _, rfl, k0_off67_eq p⟩,
      rfl⟩⟩⟩⟩⟩⟩⟩⟩⟩⟩⟩⟩⟩⟩⟩⟩⟩⟩⟩⟩⟩⟩⟩⟩
  iapply (Transfers.wp_waitLocalO countersEmb 𝒱₀ (thr d L) none (default : HIx 1) (rfl : (rowB).view.dmaCredit = _)) $$ [HFb HO]
  · isplitl [HFb]; · iexact HFb
    isplitl [HO]; · iexact HO
    iapply (Transfers.MayWaits.elim (SemLoc.dma cc0_scratch8.sem)) $$ Hmw
  iintro ⟨⟨HrB, Htb, Hib⟩, Hsb, HO⟩
  sl_exec
  ihave Hu := (spl_pts d L f8 (2 * p.val + 1) _ _) $$ Ha
  ihave Ha := Hu $$ []
  · ipureintro
    exact ⟨31, rfl, ⟨_, _, _, rfl, rfl, fun x => (splat_pay f8 _ (64 * p.val + 48) 15 (k0_off93_eq p) _ _ _ _ x).trans (congrArg (fun n => f8 (ix8 n)) (by omega))⟩,
      ⟨30, rfl, ⟨_, _, _, rfl, rfl, fun x => (splat_pay f8 _ (64 * p.val + 48) 14 (k0_off93_eq p) _ _ _ _ x).trans (congrArg (fun n => f8 (ix8 n)) (by omega))⟩,
      ⟨29, rfl, ⟨_, _, _, rfl, rfl, fun x => (splat_pay f8 _ (64 * p.val + 48) 13 (k0_off93_eq p) _ _ _ _ x).trans (congrArg (fun n => f8 (ix8 n)) (by omega))⟩,
      ⟨28, rfl, ⟨_, _, _, rfl, rfl, fun x => (splat_pay f8 _ (64 * p.val + 48) 12 (k0_off93_eq p) _ _ _ _ x).trans (congrArg (fun n => f8 (ix8 n)) (by omega))⟩,
      ⟨27, rfl, ⟨_, _, _, rfl, rfl, fun x => (splat_pay f8 _ (64 * p.val + 48) 11 (k0_off93_eq p) _ _ _ _ x).trans (congrArg (fun n => f8 (ix8 n)) (by omega))⟩,
      ⟨26, rfl, ⟨_, _, _, rfl, rfl, fun x => (splat_pay f8 _ (64 * p.val + 48) 10 (k0_off93_eq p) _ _ _ _ x).trans (congrArg (fun n => f8 (ix8 n)) (by omega))⟩,
      ⟨25, rfl, ⟨_, _, _, rfl, rfl, fun x => (splat_pay f8 _ (64 * p.val + 48) 9 (k0_off93_eq p) _ _ _ _ x).trans (congrArg (fun n => f8 (ix8 n)) (by omega))⟩,
      ⟨24, rfl, ⟨_, _, _, rfl, rfl, fun x => (splat_pay f8 _ (64 * p.val + 48) 8 (k0_off93_eq p) _ _ _ _ x).trans (congrArg (fun n => f8 (ix8 n)) (by omega))⟩,
      ⟨23, rfl, ⟨_, _, _, rfl, rfl, fun x => (splat_pay f8 _ (64 * p.val + 48) 7 (k0_off93_eq p) _ _ _ _ x).trans (congrArg (fun n => f8 (ix8 n)) (by omega))⟩,
      ⟨22, rfl, ⟨_, _, _, rfl, rfl, fun x => (splat_pay f8 _ (64 * p.val + 48) 6 (k0_off93_eq p) _ _ _ _ x).trans (congrArg (fun n => f8 (ix8 n)) (by omega))⟩,
      ⟨21, rfl, ⟨_, _, _, rfl, rfl, fun x => (splat_pay f8 _ (64 * p.val + 48) 5 (k0_off93_eq p) _ _ _ _ x).trans (congrArg (fun n => f8 (ix8 n)) (by omega))⟩,
      ⟨20, rfl, ⟨_, _, _, rfl, rfl, fun x => (splat_pay f8 _ (64 * p.val + 48) 4 (k0_off93_eq p) _ _ _ _ x).trans (congrArg (fun n => f8 (ix8 n)) (by omega))⟩,
      ⟨19, rfl, ⟨_, _, _, rfl, rfl, fun x => (splat_pay f8 _ (64 * p.val + 48) 3 (k0_off93_eq p) _ _ _ _ x).trans (congrArg (fun n => f8 (ix8 n)) (by omega))⟩,
      ⟨18, rfl, ⟨_, _, _, rfl, rfl, fun x => (splat_pay f8 _ (64 * p.val + 48) 2 (k0_off93_eq p) _ _ _ _ x).trans (congrArg (fun n => f8 (ix8 n)) (by omega))⟩,
      ⟨17, rfl, ⟨_, _, _, rfl, rfl, fun x => (splat_pay f8 _ (64 * p.val + 48) 1 (k0_off93_eq p) _ _ _ _ x).trans (congrArg (fun n => f8 (ix8 n)) (by omega))⟩,
      ⟨16, rfl, ⟨_, _, _, rfl, rfl, fun x => (splat_pay f8 _ (64 * p.val + 48) 0 (k0_off93_eq p) _ _ _ _ x).trans (congrArg (fun n => f8 (ix8 n)) (by omega))⟩,
      ⟨15, rfl, ⟨_, _, _, rfl, rfl, fun x => (splat_pay f8 _ (64 * p.val + 32) 15 (k0_off92_eq p) _ _ _ _ x).trans (congrArg (fun n => f8 (ix8 n)) (by omega))⟩,
      ⟨14, rfl, ⟨_, _, _, rfl, rfl, fun x => (splat_pay f8 _ (64 * p.val + 32) 14 (k0_off92_eq p) _ _ _ _ x).trans (congrArg (fun n => f8 (ix8 n)) (by omega))⟩,
      ⟨13, rfl, ⟨_, _, _, rfl, rfl, fun x => (splat_pay f8 _ (64 * p.val + 32) 13 (k0_off92_eq p) _ _ _ _ x).trans (congrArg (fun n => f8 (ix8 n)) (by omega))⟩,
      ⟨12, rfl, ⟨_, _, _, rfl, rfl, fun x => (splat_pay f8 _ (64 * p.val + 32) 12 (k0_off92_eq p) _ _ _ _ x).trans (congrArg (fun n => f8 (ix8 n)) (by omega))⟩,
      ⟨11, rfl, ⟨_, _, _, rfl, rfl, fun x => (splat_pay f8 _ (64 * p.val + 32) 11 (k0_off92_eq p) _ _ _ _ x).trans (congrArg (fun n => f8 (ix8 n)) (by omega))⟩,
      ⟨10, rfl, ⟨_, _, _, rfl, rfl, fun x => (splat_pay f8 _ (64 * p.val + 32) 10 (k0_off92_eq p) _ _ _ _ x).trans (congrArg (fun n => f8 (ix8 n)) (by omega))⟩,
      ⟨9, rfl, ⟨_, _, _, rfl, rfl, fun x => (splat_pay f8 _ (64 * p.val + 32) 9 (k0_off92_eq p) _ _ _ _ x).trans (congrArg (fun n => f8 (ix8 n)) (by omega))⟩,
      ⟨8, rfl, ⟨_, _, _, rfl, rfl, fun x => (splat_pay f8 _ (64 * p.val + 32) 8 (k0_off92_eq p) _ _ _ _ x).trans (congrArg (fun n => f8 (ix8 n)) (by omega))⟩,
      ⟨7, rfl, ⟨_, _, _, rfl, rfl, fun x => (splat_pay f8 _ (64 * p.val + 32) 7 (k0_off92_eq p) _ _ _ _ x).trans (congrArg (fun n => f8 (ix8 n)) (by omega))⟩,
      ⟨6, rfl, ⟨_, _, _, rfl, rfl, fun x => (splat_pay f8 _ (64 * p.val + 32) 6 (k0_off92_eq p) _ _ _ _ x).trans (congrArg (fun n => f8 (ix8 n)) (by omega))⟩,
      ⟨5, rfl, ⟨_, _, _, rfl, rfl, fun x => (splat_pay f8 _ (64 * p.val + 32) 5 (k0_off92_eq p) _ _ _ _ x).trans (congrArg (fun n => f8 (ix8 n)) (by omega))⟩,
      ⟨4, rfl, ⟨_, _, _, rfl, rfl, fun x => (splat_pay f8 _ (64 * p.val + 32) 4 (k0_off92_eq p) _ _ _ _ x).trans (congrArg (fun n => f8 (ix8 n)) (by omega))⟩,
      ⟨3, rfl, ⟨_, _, _, rfl, rfl, fun x => (splat_pay f8 _ (64 * p.val + 32) 3 (k0_off92_eq p) _ _ _ _ x).trans (congrArg (fun n => f8 (ix8 n)) (by omega))⟩,
      ⟨2, rfl, ⟨_, _, _, rfl, rfl, fun x => (splat_pay f8 _ (64 * p.val + 32) 2 (k0_off92_eq p) _ _ _ _ x).trans (congrArg (fun n => f8 (ix8 n)) (by omega))⟩,
      ⟨1, rfl, ⟨_, _, _, rfl, rfl, fun x => (splat_pay f8 _ (64 * p.val + 32) 1 (k0_off92_eq p) _ _ _ _ x).trans (congrArg (fun n => f8 (ix8 n)) (by omega))⟩,
      ⟨0, rfl, ⟨_, _, _, rfl, rfl, fun x => (splat_pay f8 _ (64 * p.val + 32) 0 (k0_off92_eq p) _ _ _ _ x).trans (congrArg (fun n => f8 (ix8 n)) (by omega))⟩,
      rfl⟩⟩⟩⟩⟩⟩⟩⟩⟩⟩⟩⟩⟩⟩⟩⟩⟩⟩⟩⟩⟩⟩⟩⟩⟩⟩⟩⟩⟩⟩⟩⟩
  sl_for (fun (k : ℕ) (s : T24 F) => iprop(⌜s = tup (fun v => sumV (spl f8 (2 * p.val + 1)) (gath Tb l (2 * p.val + 1)) (v) (biasV b (v)) k)⌝
      ∗ ((aspV).view.loc (thr d L) ↦{fullShare} spl f8 (2 * p.val + 1)) ∗ ((rowB).view.loc (thr d L) ↦{fullShare} gath Tb l (2 * p.val + 1)))) $$ [Ha HrB]
  case region =>
    intro k s
    iintro ⟨%hs, HA, HR⟩
    subst hs
    ihave Hw := (t5_trip d L _ _ k (fun v => sumV (spl f8 (2 * p.val + 1)) (gath Tb l (2 * p.val + 1)) (v) (biasV b (v)) k)) $$ [HA HR]
    · isplitl [HA] <;> iassumption
    iapply (wp_wand frame (wpE (defs₀ (F := F)) 𝒱₀ (thr d L) none) Set.univ) $$ Hw
    iintro %r ⟨%hr, HA, HR⟩
    isplitr [HA HR]
    · ipureintro; exact hr
    isplitl [HA] <;> iassumption
  · isplitr [Ha HrB]
    · ipureintro; exact (congrArg₂ Prod.mk (load_bias b _ _ 0 rfl) (congrArg₂ Prod.mk (load_bias b _ _ 1 rfl) (congrArg₂ Prod.mk (load_bias b _ _ 2 rfl) (congrArg₂ Prod.mk (load_bias b _ _ 3 rfl) (congrArg₂ Prod.mk (load_bias b _ _ 4 rfl) (congrArg₂ Prod.mk (load_bias b _ _ 5 rfl) (congrArg₂ Prod.mk (load_bias b _ _ 6 rfl) (congrArg₂ Prod.mk (load_bias b _ _ 7 rfl) (congrArg₂ Prod.mk (load_bias b _ _ 8 rfl) (congrArg₂ Prod.mk (load_bias b _ _ 9 rfl) (congrArg₂ Prod.mk (load_bias b _ _ 10 rfl) (congrArg₂ Prod.mk (load_bias b _ _ 11 rfl) (congrArg₂ Prod.mk (load_bias b _ _ 12 rfl) (congrArg₂ Prod.mk (load_bias b _ _ 13 rfl) (congrArg₂ Prod.mk (load_bias b _ _ 14 rfl) (congrArg₂ Prod.mk (load_bias b _ _ 15 rfl) (congrArg₂ Prod.mk (load_bias b _ _ 16 rfl) (congrArg₂ Prod.mk (load_bias b _ _ 17 rfl) (congrArg₂ Prod.mk (load_bias b _ _ 18 rfl) (congrArg₂ Prod.mk (load_bias b _ _ 19 rfl) (congrArg₂ Prod.mk (load_bias b _ _ 20 rfl) (congrArg₂ Prod.mk (load_bias b _ _ 21 rfl) (congrArg₂ Prod.mk (load_bias b _ _ 22 rfl) (load_bias b _ _ 23 rfl))))))))))))))))))))))))
    isplitl [Ha] <;> iassumption
  iintro %s ⟨%hs, Ha, HrB⟩
  rw [show Scf.trips k0_t5_loop.lb k0_t5_loop.ub k0_t5_loop.st = 16 by decide] at hs
  subst hs
  sl_exec
  ihave Hu := (upd_pts d L (updN (updN fo (2 * p.val) 0 (fun v => valV Tb l f8 b (2 * p.val) (v)) 24) (2 * p.val) 24 (fun v => valV Tb l f8 b (2 * p.val) (v + 24)) 24) (2 * p.val + 1) 0 (fun v => valV Tb l f8 b (2 * p.val + 1) (v)) _) $$ Ho
  ihave Ho := Hu $$ []
  · ipureintro
    exact ⟨23, rfl, ⟨_, _, _, rfl, k0_off135_eq p⟩,
      ⟨22, rfl, ⟨_, _, _, rfl, k0_off134_eq p⟩,
      ⟨21, rfl, ⟨_, _, _, rfl, k0_off133_eq p⟩,
      ⟨20, rfl, ⟨_, _, _, rfl, k0_off132_eq p⟩,
      ⟨19, rfl, ⟨_, _, _, rfl, k0_off131_eq p⟩,
      ⟨18, rfl, ⟨_, _, _, rfl, k0_off130_eq p⟩,
      ⟨17, rfl, ⟨_, _, _, rfl, k0_off129_eq p⟩,
      ⟨16, rfl, ⟨_, _, _, rfl, k0_off128_eq p⟩,
      ⟨15, rfl, ⟨_, _, _, rfl, k0_off127_eq p⟩,
      ⟨14, rfl, ⟨_, _, _, rfl, k0_off126_eq p⟩,
      ⟨13, rfl, ⟨_, _, _, rfl, k0_off125_eq p⟩,
      ⟨12, rfl, ⟨_, _, _, rfl, k0_off124_eq p⟩,
      ⟨11, rfl, ⟨_, _, _, rfl, k0_off123_eq p⟩,
      ⟨10, rfl, ⟨_, _, _, rfl, k0_off122_eq p⟩,
      ⟨9, rfl, ⟨_, _, _, rfl, k0_off121_eq p⟩,
      ⟨8, rfl, ⟨_, _, _, rfl, k0_off120_eq p⟩,
      ⟨7, rfl, ⟨_, _, _, rfl, k0_off119_eq p⟩,
      ⟨6, rfl, ⟨_, _, _, rfl, k0_off118_eq p⟩,
      ⟨5, rfl, ⟨_, _, _, rfl, k0_off117_eq p⟩,
      ⟨4, rfl, ⟨_, _, _, rfl, k0_off116_eq p⟩,
      ⟨3, rfl, ⟨_, _, _, rfl, k0_off115_eq p⟩,
      ⟨2, rfl, ⟨_, _, _, rfl, k0_off114_eq p⟩,
      ⟨1, rfl, ⟨_, _, _, rfl, k0_off113_eq p⟩,
      ⟨0, rfl, ⟨_, _, _, rfl, k0_off112_eq p⟩,
      rfl⟩⟩⟩⟩⟩⟩⟩⟩⟩⟩⟩⟩⟩⟩⟩⟩⟩⟩⟩⟩⟩⟩⟩⟩
  sl_for (fun (k : ℕ) (s : T24 F) => iprop(⌜s = tup (fun v => sumV (spl f8 (2 * p.val + 1)) (gath Tb l (2 * p.val + 1)) (v + 24) (biasV b (v + 24)) k)⌝
      ∗ ((aspV).view.loc (thr d L) ↦{fullShare} spl f8 (2 * p.val + 1)) ∗ ((rowB).view.loc (thr d L) ↦{fullShare} gath Tb l (2 * p.val + 1)))) $$ [Ha HrB]
  case region =>
    intro k s
    iintro ⟨%hs, HA, HR⟩
    subst hs
    ihave Hw := (t6_trip d L _ _ k (fun v => sumV (spl f8 (2 * p.val + 1)) (gath Tb l (2 * p.val + 1)) (v + 24) (biasV b (v + 24)) k)) $$ [HA HR]
    · isplitl [HA] <;> iassumption
    iapply (wp_wand frame (wpE (defs₀ (F := F)) 𝒱₀ (thr d L) none) Set.univ) $$ Hw
    iintro %r ⟨%hr, HA, HR⟩
    isplitr [HA HR]
    · ipureintro; exact hr
    isplitl [HA] <;> iassumption
  · isplitr [Ha HrB]
    · ipureintro; exact (congrArg₂ Prod.mk (load_bias b _ _ 24 rfl) (congrArg₂ Prod.mk (load_bias b _ _ 25 rfl) (congrArg₂ Prod.mk (load_bias b _ _ 26 rfl) (congrArg₂ Prod.mk (load_bias b _ _ 27 rfl) (congrArg₂ Prod.mk (load_bias b _ _ 28 rfl) (congrArg₂ Prod.mk (load_bias b _ _ 29 rfl) (congrArg₂ Prod.mk (load_bias b _ _ 30 rfl) (congrArg₂ Prod.mk (load_bias b _ _ 31 rfl) (congrArg₂ Prod.mk (load_bias b _ _ 32 rfl) (congrArg₂ Prod.mk (load_bias b _ _ 33 rfl) (congrArg₂ Prod.mk (load_bias b _ _ 34 rfl) (congrArg₂ Prod.mk (load_bias b _ _ 35 rfl) (congrArg₂ Prod.mk (load_bias b _ _ 36 rfl) (congrArg₂ Prod.mk (load_bias b _ _ 37 rfl) (congrArg₂ Prod.mk (load_bias b _ _ 38 rfl) (congrArg₂ Prod.mk (load_bias b _ _ 39 rfl) (congrArg₂ Prod.mk (load_bias b _ _ 40 rfl) (congrArg₂ Prod.mk (load_bias b _ _ 41 rfl) (congrArg₂ Prod.mk (load_bias b _ _ 42 rfl) (congrArg₂ Prod.mk (load_bias b _ _ 43 rfl) (congrArg₂ Prod.mk (load_bias b _ _ 44 rfl) (congrArg₂ Prod.mk (load_bias b _ _ 45 rfl) (congrArg₂ Prod.mk (load_bias b _ _ 46 rfl) (load_bias b _ _ 47 rfl))))))))))))))))))))))))
    isplitl [Ha] <;> iassumption
  iintro %s ⟨%hs, Ha, HrB⟩
  rw [show Scf.trips k0_t6_loop.lb k0_t6_loop.ub k0_t6_loop.st = 16 by decide] at hs
  subst hs
  sl_exec
  ihave Hu := (upd_pts d L (updN (updN (updN fo (2 * p.val) 0 (fun v => valV Tb l f8 b (2 * p.val) (v)) 24) (2 * p.val) 24 (fun v => valV Tb l f8 b (2 * p.val) (v + 24)) 24) (2 * p.val + 1) 0 (fun v => valV Tb l f8 b (2 * p.val + 1) (v)) 24) (2 * p.val + 1) 24 (fun v => valV Tb l f8 b (2 * p.val + 1) (v + 24)) _) $$ Ho
  ihave Ho := Hu $$ []
  · ipureintro
    exact ⟨23, rfl, ⟨_, _, _, rfl, k0_off177_eq p⟩,
      ⟨22, rfl, ⟨_, _, _, rfl, k0_off176_eq p⟩,
      ⟨21, rfl, ⟨_, _, _, rfl, k0_off175_eq p⟩,
      ⟨20, rfl, ⟨_, _, _, rfl, k0_off174_eq p⟩,
      ⟨19, rfl, ⟨_, _, _, rfl, k0_off173_eq p⟩,
      ⟨18, rfl, ⟨_, _, _, rfl, k0_off172_eq p⟩,
      ⟨17, rfl, ⟨_, _, _, rfl, k0_off171_eq p⟩,
      ⟨16, rfl, ⟨_, _, _, rfl, k0_off170_eq p⟩,
      ⟨15, rfl, ⟨_, _, _, rfl, k0_off169_eq p⟩,
      ⟨14, rfl, ⟨_, _, _, rfl, k0_off168_eq p⟩,
      ⟨13, rfl, ⟨_, _, _, rfl, k0_off167_eq p⟩,
      ⟨12, rfl, ⟨_, _, _, rfl, k0_off166_eq p⟩,
      ⟨11, rfl, ⟨_, _, _, rfl, k0_off165_eq p⟩,
      ⟨10, rfl, ⟨_, _, _, rfl, k0_off164_eq p⟩,
      ⟨9, rfl, ⟨_, _, _, rfl, k0_off163_eq p⟩,
      ⟨8, rfl, ⟨_, _, _, rfl, k0_off162_eq p⟩,
      ⟨7, rfl, ⟨_, _, _, rfl, k0_off161_eq p⟩,
      ⟨6, rfl, ⟨_, _, _, rfl, k0_off160_eq p⟩,
      ⟨5, rfl, ⟨_, _, _, rfl, k0_off159_eq p⟩,
      ⟨4, rfl, ⟨_, _, _, rfl, k0_off158_eq p⟩,
      ⟨3, rfl, ⟨_, _, _, rfl, k0_off157_eq p⟩,
      ⟨2, rfl, ⟨_, _, _, rfl, k0_off156_eq p⟩,
      ⟨1, rfl, ⟨_, _, _, rfl, k0_off155_eq p⟩,
      ⟨0, rfl, ⟨_, _, _, rfl, k0_off154_eq p⟩,
      rfl⟩⟩⟩⟩⟩⟩⟩⟩⟩⟩⟩⟩⟩⟩⟩⟩⟩⟩⟩⟩⟩⟩⟩⟩
  sl_step
  isplitl [Hta HrA Hia Hsa]
  · isplitl [HrA]; · iexact HrA
    isplitl [Hta]; · iexact Hta
    isplitl [Hia]; · iexact Hia
    iexact Hsa
  isplitl [HrB]; · iexact HrB
  isplitl [Htb]; · iexact Htb
  isplitl [Hib]; · iexact Hib
  isplitl [Hsb]; · iexact Hsb
  isplitl [H8]; · iexact H8
  isplitl [Hbi]; · iexact Hbi
  isplitl [Ha]; · iexact Ha
  isplitl [Ho]; · iexact Ho
  iexact HO

/-! ## The loop over pairs -/

/-- The waits recorded since `W` are at the transfers' own index. -/
def Late (W W' : Waits sig (HIx 1)) : Prop := ∀ p ∈ W', p ∈ W ∨ p.2 = none

omit [FloatOps F] in
theorem Late.insert {W W' : Waits sig (HIx 1)} (h : Late W W') (sm : SemLoc sig) : Late W (insert (sm, (default : HIx 1)) W') := by
  intro p hp
  rcases Finset.mem_insert.mp hp with hp | hp
  · exact .inr (hp ▸ rfl)
  · exact h p hp

/-- Buffer A before pair `n`: being filled with the pair's first token while there is one, free afterwards. -/
def stA (d : Dev nD) (L : grid0.Coords) (Tb : S73728x2x128.Idx → F .f32) (l : S16x96.Idx → BitVec 32) (qa : PosShare TreeShare) (n : ℕ) : sProp 𝕄 :=
  if n < 8 then
    Transfers.Flight countersEmb (thr d L) (.dma cc0_scratch7.sem) (default : HIx 1) (rowA).view.dmaCredit
      iprop(((rowA).view.loc (thr d L) ↦{fullShare} gath Tb l (2 * n)) ∗ ((tabM).view.loc (thr d L) ↦{qa} Tb) ∗ ((idxV).view.loc (thr d L) ↦{fullShare.left} l))
  else iprop(∃ fA, ((rowA).view.loc (thr d L) ↦{fullShare} fA) ∗ ((tabM).view.loc (thr d L) ↦{qa} Tb) ∗ ((idxV).view.loc (thr d L) ↦{fullShare.left} l)
    ∗ semVal (thr d L, SemLoc.dma cc0_scratch7.sem) 0)

/-- What the tile holds before pair `n` of a chunk: the rows before `2 n` done. -/
def pairSt (d : Dev nD) (L : grid0.Coords) (O : CellTallies nD τ sig (HIx 1)) (W : Waits sig (HIx 1)) (Tb : S73728x2x128.Idx → F .f32) (l : S16x96.Idx → BitVec 32)
    (f8 : S512.Idx → F .f32) (b : S768.Idx → F .f32) (fo : S16x768.Idx → F .f32) (qa qb : PosShare TreeShare) (n : ℕ) (_ : BitVec 32) : sProp 𝕄 :=
  iprop(Transfers.MayWaits (thr d L) none O ∗ stA d L Tb l qa n
    ∗ (∃ fB, (rowB).view.loc (thr d L) ↦{fullShare} fB) ∗ ((tabM).view.loc (thr d L) ↦{qb} Tb) ∗ ((idxV).view.loc (thr d L) ↦{fullShare.right} l)
    ∗ semVal (thr d L, SemLoc.dma cc0_scratch8.sem) 0
    ∗ ((actsV).view.loc (thr d L) ↦{fullShare} f8) ∗ ((biaV).view.loc (thr d L) ↦{fullShare} b)
    ∗ (∃ fa, (aspV).view.loc (thr d L) ↦{fullShare} fa)
    ∗ ((outV).view.loc (thr d L) ↦{fullShare} outP Tb l f8 b fo (2 * n))
    ∗ ∃ W', ⌜Late W W'⌝ ∗ owes (thr d L) O W')

theorem cond1_iff : ∀ p : Fin k0_t2_loop.trips, k0_cond1 p = 1#1 ↔ p.val + 1 < 8 := by decide +kernel
theorem t2_lt : ∀ p : Fin k0_t2_loop.trips, p.val < 8 := by decide +kernel

/-- A pair's four stores of half a row are two more rows. -/
theorem outP_pair (T : S73728x2x128.Idx → F .f32) (l : S16x96.Idx → BitVec 32) (f8 : S512.Idx → F .f32) (b : S768.Idx → F .f32)
    (fo : S16x768.Idx → F .f32) (n : ℕ) :
    updN (updN (updN (updN (outP T l f8 b fo n) n 0 (fun v => valV T l f8 b n v) 24) n 24 (fun v => valV T l f8 b n (v + 24)) 24)
      (n + 1) 0 (fun v => valV T l f8 b (n + 1) v) 24) (n + 1) 24 (fun v => valV T l f8 b (n + 1) (v + 24)) 24
      = outP T l f8 b fo (n + 2) := by
  rw [outP_succ, outP_succ]

/-- One pair. -/
theorem t2_trip (d : Dev nD) (L : grid0.Coords) (O : CellTallies nD τ sig (HIx 1)) (W : Waits sig (HIx 1))
    (Tb : S73728x2x128.Idx → F .f32) (l : S16x96.Idx → BitVec 32) (hl : ∀ x, (l x).toNat < 73728) (f8 : S512.Idx → F .f32) (b : S768.Idx → F .f32)
    (fo : S16x768.Idx → F .f32) (qa qb : PosShare TreeShare) (p : Fin k0_t2_loop.trips) (s : BitVec 32) :
    pairSt d L O W Tb l f8 b fo qa qb p.val s
      ⊢@{sProp 𝕄} wp frame (wpE (defs₀ (F := F)) 𝒱₀ (thr d L) none) Set.univ
        (k0_t2_body L tabM (Memref.isWhole_whole _) actM (Memref.isWhole_whole _) lstM (Memref.isWhole_whole _) biaM (Memref.isWhole_whole _) resM (Memref.isWhole_whole _) idxV (Memref.isWhole_whole _) actsV (Memref.isWhole_whole _) aspV (Memref.isWhole_whole _) rowA (Memref.isWhole_whole _) rowB (Memref.isWhole_whole _) outV (Memref.isWhole_whole _) biaV (Memref.isWhole_whole _) cc0_scratch7 cc0_scratch8 cc0_scoped0 cc0_scoped1 cc0_scoped2 cc0_scoped3 p s)
        fun r => pairSt d L O W Tb l f8 b fo qa qb (p.val + 1) r := by
  unfold pairSt stA
  rw [if_pos (t2_lt p)]
  iintro ⟨#Hmw, HFa, ⟨%fB, HrB⟩, Htb, Hib, Hsb, H8, Hbi, ⟨%fa, Ha⟩, Ho, %W', %hW, HO⟩
  by_cases hC : k0_cond1 p = 1#1
  · rw [if_pos ((cond1_iff p).1 hC)]
    ihave Hw := (t2_go d L O W' Tb l hl f8 b _ fa fB qa qb p s hC) $$ [HFa HrB Htb Hib Hsb H8 Hbi Ha Ho HO]
    · isplitl []; · iexact Hmw
      isplitl [HFa]; · iexact HFa
      isplitl [HrB]; · iexact HrB
      isplitl [Htb]; · iexact Htb
      isplitl [Hib]; · iexact Hib
      isplitl [Hsb]; · iexact Hsb
      isplitl [H8]; · iexact H8
      isplitl [Hbi]; · iexact Hbi
      isplitl [Ha]; · iexact Ha
      isplitl [Ho]; · iexact Ho
      iexact HO
    iapply (wp_wand frame (wpE (defs₀ (F := F)) 𝒱₀ (thr d L) none) Set.univ) $$ Hw
    iintro %r ⟨HFa, HrB, Htb, Hib, Hsb, H8, Hbi, Ha, Ho, HO⟩
    isplitl []; · iexact Hmw
    isplitl [HFa]; · iexact HFa
    isplitl [HrB]; · iexists _; iexact HrB
    isplitl [Htb]; · iexact Htb
    isplitl [Hib]; · iexact Hib
    isplitl [Hsb]; · iexact Hsb
    isplitl [H8]; · iexact H8
    isplitl [Hbi]; · iexact Hbi
    isplitl [Ha]; · iexists _; iexact Ha
    isplitl [Ho]
    · iapply (Entails.of_eq (congrArg (fun f => ((outV).view.loc (thr d L) ↦{fullShare} f : sProp 𝕄)) (outP_pair Tb l f8 b fo (2 * p.val))))
      iexact Ho
    iexists _; isplitr
    swap; · iexact HO
    ipureintro; exact (hW.insert _).insert _
  · rw [if_neg (fun h => hC ((cond1_iff p).2 h))]
    ihave Hw := (t2_last d L O W' Tb l hl f8 b _ fa fB qa qb p s hC) $$ [HFa HrB Htb Hib Hsb H8 Hbi Ha Ho HO]
    · isplitl []; · iexact Hmw
      isplitl [HFa]; · iexact HFa
      isplitl [HrB]; · iexact HrB
      isplitl [Htb]; · iexact Htb
      isplitl [Hib]; · iexact Hib
      isplitl [Hsb]; · iexact Hsb
      isplitl [H8]; · iexact H8
      isplitl [Hbi]; · iexact Hbi
      isplitl [Ha]; · iexact Ha
      isplitl [Ho]; · iexact Ho
      iexact HO
    iapply (wp_wand frame (wpE (defs₀ (F := F)) 𝒱₀ (thr d L) none) Set.univ) $$ Hw
    iintro %r ⟨HA, HrB, Htb, Hib, Hsb, H8, Hbi, Ha, Ho, HO⟩
    isplitl []; · iexact Hmw
    isplitl [HA]
    · iexists _; iexact HA
    isplitl [HrB]; · iexists _; iexact HrB
    isplitl [Htb]; · iexact Htb
    isplitl [Hib]; · iexact Hib
    isplitl [Hsb]; · iexact Hsb
    isplitl [H8]; · iexact H8
    isplitl [Hbi]; · iexact Hbi
    isplitl [Ha]; · iexists _; iexact Ha
    isplitl [Ho]
    · iapply (Entails.of_eq (congrArg (fun f => ((outV).view.loc (thr d L) ↦{fullShare} f : sProp 𝕄)) (outP_pair Tb l f8 b fo (2 * p.val))))
      iexact Ho
    iexists _; isplitr
    swap; · iexact HO
    ipureintro; exact (hW.insert _).insert _

end Cert.Proof.Dec
end
-- ==== Proof.Chunk.lean ====
/-
  One chunk of sixteen tokens, and a tile's whole task: the copies of the lists and activations in, eight pairs, the
  copy of the sixteen rows out; sixteen chunks.
-/
module

public import proofs.«01_k».proof.Proof.Pair

@[expose] public section

noncomputable section

namespace Cert.Proof.Dec

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

/-- The index `(t, j)` of all the lists. -/
def ixS (t j : ℕ) : S8192x96.Idx
  | 0 => ⟨t % 8192, Nat.mod_lt _ (by decide)⟩
  | 1 => ⟨j % 96, Nat.mod_lt _ (by decide)⟩
  | ⟨_ + 2, h⟩ => absurd h (Nat.not_lt.2 (Nat.le_add_left _ _))

/-- The index `n` of all the activations. -/
def ixC (n : ℕ) : S262144.Idx
  | 0 => ⟨n % 262144, Nat.mod_lt _ (by decide)⟩
  | ⟨_ + 1, h⟩ => absurd h (Nat.not_lt.2 (Nat.le_add_left _ _))

/-- Token `t`'s activations, splatted. -/
def splG (ac : S262144.Idx → F .f32) (t : ℕ) : S32x16.Idx → F .f32 := fun x => ac (ixC (32 * t + (x 0).val))

/-- The row segments token `t`'s list names. -/
def gathG (Tb : S73728x2x128.Idx → F .f32) (ls : S8192x96.Idx → BitVec 32) (t : ℕ) : S96x2x128.Idx → F .f32 :=
  fun x => Tb (ixT (ls (ixS t (x 0).val)).toNat (x 1).val (x 2).val)

/-- The result: for token `t` and vector `w`, the bias and the 32 products. -/
def resV (Tb : S73728x2x128.Idx → F .f32) (ls : S8192x96.Idx → BitVec 32) (ac : S262144.Idx → F .f32) (b : S768.Idx → F .f32) :
    S8192x768.Idx → F .f32 :=
  fun x => sumV (splG ac (x 0).val) (gathG Tb ls (x 0).val) ((x 1).val / 16) (biasV b ((x 1).val / 16)) 16 (lane (x 1).val)

/-- The result with the rows `base`, …, `base + 16 n - 1` made. -/
def resP (Tb : S73728x2x128.Idx → F .f32) (ls : S8192x96.Idx → BitVec 32) (ac : S262144.Idx → F .f32) (b : S768.Idx → F .f32)
    (f : S8192x768.Idx → F .f32) (base n : ℕ) : S8192x768.Idx → F .f32 :=
  fun x => if base ≤ (x 0).val ∧ (x 0).val < base + 16 * n then resV Tb ls ac b x else f x

/-- The sixteen lists of the chunk at token `t`. -/
def chL (ls : S8192x96.Idx → BitVec 32) (t : ℕ) : S16x96.Idx → BitVec 32 := fun x => ls (ixS (t + (x 0).val) (x 1).val)

/-- The chunk's activations. -/
def chA (ac : S262144.Idx → F .f32) (t : ℕ) : S512.Idx → F .f32 := fun x => ac (ixC (32 * t + (x 0).val))

omit [FloatOps F] in
theorem read_chL (ls : S8192x96.Idx → BitVec 32) {off : Fin 2 → ℕ} (inb : ∀ a, off a + S16x96.size a ≤ S8192x96.size a)
    (t : ℕ) (hoff : off = ![t, 0]) :
    ((lstM).slice (Rect.unit (s := S8192x96) off S16x96.size inb) (fun _ => rfl)).view.read (Elt F) ls = chL ls t := by
  subst hoff
  have ht : t + 16 ≤ 8192 := by have := inb 0; simpa using this
  funext x
  have h0 : (x 0).val < 16 := (x 0).isLt
  have h1 : (x 1).val < 96 := (x 1).isLt
  show ls ((Rect.unit (s := S8192x96) ![t, 0] S16x96.size inb).emb x) = _
  refine congrArg ls (funext fun a => ?_)
  match a with
  | 0 => exact Fin.ext (by show t + 1 * (x 0).val = (t + (x 0).val) % 8192; omega)
  | 1 => exact Fin.ext (by show 0 + 1 * (x 1).val = (x 1).val % 96; omega)

omit [FloatOps F] in
theorem read_chA (ac : S262144.Idx → F .f32) {off : Fin 1 → ℕ} (inb : ∀ a, off a + S512.size a ≤ S262144.size a)
    (t : ℕ) (hoff : off = ![32 * t]) :
    ((actM).slice (Rect.unit (s := S262144) off S512.size inb) (fun _ => rfl)).view.read (Elt F) ac = chA ac t := by
  subst hoff
  have ht : 32 * t + 512 ≤ 262144 := by have := inb 0; simpa using this
  funext x
  have h0 : (x 0).val < 512 := (x 0).isLt
  show ac ((Rect.unit (s := S262144) ![32 * t] S512.size inb).emb x) = _
  refine congrArg ac (funext fun a => ?_)
  match a with
  | 0 => exact Fin.ext (by show 32 * t + 1 * (x 0).val = (32 * t + (x 0).val) % 262144; omega)

omit [FloatOps F] in
theorem spl_chA (ac : S262144.Idx → F .f32) (t r : ℕ) (hr : r < 16) : spl (chA ac t) r = splG ac (t + r) := by
  funext x
  have h0 : (x 0).val < 32 := (x 0).isLt
  refine congrArg ac (funext fun a => ?_)
  match a with
  | 0 => exact Fin.ext (by show (32 * t + (32 * r + (x 0).val) % 512) % 262144 = (32 * (t + r) + (x 0).val) % 262144; congr 1; omega)

omit [FloatOps F] in
theorem gath_chL (Tb : S73728x2x128.Idx → F .f32) (ls : S8192x96.Idx → BitVec 32) (t r : ℕ) (hr : r < 16) :
    gath Tb (chL ls t) r = gathG Tb ls (t + r) := by
  funext x
  have h0 : (x 0).val < 96 := (x 0).isLt
  have e : chL ls t (ixL r (x 0).val) = ls (ixS (t + r) (x 0).val) := by
    refine congrArg ls (funext fun a => ?_)
    match a with
    | 0 => exact Fin.ext (by show (t + r % 16) % 8192 = (t + r) % 8192; congr 1; omega)
    | 1 => exact Fin.ext (by show ((x 0).val % 96) % 96 = (x 0).val % 96; omega)
  show Tb (ixT (chL ls t (ixL r (x 0).val)).toNat _ _) = _
  rw [e]; rfl

/-- A chunk's sixteen rows copied out are sixteen more rows of the result. -/
theorem res_write (Tb : S73728x2x128.Idx → F .f32) (ls : S8192x96.Idx → BitVec 32) (ac : S262144.Idx → F .f32) (b : S768.Idx → F .f32)
    (f : S8192x768.Idx → F .f32) (fo : S16x768.Idx → F .f32) (base n : ℕ) {off : Fin 2 → ℕ}
    (inb : ∀ a, off a + S16x768.size a ≤ S8192x768.size a) (hoff : off = ![base + 16 * n, 0]) :
    ((resM).view.slice (Rect.unit (s := S8192x768) off S16x768.size inb)).write (Elt F) (resP Tb ls ac b f base n)
      (outP Tb (chL ls (base + 16 * n)) (chA ac (base + 16 * n)) b fo 16) Finset.univ = resP Tb ls ac b f base (n + 1) := by
  subst hoff
  refine (View.write_whole_slice_unit main_v12_scv _ _ _ _ _).trans ?_
  funext x
  have h1 : (x 1).val < 768 := (x 1).isLt
  unfold updateSlice
  split
  · next hin =>
    have h0 : base + 16 * n ≤ (x 0).val ∧ (x 0).val < base + 16 * n + 16 := hin 0
    unfold resP
    rw [if_pos (by omega)]
    show (if (x 0).val - (base + 16 * n) < 16 then valV Tb (chL ls (base + 16 * n)) (chA ac (base + 16 * n)) b ((x 0).val - (base + 16 * n))
      (((x 1).val - 0) / 16) (lane ((x 1).val - 0)) else _) = _
    rw [if_pos (by omega)]
    unfold valV resV
    rw [spl_chA ac _ _ (by omega), gath_chL Tb ls _ _ (by omega), show base + 16 * n + ((x 0).val - (base + 16 * n)) = (x 0).val by omega, Nat.sub_zero]
  · next hin =>
    have hne : ¬ (base + 16 * n ≤ (x 0).val ∧ (x 0).val < base + 16 * n + 16) := fun e => hin fun a => by
      match a with
      | 0 => exact e
      | 1 => exact ⟨Nat.zero_le _, by show (x 1).val < 0 + 768; omega⟩
    unfold resP
    by_cases hl : base ≤ (x 0).val ∧ (x 0).val < base + 16 * n
    · rw [if_pos hl, if_pos (by omega)]
    · rw [if_neg hl, if_neg (by omega)]

/-- A write through the whole rectangle of a view is the view's own write. -/
theorem writes_whole {Val : EltTy → Type} {sp : Space} {s : Shape} {e : EltTy} (v : View sig .scVector sp s e) (f : v.ty.Contents Val) (w : s.Idx → Val e) :
    v.writes Val f [⟨Rect.whole s, w⟩] = v.write Val f w Finset.univ := by
  refine View.contents_ext (v := v) (fun y => ?_) fun i hi => ?_
  · have h := View.read_writes_cons_emb v f (Rect.whole s) w [] y
    have e : (Rect.whole s).emb y = y := funext fun a => Fin.ext (by show 0 + 1 * (y a).val = (y a).val; omega)
    rw [View.read_write_univ]
    exact (congrArg _ e.symm).trans h
  · rw [View.writes_apply_of_forall_ne v f _ hi, View.write_of_not_mem]
    intro hm
    obtain ⟨x, -, hx⟩ := Finset.mem_map.mp hm
    exact hi x hx

theorem writes_off {Val : EltTy → Type} {sp : Space} {s : Shape} {e : EltTy} (v : View sig .scVector sp s e) (f : v.ty.Contents Val)
    (L : List (View.Piece Val s e)) (x : v.ty.Idx) (hx : x ∉ v.set) : f x = v.writes Val f L x :=
  (View.writes_apply_of_forall_ne v f L fun y hy => hx (Finset.mem_map.mpr ⟨y, Finset.mem_univ _, hy⟩)).symm

/-- The tile's first token. -/
abbrev base (L : grid0.Coords) : ℕ := 512 * (L 1).val + 256 * (L 0).val

/-- What the tile holds before chunk `n`. -/
def chSt (d : Dev nD) (L : grid0.Coords) (O : CellTallies nD τ sig (HIx 1)) (W : Waits sig (HIx 1)) (Tb : S73728x2x128.Idx → F .f32)
    (ls : S8192x96.Idx → BitVec 32) (ac : S262144.Idx → F .f32) (b : S768.Idx → F .f32) (f : S8192x768.Idx → F .f32)
    (B : Finset S8192x768.Idx) (q : PosShare TreeShare) (n : ℕ) (_ : BitVec 32) : sProp 𝕄 :=
  iprop(Transfers.MayWaits (thr d L) none O
    ∗ ((tabM).view.loc (thr d L) ↦{q} Tb) ∗ ((lstM).view.loc (thr d L) ↦{q} ls) ∗ ((actM).view.loc (thr d L) ↦{q} ac)
    ∗ ((resM).view.loc (thr d L) ↦[B]{fullShare} resP Tb ls ac b f (base L) n)
    ∗ (∃ g, (idxV).view.loc (thr d L) ↦{fullShare} g) ∗ (∃ g, (actsV).view.loc (thr d L) ↦{fullShare} g)
    ∗ (∃ g, (aspV).view.loc (thr d L) ↦{fullShare} g) ∗ (∃ g, (rowA).view.loc (thr d L) ↦{fullShare} g)
    ∗ (∃ g, (rowB).view.loc (thr d L) ↦{fullShare} g) ∗ (∃ g, (outV).view.loc (thr d L) ↦{fullShare} g)
    ∗ ((biaV).view.loc (thr d L) ↦{fullShare} b)
    ∗ semVal (thr d L, SemLoc.dma cc0_scratch7.sem) 0 ∗ semVal (thr d L, SemLoc.dma cc0_scratch8.sem) 0
    ∗ semVal (thr d L, SemLoc.dma cc0_scoped1.sem) 0 ∗ semVal (thr d L, SemLoc.dma cc0_scoped2.sem) 0 ∗ semVal (thr d L, SemLoc.dma cc0_scoped3.sem) 0
    ∗ ∃ W', ⌜Late W W'⌝ ∗ owes (thr d L) O W')

theorem t1_lt : ∀ p : Fin k0_t1_loop.trips, p.val < 16 := by decide +kernel

set_option maxHeartbeats 4000000 in
/-- One chunk. -/
theorem t1_trip (d : Dev nD) (L : grid0.Coords) (O : CellTallies nD τ sig (HIx 1)) (W : Waits sig (HIx 1)) (Tb : S73728x2x128.Idx → F .f32)
    (ls : S8192x96.Idx → BitVec 32) (hl : ∀ x, (ls x).toNat < 73728) (ac : S262144.Idx → F .f32) (b : S768.Idx → F .f32) (f : S8192x768.Idx → F .f32)
    (B : Finset S8192x768.Idx) (q : PosShare TreeShare) (n : Fin k0_t1_loop.trips) (s : BitVec 32)
    (hB : ((resM).slice (Rect.unit (s := S8192x768) (k0_off178 L n) S16x768.size (k0_off178_inb L n)) (fun _ => rfl)).view.set ⊆ B) :
    chSt d L O W Tb ls ac b f B q n.val s
      ⊢@{sProp 𝕄} wp frame (wpE (defs₀ (F := F)) 𝒱₀ (thr d L) none) Set.univ
        (k0_t1_body L tabM (Memref.isWhole_whole _) actM (Memref.isWhole_whole _) lstM (Memref.isWhole_whole _) biaM (Memref.isWhole_whole _) resM (Memref.isWhole_whole _) idxV (Memref.isWhole_whole _) actsV (Memref.isWhole_whole _) aspV (Memref.isWhole_whole _) rowA (Memref.isWhole_whole _) rowB (Memref.isWhole_whole _) outV (Memref.isWhole_whole _) biaV (Memref.isWhole_whole _) cc0_scratch7 cc0_scratch8 cc0_scoped0 cc0_scoped1 cc0_scoped2 cc0_scoped3 n s)
        fun r => chSt d L O W Tb ls ac b f B q (n.val + 1) r := by
  unfold k0_t1_body chSt
  iintro ⟨#Hmw, Ht, Hls, Hac, Hres, ⟨%g0, Hi⟩, ⟨%g1, H8⟩, ⟨%g2, Ha⟩, ⟨%g3, HrA⟩, ⟨%g4, HrB⟩, ⟨%g5, Ho⟩, Hbi, Hsa, Hsb, Hs1, Hs2, Hs3, %W', %hW, HO⟩
  sl_exec (disch := exact View.amount_pos _ _ (by decide))
  have hlt : n.val < 16 := t1_lt n
  have h1 : (L 1).val < 16 := (L 1).isLt
  have h0 : (L 0).val < 2 := (L 0).isLt
  have ho1 : k0_off1 L n = ![base L + 16 * n.val, 0] := k0_off1_eq L n
  have ho2 : k0_off2 L n = ![32 * (base L + 16 * n.val)] := (k0_off2_eq L n).trans (congrArg (fun t => ![t]) (by unfold base; omega))
  have ho3 : k0_off178 L n = ![base L + 16 * n.val, 0] := k0_off178_eq L n
  have ei : View.write (Elt F) (idxV).view g0 (t1_trip.sl.dma0 L ls n) Finset.univ = chL ls (base L + 16 * n.val) :=
    (View.write_whole_univ cc0_scratch0 _ _).trans (read_chL ls (k0_off1_inb L n) _ ho1)
  have ea : View.write (Elt F) (actsV).view g1 (t1_trip.sl.dma0_1 L ac n) Finset.univ = chA ac (base L + 16 * n.val) :=
    (View.write_whole_univ cc0_scratch1 _ _).trans (read_chA ac (k0_off2_inb L n) _ ho2)
  rw [ei, ea]
  clear ei ea
  ihave ⟨Hia, Hib⟩ := (pointsTo_share (PosShare.mem_left_op_right fullShare)).1 $$ Hi
  ihave ⟨Hta, Htb⟩ := (pointsTo_share (PosShare.mem_left_op_right q)).1 $$ Ht
  iapply (gatherA d L (chL ls (base L + 16 * n.val)) (fun x => hl _) Tb q.left fullShare.left g3 0 rfl) $$ [Hta HrA Hia Hsa]
  · isplitl [Hta]; · iexact Hta
    isplitl [HrA]; · iexact HrA
    isplitl [Hia]; · iexact Hia
    iexact Hsa
  iintro HFa
  sl_for (pairSt d L O W Tb (chL ls (base L + 16 * n.val)) (chA ac (base L + 16 * n.val)) b g5 q.left q.right) $$ [HFa HrB Htb Hib Hsb H8 Hbi Ha Ho HO]
  · iintro %p %s Hst
    iapply (t2_trip d L O W Tb (chL ls (base L + 16 * n.val)) (fun x => hl _) (chA ac (base L + 16 * n.val)) b g5 q.left q.right p s) $$ Hst
  · unfold pairSt stA
    isplitl []; · iexact Hmw
    isplitl [HFa]
    · rw [if_pos (by decide)]; iexact HFa
    isplitl [HrB]; · iexists _; iexact HrB
    isplitl [Htb]; · iexact Htb
    isplitl [Hib]; · iexact Hib
    isplitl [Hsb]; · iexact Hsb
    isplitl [H8]; · iexact H8
    isplitl [Hbi]; · iexact Hbi
    isplitl [Ha]; · iexists _; iexact Ha
    isplitl [Ho]
    · rw [outP_zero]; iexact Ho
    iexists _; isplitr
    swap; · iexact HO
    ipureintro; exact (hW.insert _).insert _
  iintro %r Hst
  rw [show Scf.trips k0_t2_loop.lb k0_t2_loop.ub k0_t2_loop.st = 8 by decide]
  unfold pairSt stA
  rw [if_neg (by decide)]
  icases Hst with ⟨-, ⟨%fA, HrA, Hta, Hia, Hsa⟩, ⟨%fB, HrB⟩, Htb, Hib, Hsb, H8, Hbi, ⟨%fa, Ha⟩, Ho, %W2, %hW2, HO⟩
  ihave Hi := (pointsTo_share (PosShare.mem_left_op_right fullShare)).2 $$ [Hia Hib]
  · isplitl [Hia]; · iexact Hia
    iexact Hib
  ihave Ht := (pointsTo_share (PosShare.mem_left_op_right q)).2 $$ [Hta Htb]
  · isplitl [Hta]; · iexact Hta
    iexact Htb
  ihave Ho' := (Entails.of_eq (congrArg (fun k => ((outV).view.loc (thr d L) ↦{fullShare} outP Tb (chL ls (base L + 16 * n.val)) (chA ac (base L + 16 * n.val)) b g5 k : sProp 𝕄))
    (show 2 * 8 = 16 by decide))) $$ Ho
  ihave ⟨HrS, HrR⟩ := (pointsTo_split_subset hB).1 $$ Hres
  ihave HrS := (Entails.of_eq (show ((resM).view.loc (thr d L) ↦[((resM).slice (Rect.unit (s := S8192x768) (k0_off178 L n) S16x768.size (k0_off178_inb L n)) (fun _ => rfl)).view.set]{fullShare} resP Tb ls ac b f (base L) n.val : sProp 𝕄)
    = (((resM).slice (Rect.unit (s := S8192x768) (k0_off178 L n) S16x768.size (k0_off178_inb L n)) (fun _ => rfl)).view.loc (thr d L) ↦[((resM).slice (Rect.unit (s := S8192x768) (k0_off178 L n) S16x768.size (k0_off178_inb L n)) (fun _ => rfl)).view.set]{fullShare} resP Tb ls ac b f (base L) n.val : sProp 𝕄) from rfl)) $$ HrS
  sl_exec (disch := exact View.amount_pos _ _ (show 0 < S16x768.numel by decide))
  have hw : View.writes ((resM).slice (Rect.unit (s := S8192x768) (k0_off178 L n) S16x768.size (k0_off178_inb L n)) (fun _ => rfl)).view (Elt F)
      (resP Tb ls ac b f (base L) n.val) [⟨Rect.whole _, t1_trip.sl.dma0_2 d L Tb ls ac b n g5⟩] = resP Tb ls ac b f (base L) (n.val + 1) :=
    (writes_whole _ _ _).trans (res_write Tb ls ac b f g5 (base L) n.val (k0_off178_inb L n) ho3)
  have hr : ∀ x ∈ B \ ((resM).slice (Rect.unit (s := S8192x768) (k0_off178 L n) S16x768.size (k0_off178_inb L n)) (fun _ => rfl)).view.set,
      resP Tb ls ac b f (base L) n.val x = resP Tb ls ac b f (base L) (n.val + 1) x := fun x hx => by
    rw [← hw]
    exact writes_off (Val := Elt F) ((resM).slice (Rect.unit (s := S8192x768) (k0_off178 L n) S16x768.size (k0_off178_inb L n)) (fun _ => rfl)).view
      (resP Tb ls ac b f (base L) n.val) _ x (Finset.mem_sdiff.mp hx).2
  ihave HrS := (Entails.of_eq (congrArg (fun g => ((resM).view.loc (thr d L) ↦[((resM).slice (Rect.unit (s := S8192x768) (k0_off178 L n) S16x768.size (k0_off178_inb L n)) (fun _ => rfl)).view.set]{fullShare} g : sProp 𝕄)) hw)) $$ HrS
  ihave HrR := (Entails.of_eq (pointsTo_congr hr)) $$ HrR
  ihave Hres := (pointsTo_split_subset (ℓ := (resM).view.loc (thr d L)) (f := resP Tb ls ac b f (base L) (n.val + 1)) hB).2 $$ [HrS HrR]
  · isplitl [HrS]; · iexact HrS
    iexact HrR
  sl_step
  isplitl []; · iexact Hmw
  isplitl [Ht]; · iexact Ht
  isplitl [Hls]; · iexact Hls
  isplitl [Hac]; · iexact Hac
  isplitl [Hres]; · iexact Hres
  isplitl [Hi]; · iexists _; iexact Hi
  isplitl [H8]; · iexists _; iexact H8
  isplitl [Ha]; · iexists _; iexact Ha
  isplitl [HrA]; · iexists _; iexact HrA
  isplitl [HrB]; · iexists _; iexact HrB
  isplitl [Ho']; · iexists _; iexact Ho'
  isplitl [Hbi]; · iexact Hbi
  isplitl [Hsa]; · iexact Hsa
  isplitl [Hsb]; · iexact Hsb
  isplitl [Hs1]; · iexact Hs1
  isplitl [Hs2]; · iexact Hs2
  isplitl [Hs3]; · iexact Hs3
  iexists _; isplitr
  swap; · iexact HO
  ipureintro; exact hW2.insert _

end Cert.Proof.Dec

end
-- ==== Proof.Tile.lean ====
/-
  A tile's whole task: the copy of the bias in, then the sixteen chunks; and the launch theorem's obligation for it.
-/
module

public import Idealize.ShloMosaic.Lib.ShareLeaves
public import proofs.«01_k».proof.Proof.Chunk

@[expose] public section

noncomputable section

namespace Cert.Proof.Dec

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev tLoc (d : Dev nD) : Loc nD τ sig := (SparseCore.T d).loc main_v1
abbrev aLoc (d : Dev nD) : Loc nD τ sig := (SparseCore.T d).loc main_v11
abbrev lLoc (d : Dev nD) : Loc nD τ sig := (SparseCore.T d).loc main_v10
abbrev bLoc (d : Dev nD) : Loc nD τ sig := (SparseCore.T d).loc main_arg3
abbrev oLoc (d : Dev nD) : Loc nD τ sig := (SparseCore.T d).loc main_v12

/-- Block `i` of the result: the 256 rows from `256 i`. -/
def oSet (i : Fin 32) : Finset S8192x768.Idx := Finset.univ.filter fun x => (x 0).val / 256 = i.val

/-- The number of the tile at `L`: its block of the result. -/
def tN (L : grid0.Coords) : Fin 32 := ⟨2 * (L 1).val + (L 0).val, by
  have h1 : (L 1).val < 16 := (L 1).isLt
  have h0 : (L 0).val < 2 := (L 0).isLt
  omega⟩

omit [FloatOps F] in
theorem chunk_sub (L : grid0.Coords) (n : Fin k0_t1_loop.trips) :
    ((resM).slice (Rect.unit (s := S8192x768) (k0_off178 L n) S16x768.size (k0_off178_inb L n)) (fun _ => rfl)).view.set ⊆ oSet (tN L) := by
  intro x hx
  have ho3 : k0_off178 L n = ![512 * (L 1).val + 256 * (L 0).val + 16 * n.val, 0] := k0_off178_eq L n
  have hn := t1_lt n
  have hx' : x ∈ (Rect.unit (s := S8192x768) (k0_off178 L n) S16x768.size (k0_off178_inb L n)).set := by
    have e : ((resM).slice (Rect.unit (s := S8192x768) (k0_off178 L n) S16x768.size (k0_off178_inb L n)) (fun _ => rfl)).view.set
        = (Rect.unit (s := S8192x768) (k0_off178 L n) S16x768.size (k0_off178_inb L n)).set :=
      View.set_slice_whole main_v12_scv _
    exact e ▸ hx
  have h0 := (Rect.mem_set_unit.mp hx') 0
  rw [ho3] at h0
  have h0' : 512 * (L 1).val + 256 * (L 0).val + 16 * n.val ≤ (x 0).val ∧ (x 0).val < 512 * (L 1).val + 256 * (L 0).val + 16 * n.val + 16 := h0
  refine Finset.mem_filter.mpr ⟨Finset.mem_univ _, ?_⟩
  show (x 0).val / 256 = 2 * (L 1).val + (L 0).val
  omega

/-- The sixteen chunks done, the tile's block is the result's. -/
theorem resP_done (Tb : S73728x2x128.Idx → F .f32) (ls : S8192x96.Idx → BitVec 32) (ac : S262144.Idx → F .f32) (b : S768.Idx → F .f32)
    (f : S8192x768.Idx → F .f32) (L : grid0.Coords) : ∀ x ∈ oSet (tN L), resP Tb ls ac b f (base L) 16 x = resV Tb ls ac b x := by
  intro x hx
  have h : (x 0).val / 256 = 2 * (L 1).val + (L 0).val := (Finset.mem_filter.mp hx).2
  unfold resP base
  rw [if_pos (by omega)]

theorem resP_none (Tb : S73728x2x128.Idx → F .f32) (ls : S8192x96.Idx → BitVec 32) (ac : S262144.Idx → F .f32) (b : S768.Idx → F .f32)
    (f : S8192x768.Idx → F .f32) (bs : ℕ) : resP Tb ls ac b f bs 0 = f := by
  funext x; unfold resP; rw [if_neg (by omega)]

omit [FloatOps F] in
theorem cell_ne (d : Dev nD) (L : grid0.Coords) {a b : SemLoc sig} (h : a ≠ b) : ((thr d L, a) : GSem nD τ sig) ≠ (thr d L, b) :=
  fun e => h (Prod.mk.inj e).2

omit [FloatOps F] in
theorem ref_ne (L : grid0.Coords) {a b : Ref sig .scVector} (h : a ≠ b) :
    (Proc.scVector (cV L) (jV L)).devRef a ≠ (Proc.scVector (cV L) (jV L)).devRef b := fun e => h (Proc.devRef_injective _ e)

omit [FloatOps F] in
/-- The six DMA semaphores are among the tile's own: they are them, at zero, and the rest. -/
theorem ownSems0_V (d : Dev nD) (L : grid0.Coords) :
    (ownSems0 (thr d L) : sProp 𝕄) = iprop(semVal ((thr d L, SemLoc.dma cc0_scratch7.sem) : GSem nD τ sig) 0 ∗ semVal ((thr d L, SemLoc.dma cc0_scratch8.sem) : GSem nD τ sig) 0 ∗ semVal ((thr d L, SemLoc.dma cc0_scoped0.sem) : GSem nD τ sig) 0 ∗ semVal ((thr d L, SemLoc.dma cc0_scoped1.sem) : GSem nD τ sig) 0 ∗ semVal ((thr d L, SemLoc.dma cc0_scoped2.sem) : GSem nD τ sig) 0 ∗ semVal ((thr d L, SemLoc.dma cc0_scoped3.sem) : GSem nD τ sig) 0 ∗ bigSep (((((((ownCells (thr d L)).erase ((thr d L, SemLoc.dma cc0_scratch7.sem) : GSem nD τ sig)).erase ((thr d L, SemLoc.dma cc0_scratch8.sem) : GSem nD τ sig)).erase ((thr d L, SemLoc.dma cc0_scoped0.sem) : GSem nD τ sig)).erase ((thr d L, SemLoc.dma cc0_scoped1.sem) : GSem nD τ sig)).erase ((thr d L, SemLoc.dma cc0_scoped2.sem) : GSem nD τ sig)).erase ((thr d L, SemLoc.dma cc0_scoped3.sem) : GSem nD τ sig)) fun g => semVal g 0) := by
  unfold SparseCore.Cfg.ownSems0
  rw [SparseCore.bigSep_erase' ((mem_ownCells (g := ((thr d L, SemLoc.dma cc0_scratch7.sem) : GSem nD τ sig))).mpr ⟨rfl, by show (SemLoc.dma cc0_scratch7.sem : SemLoc sig).isScoped .scVector = true; decide⟩),
    SparseCore.bigSep_erase' (Finset.mem_erase.mpr ⟨cell_ne d L (by decide), (mem_ownCells (g := ((thr d L, SemLoc.dma cc0_scratch8.sem) : GSem nD τ sig))).mpr ⟨rfl, by show (SemLoc.dma cc0_scratch8.sem : SemLoc sig).isScoped .scVector = true; decide⟩⟩),
    SparseCore.bigSep_erase' (Finset.mem_erase.mpr ⟨cell_ne d L (by decide), Finset.mem_erase.mpr ⟨cell_ne d L (by decide), (mem_ownCells (g := ((thr d L, SemLoc.dma cc0_scoped0.sem) : GSem nD τ sig))).mpr ⟨rfl, by show (SemLoc.dma cc0_scoped0.sem : SemLoc sig).isScoped .scVector = true; decide⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := ((thr d L, SemLoc.dma cc0_scoped1.sem) : GSem nD τ sig))).mpr ⟨rfl, by show (SemLoc.dma cc0_scoped1.sem : SemLoc sig).isScoped .scVector = true; decide⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := ((thr d L, SemLoc.dma cc0_scoped2.sem) : GSem nD τ sig))).mpr ⟨rfl, by show (SemLoc.dma cc0_scoped2.sem : SemLoc sig).isScoped .scVector = true; decide⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := ((thr d L, SemLoc.dma cc0_scoped3.sem) : GSem nD τ sig))).mpr ⟨rfl, by show (SemLoc.dma cc0_scoped3.sem : SemLoc sig).isScoped .scVector = true; decide⟩⟩⟩⟩⟩⟩)]

omit [FloatOps F] in
/-- The seven scratch buffers likewise. -/
theorem ownBufs_V (d : Dev nD) (L : grid0.Coords) :
    (ownBufs (thr d L) : sProp 𝕄) = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f) ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨ref_ne L (by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨ref_ne L (by decide), Finset.mem_erase.mpr ⟨ref_ne L (by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨ref_ne L (by decide), Finset.mem_erase.mpr ⟨ref_ne L (by decide), Finset.mem_erase.mpr ⟨ref_ne L (by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨ref_ne L (by decide), Finset.mem_erase.mpr ⟨ref_ne L (by decide), Finset.mem_erase.mpr ⟨ref_ne L (by decide), Finset.mem_erase.mpr ⟨ref_ne L (by decide), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨ref_ne L (by decide), Finset.mem_erase.mpr ⟨ref_ne L (by decide), Finset.mem_erase.mpr ⟨ref_ne L (by decide), Finset.mem_erase.mpr ⟨ref_ne L (by decide), Finset.mem_erase.mpr ⟨ref_ne L (by decide), SparseCore.Cfg.mem_ownRefs_of_owner (p := Proc.scVector (cV L) (jV L)) (b := ((Proc.scVector (cV L) (jV L)).devRef cc0_scratch5)) rfl⟩⟩⟩⟩⟩),
    SparseCore.bigSep_erase' (Finset.mem_erase.mpr ⟨ref_ne L (by decide), Finset.mem_erase.mpr ⟨ref_ne L (by decide), Finset.mem_erase.mpr ⟨ref_ne L (by decide), Finset.mem_erase.mpr ⟨ref_ne L (by decide), Finset.mem_erase.mpr ⟨ref_ne L (by decide), Finset.mem_erase.mpr ⟨ref_ne L (by decide), SparseCore.Cfg.mem_ownRefs_of_owner (p := Proc.scVector (cV L) (jV L)) (b := ((Proc.scVector (cV L) (jV L)).devRef cc0_scratch6)) rfl⟩⟩⟩⟩⟩⟩)]

/-- Tile `i`'s read share. -/
abbrev shr (i : Fin 32) : PosShare TreeShare := ShareLeaves.leaf 5 fullShare i

/-- What the tile with number `i` takes: its read shares of the table, the lists, the activations and the bias, and its
    block of the result at `g`. -/
def tileP (d : Dev nD) (Tb : S73728x2x128.Idx → F .f32) (ls : S8192x96.Idx → BitVec 32) (ac : S262144.Idx → F .f32) (b : S768.Idx → F .f32)
    (g : S8192x768.Idx → F .f32) (i : Fin 32) : sProp 𝕄 :=
  iprop((tLoc d ↦{shr i} Tb) ∗ (lLoc d ↦{shr i} ls) ∗ (aLoc d ↦{shr i} ac) ∗ (bLoc d ↦{shr i} b) ∗ (oLoc d ↦[oSet i]{fullShare} g))

set_option maxHeartbeats 4000000 in
/-- The task of the tile at `L`. -/
theorem tile_body (d : Dev nD) (L : grid0.Coords) (hF : (K (F := F)).Facts) (Tb : S73728x2x128.Idx → F .f32)
    (ls : S8192x96.Idx → BitVec 32) (hl : ∀ x, (ls x).toNat < 73728) (ac : S262144.Idx → F .f32) (b : S768.Idx → F .f32)
    (f : S8192x768.Idx → F .f32) (O : CellTallies nD τ sig (HIx 1)) (W : Waits sig (HIx 1)) (hO : ∀ g, O g none = 0) :
    iprop(levAts (K (F := F)).L (K (F := F)).lev ∗ emp ∗ tileP d Tb ls ac b f (tN L)
        ∗ scopedBufs (thr d L) ∗ scopedSems0 (thr d L) ∗ owes (thr d L) O W)
      ⊢@{sProp 𝕄} wp frame (wpE (defs₀ (F := F)) 𝒱₀ (thr d L) none) Set.univ
          (cc0_dec L tabM (Memref.isWhole_whole _) actM (Memref.isWhole_whole _) lstM (Memref.isWhole_whole _) biaM (Memref.isWhole_whole _) resM (Memref.isWhole_whole _) idxV (Memref.isWhole_whole _) actsV (Memref.isWhole_whole _) aspV (Memref.isWhole_whole _) rowA (Memref.isWhole_whole _) rowB (Memref.isWhole_whole _) outV (Memref.isWhole_whole _) biaV (Memref.isWhole_whole _) cc0_scratch7 cc0_scratch8 cc0_scoped0 cc0_scoped1 cc0_scoped2 cc0_scoped3)
          fun _ => iprop(tileP d Tb ls ac b (resV Tb ls ac b) (tN L)
            ∗ scopedBufs (thr d L) ∗ scopedSems0 (thr d L)
            ∗ ∃ W', ⌜∀ p ∈ W', p ∈ W ∨ p.2 = none⌝ ∗ owes (thr d L) O W') := by
  simp only [cc0_dec_eq_skeleton]; unfold cc0_dec_skel tileP
  rw [(K (F := F)).scopedBufs_V hF d (cV L) (jV L), SparseCore.Cfg.scopedSems0_V (Val := Elt F) d (cV L) (jV L), ownSems0_V, ownBufs_V]
  iintro ⟨#Hlv, -, ⟨Ht, Hls, Hac, Hb, Hres⟩, ⟨⟨%g0, Hi⟩, ⟨%g1, H8⟩, ⟨%g2, Ha⟩, ⟨%g3, HrA⟩, ⟨%g4, HrB⟩, ⟨%g5, Ho⟩, ⟨%g6, Hbi⟩, Hbufs⟩,
    ⟨Hsa, Hsb, Hs0, Hs1, Hs2, Hs3, Hsems⟩, HO⟩
  ihave Hmw := (show levAts (K (F := F)).L (K (F := F)).lev ⊢ Transfers.MayWaits (thr d L) (default : HIx 1) O from
    (K (F := F)).mayWaits_none (thr := thr d L) hO) $$ Hlv
  ihave Hb := (Entails.of_eq (show (bLoc d ↦{shr (tN L)} b : sProp 𝕄) = (biaM).view.loc (thr d L) ↦{shr (tN L)} b from rfl)) $$ Hb
  ihave Hbi := (Entails.of_eq (show ((thr d L).loc cc0_scratch6 ↦{fullShare} g6 : sProp 𝕄) = (biaV).view.loc (thr d L) ↦{fullShare} g6 from rfl)) $$ Hbi
  sl_exec
  have eb : View.write (Elt F) (biaV).view g6 (tile_body.sl.dma0 b) Finset.univ = b := View.write_whole_univ cc0_scratch6 _ _

  rw [eb]
  clear eb
  sl_for (chSt d L O W Tb ls ac b f (oSet (tN L)) (shr (tN L))) $$ [Ht Hls Hac Hres Hi H8 Ha HrA HrB Ho Hbi Hsa Hsb Hs1 Hs2 Hs3 HO]
  · iintro %n %s Hst
    iapply (t1_trip d L O W Tb ls hl ac b f (oSet (tN L)) (shr (tN L)) n s (chunk_sub L n)) $$ Hst
  · unfold chSt
    isplitl []; · iexact Hmw
    isplitl [Ht]; · iexact Ht
    isplitl [Hls]; · iexact Hls
    isplitl [Hac]; · iexact Hac
    isplitl [Hres]
    · rw [resP_none]; iexact Hres
    isplitl [Hi]; · iexists _; iexact Hi
    isplitl [H8]; · iexists _; iexact H8
    isplitl [Ha]; · iexists _; iexact Ha
    isplitl [HrA]; · iexists _; iexact HrA
    isplitl [HrB]; · iexists _; iexact HrB
    isplitl [Ho]; · iexists _; iexact Ho
    isplitl [Hbi]; · iexact Hbi
    isplitl [Hsa]; · iexact Hsa
    isplitl [Hsb]; · iexact Hsb
    isplitl [Hs1]; · iexact Hs1
    isplitl [Hs2]; · iexact Hs2
    isplitl [Hs3]; · iexact Hs3
    iexists _; isplitr
    swap; · iexact HO
    ipureintro; exact Late.insert (fun p hp => .inl hp) _
  iintro %r Hst
  rw [show Scf.trips k0_t1_loop.lb k0_t1_loop.ub k0_t1_loop.st = 16 by decide]
  unfold chSt
  icases Hst with ⟨-, Ht, Hls, Hac, Hres, ⟨%h0, Hi⟩, ⟨%h1, H8⟩, ⟨%h2, Ha⟩, ⟨%h3, HrA⟩, ⟨%h4, HrB⟩, ⟨%h5, Ho⟩, Hbi, Hsa, Hsb, Hs1, Hs2, Hs3, %W2, %hW2, HO⟩
  ihave Hres := (Entails.of_eq (pointsTo_congr (resP_done Tb ls ac b f L))) $$ Hres
  sl_exec
  sl_step
  isplitl [Ht Hls Hac Hb Hres]
  · isplitl [Ht]; · iexact Ht
    isplitl [Hls]; · iexact Hls
    isplitl [Hac]; · iexact Hac
    isplitl [Hb]; · iexact Hb
    iexact Hres
  isplitl [Hi H8 Ha HrA HrB Ho Hbi Hbufs]
  · isplitl [Hi]; · iexists _; iexact Hi
    isplitl [H8]; · iexists _; iexact H8
    isplitl [Ha]; · iexists _; iexact Ha
    isplitl [HrA]; · iexists _; iexact HrA
    isplitl [HrB]; · iexists _; iexact HrB
    isplitl [Ho]; · iexists _; iexact Ho
    isplitl [Hbi]; · iexists _; iexact Hbi
    iexact Hbufs
  isplitl [Hsa Hsb Hs0 Hs1 Hs2 Hs3 Hsems]
  · isplitl [Hsa]; · iexact Hsa
    isplitl [Hsb]; · iexact Hsb
    isplitl [Hs0]; · iexact Hs0
    isplitl [Hs1]; · iexact Hs1
    isplitl [Hs2]; · iexact Hs2
    isplitl [Hs3]; · iexact Hs3
    iexact Hsems
  iexists W2; isplitr
  swap; · iexact HO
  ipureintro; exact hW2

end Cert.Proof.Dec

end
-- ==== Proof.Launch.lean ====
/-
  The launch: what each tile is handed and brings back, the split of the arrays over the 32 tiles, the host's own
  operations, and the run of the whole program, with the value its result ends at.
-/
module

public import proofs.«01_k».proof.Proof.Tile

@[expose] public section

noncomputable section

namespace Cert.Proof.Dec

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

/-! ## The host's operations -/

/-- The thirteen operations before the call, in order. -/
abbrev hostOps : List (HloOp τ sig (Elt F)) :=
  [ StableHlo.unary main_arg0 main_v0 ((transpose S24576x768 [1, 0] · transposes_S768x24576_S24576x768_1_0) : (⟨S768x24576, .f32⟩ : BufTy).Contents (Elt F) → (⟨S24576x768, .f32⟩ : BufTy).Contents (Elt F)),
    StableHlo.reshape main_v0 main_v1 (rfl : (.f32 : EltTy) = .f32) shapeCasts_S24576x768_S73728x2x128,
    StableHlo.nullary main_v2 (iotaInDim S3 32 0),
    StableHlo.unary main_arg2 main_v3 (broadcastInDim S8192x1x32 ![0, 2] bcast_S8192x32_S8192x1x32_0_2 : (⟨S8192x32, .i32⟩ : BufTy).Contents (Elt F) → (⟨S8192x1x32, .i32⟩ : BufTy).Contents (Elt F)),
    StableHlo.nullary main_c (constantI S_ 32 3#32),
    StableHlo.unary main_c main_v4 (broadcastInDim S8192x1x32 ![] bcast_S_S8192x1x32 : (⟨S_, .i32⟩ : BufTy).Contents (Elt F) → (⟨S8192x1x32, .i32⟩ : BufTy).Contents (Elt F)),
    StableHlo.binary main_v3 main_v4 main_v5 (muli : (⟨S8192x1x32, .i32⟩ : BufTy).Contents (Elt F) → (⟨S8192x1x32, .i32⟩ : BufTy).Contents (Elt F) → (⟨S8192x1x32, .i32⟩ : BufTy).Contents (Elt F)),
    StableHlo.unary main_v2 main_v6 (broadcastInDim S1x3x1 ![1] bcast_S3_S1x3x1_1 : (⟨S3, .i32⟩ : BufTy).Contents (Elt F) → (⟨S1x3x1, .i32⟩ : BufTy).Contents (Elt F)),
    StableHlo.unary main_v5 main_v7 (broadcastInDim S8192x3x32 ![0, 1, 2] bcast_S8192x1x32_S8192x3x32_0_1_2 : (⟨S8192x1x32, .i32⟩ : BufTy).Contents (Elt F) → (⟨S8192x3x32, .i32⟩ : BufTy).Contents (Elt F)),
    StableHlo.unary main_v6 main_v8 (broadcastInDim S8192x3x32 ![0, 1, 2] bcast_S1x3x1_S8192x3x32_0_1_2 : (⟨S1x3x1, .i32⟩ : BufTy).Contents (Elt F) → (⟨S8192x3x32, .i32⟩ : BufTy).Contents (Elt F)),
    StableHlo.binary main_v7 main_v8 main_v9 (addi : (⟨S8192x3x32, .i32⟩ : BufTy).Contents (Elt F) → (⟨S8192x3x32, .i32⟩ : BufTy).Contents (Elt F) → (⟨S8192x3x32, .i32⟩ : BufTy).Contents (Elt F)),
    StableHlo.reshape main_v9 main_v10 (rfl : (.i32 : EltTy) = .i32) shapeCasts_S8192x3x32_S8192x96,
    StableHlo.reshape main_arg1 main_v11 (rfl : (.f32 : EltTy) = .f32) shapeCasts_S8192x32_S262144 ]

/-- @main is those operations, then the call. -/
theorem main_eq (d : Dev nD) : main (F := F) d = (StableHlo.seq hostOps >>= fun _ => ((sc (F := F)).run d 0 >>= fun _ => pure ⟨⟩)) := by
  rw [StableHlo.seq_bind_seqK]; rfl

theorem hostOps_tc : (hostOps : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub ..,
    StableHlo.nullary_bufs_sub .., StableHlo.unary_bufs_sub .., StableHlo.binary_bufs_sub .., StableHlo.unary_bufs_sub ..,
    StableHlo.unary_bufs_sub .., StableHlo.unary_bufs_sub .., StableHlo.binary_bufs_sub .., StableHlo.reshape_bufs_sub ..,
    StableHlo.reshape_bufs_sub ..⟩

theorem hostOps_sub : ∀ op ∈ (hostOps : List (HloOp τ sig (Elt F))), op.bufs ⊆ Pipeline.ucRefs τ sig :=
  fun op h => Pipeline.sub_ucRefs op (List.forall_iff_forall_mem.mp hostOps_tc op h)

theorem hostOps_fresh : ∀ op ∈ (hostOps : List (HloOp τ sig (Elt F))), op.fresh = ∅ := by
  intro op h
  fin_cases h <;> rfl

variable (m : (ℓ : Loc nD τ sig) → Buf (Elt F) ℓ) (ρ : Dev nD → PrngReg)

/-- The arrays at the launch, and after the host's operations. -/
def V0 (d : Dev nD) : Valuation τ sig (Elt F) := fun b => m (d, b)
def V1 (d : Dev nD) : Valuation τ sig (Elt F) := StableHlo.after hostOps (V0 m d)

/-- The transposed decoder weights in rows of 2 by 128. -/
abbrev tabOf (W : S768x24576.Idx → F .f32) : S73728x2x128.Idx → F .f32 :=
  shapeCast S73728x2x128 (transpose S24576x768 [1, 0] W transposes_S768x24576_S24576x768_1_0) shapeCasts_S24576x768_S73728x2x128
/-- The activations in one row. -/
abbrev actOf (A : S8192x32.Idx → F .f32) : S262144.Idx → F .f32 := shapeCast S262144 A shapeCasts_S8192x32_S262144
/-- Three times each index, plus the segment's number: the rows of 256 weights each token reads. -/
abbrev lstOf (I : S8192x32.Idx → BitVec 32) : S8192x96.Idx → BitVec 32 :=
  shapeCast S8192x96 (addi
    (broadcastInDim S8192x3x32 ![0, 1, 2] bcast_S8192x1x32_S8192x3x32_0_1_2
      (muli (broadcastInDim S8192x1x32 ![0, 2] bcast_S8192x32_S8192x1x32_0_2 I) (broadcastInDim S8192x1x32 ![] bcast_S_S8192x1x32 (constantI S_ 32 3#32))))
    (broadcastInDim S8192x3x32 ![0, 1, 2] bcast_S1x3x1_S8192x3x32_0_1_2 (broadcastInDim S1x3x1 ![1] bcast_S3_S1x3x1_1 (iotaInDim S3 32 0))))
    shapeCasts_S8192x3x32_S8192x96

abbrev a0 : DevRef τ sig := Proc.devRef .tc (main_arg0 : Ref sig .tc)
abbrev a1 : DevRef τ sig := Proc.devRef .tc (main_arg1 : Ref sig .tc)
abbrev a2 : DevRef τ sig := Proc.devRef .tc (main_arg2 : Ref sig .tc)
abbrev a3 : DevRef τ sig := Proc.devRef .tc (main_arg3 : Ref sig .tc)
abbrev r1 : DevRef τ sig := Proc.devRef .tc (main_v1 : Ref sig .tc)
abbrev r10 : DevRef τ sig := Proc.devRef .tc (main_v10 : Ref sig .tc)
abbrev r11 : DevRef τ sig := Proc.devRef .tc (main_v11 : Ref sig .tc)
abbrev r12 : DevRef τ sig := Proc.devRef .tc (main_v12 : Ref sig .tc)

abbrev TB (d : Dev nD) : S73728x2x128.Idx → F .f32 := tabOf (m ((SparseCore.T d).loc main_arg0))
abbrev AC (d : Dev nD) : S262144.Idx → F .f32 := actOf (m ((SparseCore.T d).loc main_arg1))
abbrev LS (d : Dev nD) : S8192x96.Idx → BitVec 32 := lstOf (m ((SparseCore.T d).loc main_arg2))
abbrev BS (d : Dev nD) : S768.Idx → F .f32 := m ((SparseCore.T d).loc main_arg3)

theorem V1_a0 (d : Dev nD) : V1 m d a0 = m (d, a0) := by unfold V1; after_results <;> rfl
theorem V1_a1 (d : Dev nD) : V1 m d a1 = m (d, a1) := by unfold V1; after_results <;> rfl
theorem V1_a2 (d : Dev nD) : V1 m d a2 = m (d, a2) := by unfold V1; after_results <;> rfl
theorem V1_a3 (d : Dev nD) : V1 m d a3 = m (d, a3) := by unfold V1; after_results <;> rfl
theorem V1_r12 (d : Dev nD) : V1 m d r12 = m (d, r12) := by unfold V1; after_results <;> rfl
theorem V1_r1 (d : Dev nD) : V1 m d r1 = TB m d := by unfold V1; after_results <;> rfl
theorem V1_r10 (d : Dev nD) : V1 m d r10 = LS m d := by unfold V1; after_results <;> rfl
theorem V1_r11 (d : Dev nD) : V1 m d r11 = AC m d := by unfold V1; after_results <;> rfl

abbrev S8 : Finset (DevRef τ sig) := {a0, a1, a2, a3, r1, r10, r11, r12}

theorem S8_sub : S8 ⊆ Pipeline.ucRefs τ sig := by decide

theorem held_S8 (d : Dev nD) (W : Valuation τ sig (Elt F)) :
    (StableHlo.held (SparseCore.T d) S8 W : sProp 𝕄) = iprop(((SparseCore.T d).loc main_arg0 ↦{fullShare} W a0) ∗ ((SparseCore.T d).loc main_arg1 ↦{fullShare} W a1)
      ∗ ((SparseCore.T d).loc main_arg2 ↦{fullShare} W a2) ∗ ((SparseCore.T d).loc main_arg3 ↦{fullShare} W a3) ∗ (tLoc d ↦{fullShare} W r1)
      ∗ (lLoc d ↦{fullShare} W r10) ∗ (aLoc d ↦{fullShare} W r11) ∗ oLoc d ↦{fullShare} W r12) := by
  unfold StableHlo.held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- What the host's operations leave: the arguments and the result's array as they were, and the three arrays made. -/
theorem held_after (d : Dev nD) :
    (StableHlo.held (SparseCore.T d) (Pipeline.ucRefs τ sig) (StableHlo.after hostOps (V0 m d)) : sProp 𝕄)
      = iprop((((SparseCore.T d).loc main_arg0 ↦{fullShare} m ((SparseCore.T d).loc main_arg0)) ∗ ((SparseCore.T d).loc main_arg1 ↦{fullShare} m ((SparseCore.T d).loc main_arg1))
        ∗ ((SparseCore.T d).loc main_arg2 ↦{fullShare} m ((SparseCore.T d).loc main_arg2)) ∗ (bLoc d ↦{fullShare} BS m d) ∗ (tLoc d ↦{fullShare} TB m d)
        ∗ (lLoc d ↦{fullShare} LS m d) ∗ (aLoc d ↦{fullShare} AC m d) ∗ oLoc d ↦{fullShare} m (oLoc d))
        ∗ StableHlo.held (SparseCore.T d) (Pipeline.ucRefs τ sig \ S8) (V1 m d)) := by
  show (StableHlo.held (SparseCore.T d) (Pipeline.ucRefs τ sig) (V1 m d) : sProp 𝕄) = _
  rw [StableHlo.held_sub_split (SparseCore.T d) S8_sub (V1 m d), held_S8, V1_a0, V1_a1, V1_a2, V1_a3, V1_r1, V1_r10, V1_r11, V1_r12]

/-! ## What each tile is handed and brings back -/

theorem nSub_zero : (K (F := F)).nSub 0 = 16 := rfl
theorem nCore_zero : (K (F := F)).nCore 0 = 2 := rfl

/-- The number of tile `i` of SparseCore `c`. -/
def tile (c : Fin 2) (i : Fin 16) : Fin 32 := ⟨2 * i.val + c.val, by omega⟩

/-- The result's value on device `d`. -/
def RV (d : Dev nD) : S8192x768.Idx → F .f32 := resV (TB m d) (LS m d) (AC m d) (BS m d)

abbrev goP (d : Dev nD) (i : Fin 32) : sProp 𝕄 := tileP d (TB m d) (LS m d) (AC m d) (BS m d) (m (oLoc d)) i
abbrev tdP (d : Dev nD) (i : Fin 32) : sProp 𝕄 := tileP d (TB m d) (LS m d) (AC m d) (BS m d) (RV m d) i

/-- Each tile takes its share of the four arrays read and its block of the result, and brings them back with the block
    at its value; a SparseCore takes what its sixteen tiles do. -/
def P : (K (F := F)).Pay (nD := nD) (Val := Elt F) (Name := ℕ) (U := UU) where
  st := fun q d c => match q with | 0 => bigSep Finset.univ fun i : Fin 16 => goP m d (tile (Fin.cast nCore_zero c) i)
  dn := fun q d c => match q with | 0 => bigSep Finset.univ fun i : Fin 16 => tdP m d (tile (Fin.cast nCore_zero c) i)
  go := fun q d c i => match q with | 0 => goP m d (tile (Fin.cast nCore_zero c) (Fin.cast nSub_zero i))
  td := fun q d c i => match q with | 0 => tdP m d (tile (Fin.cast nCore_zero c) (Fin.cast nSub_zero i))
  x := fun _ _ => iprop(emp)

instance tileP_storable (d : Dev nD) (Tb : S73728x2x128.Idx → F .f32) (ls : S8192x96.Idx → BitVec 32) (ac : S262144.Idx → F .f32)
    (b : S768.Idx → F .f32) (g : S8192x768.Idx → F .f32) (i : Fin 32) :
    BI.Storable (upEmb : UEmb _ 𝕄) (tileP d Tb ls ac b g i) := by
  unfold tileP; infer_instance

instance P_storable : (P (F := F) m).IsStorable where
  st q d c := match q with
    | 0 => (inferInstance : BI.Storable (upEmb : UEmb _ 𝕄) (bigSep Finset.univ fun i : Fin 16 => goP m d (tile (Fin.cast nCore_zero c) i)))
  dn q d c := match q with
    | 0 => (inferInstance : BI.Storable (upEmb : UEmb _ 𝕄) (bigSep Finset.univ fun i : Fin 16 => tdP m d (tile (Fin.cast nCore_zero c) i)))
  go q d c i := match q with
    | 0 => (inferInstance : BI.Storable (upEmb : UEmb _ 𝕄) (goP m d (tile (Fin.cast nCore_zero c) (Fin.cast nSub_zero i))))
  td q d c i := match q with
    | 0 => (inferInstance : BI.Storable (upEmb : UEmb _ 𝕄) (tdP m d (tile (Fin.cast nCore_zero c) (Fin.cast nSub_zero i))))

/-- What the proof asks of the launch memory: every index is below 24576. -/
def PreOK : Prop := ∀ (d : Dev nD) (j : S8192x32.Idx), (m ((SparseCore.T d).loc main_arg2) j : BitVec 32).toNat < 24576

/-! ## The obligation of a tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => (fun L : grid0.Coords => cc0_dec L tabM (Memref.isWhole_whole _) actM (Memref.isWhole_whole _) lstM (Memref.isWhole_whole _) biaM (Memref.isWhole_whole _) resM (Memref.isWhole_whole _) idxV (Memref.isWhole_whole _) actsV (Memref.isWhole_whole _) aspV (Memref.isWhole_whole _) rowA (Memref.isWhole_whole _) rowB (Memref.isWhole_whole _) outV (Memref.isWhole_whole _) biaV (Memref.isWhole_whole _) cc0_scratch7 cc0_scratch8 cc0_scoped0 cc0_scoped1 cc0_scoped2 cc0_scoped3) (coordsV c s)) ⟨⟩ c s := rfl

theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The lists read rows the table has. -/
def ListOK : Prop := ∀ (d : Dev nD) (x : S8192x96.Idx), (LS m d x).toNat < 73728

set_option maxRecDepth 16384 in
theorem tileObl (hF : (K (F := F)).Facts) (hl : ListOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (TB m d) (LS m d) (hl d) (AC m d) (BS m d) (m (oLoc d)) O W hO).trans
    (wp_mono frame _ _ fun _ => obl_post)

theorem vecSplit : (K (F := F)).VecSplit' (P m) 0 := by
  intro d c
  show (bigSep Finset.univ fun i : Fin 16 => goP m d (tile (Fin.cast nCore_zero c) i)) ⊢ |={Set.univ}=> iprop(
      (bigSep Finset.univ fun i : Fin 16 => goP m d (tile (Fin.cast nCore_zero c) i))
      ∗ ((bigSep Finset.univ fun i : Fin 16 => tdP m d (tile (Fin.cast nCore_zero c) i))
          -∗ (bigSep Finset.univ fun i : Fin 16 => tdP m d (tile (Fin.cast nCore_zero c) i))))
  iintro H; imodintro
  isplitl [H]; · iexact H
  iintro H; iexact H

/-! ## The arrays over the 32 tiles -/

theorem oSet_disjoint : ∀ i ∈ (Finset.univ : Finset (Fin 32)), ∀ j ∈ (Finset.univ : Finset (Fin 32)), i ≠ j → Disjoint (oSet i) (oSet j) := by
  intro i _ j _ h
  rw [Finset.disjoint_left]
  intro x hi hj
  exact h (Fin.ext ((Finset.mem_filter.mp hi).2.symm.trans (Finset.mem_filter.mp hj).2))

theorem oSet_cover : (Finset.univ : Finset (Fin 32)).biUnion oSet = Finset.univ := by
  ext x
  have h : (x 0).val < 8192 := (x 0).isLt
  simp only [Finset.mem_biUnion, Finset.mem_univ, true_and, iff_true]
  exact ⟨⟨(x 0).val / 256, by omega⟩, Finset.mem_filter.mpr ⟨Finset.mem_univ _, rfl⟩⟩

theorem oLoc_blocks (d : Dev nD) (g : S8192x768.Idx → F .f32) :
    (oLoc d ↦{fullShare} g : sProp 𝕄) = bigSep Finset.univ fun i : Fin 32 => oLoc d ↦[oSet i]{fullShare} g := by
  rw [← pointsTo_biUnion Finset.univ (ℓ := oLoc d) oSet oSet_disjoint, oSet_cover]

/-- An array held whole is the 32 tiles' shares of it at once. -/
theorem shares (ℓ : Loc nD τ sig) (f : Buf (Elt F) ℓ) :
    (ℓ ↦{fullShare} f : sProp 𝕄) = bigSep Finset.univ fun i : Fin 32 => ℓ ↦{shr i} f :=
  ShareLeaves.pointsTo_leaves Finset.univ f 5 fullShare

/-- The whole arrays are the tiles' parts at once. -/
theorem tiles_whole (d : Dev nD) (Tb : S73728x2x128.Idx → F .f32) (ls : S8192x96.Idx → BitVec 32) (ac : S262144.Idx → F .f32)
    (b : S768.Idx → F .f32) (g : S8192x768.Idx → F .f32) :
    (bigSep Finset.univ fun i : Fin 32 => tileP d Tb ls ac b g i : sProp 𝕄)
      = iprop((tLoc d ↦{fullShare} Tb) ∗ (lLoc d ↦{fullShare} ls) ∗ (aLoc d ↦{fullShare} ac) ∗ (bLoc d ↦{fullShare} b) ∗ (oLoc d ↦{fullShare} g)) := by
  unfold tileP
  rw [bigSep_sep', bigSep_sep', bigSep_sep', bigSep_sep', oLoc_blocks, shares (tLoc d), shares (lLoc d), shares (aLoc d), shares (bLoc d)]

/-- The tiles by SparseCore and number in it. -/
def tileEquiv : Fin 2 × Fin 16 ≃ Fin 32 where
  toFun p := tile p.1 p.2
  invFun n := (⟨n.val % 2, Nat.mod_lt _ (by decide)⟩, ⟨n.val / 2, by omega⟩)
  left_inv := by
    rintro ⟨c, i⟩
    have := c.isLt
    refine Prod.ext (Fin.ext ?_) (Fin.ext ?_)
    · show (2 * i.val + c.val) % 2 = c.val; omega
    · show (2 * i.val + c.val) / 2 = i.val; omega
  right_inv n := Fin.ext (show 2 * (n.val / 2) + n.val % 2 = n.val by omega)

theorem tiles_cores (Φ : Fin 32 → sProp 𝕄) :
    (bigSep Finset.univ fun c : Fin 2 => bigSep Finset.univ fun i : Fin 16 => Φ (tile c i)) = bigSep Finset.univ Φ := by
  rw [bigSep_univ_equiv tileEquiv Φ, bigSep_univ_prod]; rfl

theorem st0_eq (d : Dev nD) : (bigSep Finset.univ fun c : Fin ((K (F := F)).nCore 0) => (P m).st 0 d c)
    = iprop((tLoc d ↦{fullShare} TB m d) ∗ (lLoc d ↦{fullShare} LS m d) ∗ (aLoc d ↦{fullShare} AC m d) ∗ (bLoc d ↦{fullShare} BS m d) ∗ (oLoc d ↦{fullShare} m (oLoc d))) :=
  (tiles_cores (goP m d)).trans (tiles_whole d _ _ _ _ _)
theorem dn0_eq (d : Dev nD) : (bigSep Finset.univ fun c : Fin ((K (F := F)).nCore 0) => (P m).dn 0 d c)
    = iprop((tLoc d ↦{fullShare} TB m d) ∗ (lLoc d ↦{fullShare} LS m d) ∗ (aLoc d ↦{fullShare} AC m d) ∗ (bLoc d ↦{fullShare} BS m d) ∗ (oLoc d ↦{fullShare} RV m d)) :=
  (tiles_cores (tdP m d)).trans (tiles_whole d _ _ _ _ _)

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun th : Thread nD τ => bigSep Finset.univ fun q : Fin 1 => (P m).x q th) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun th : Thread nD τ => bigSep Finset.univ fun q : Fin 1 => (P (F := F) m).x q th) = bigSep Finset.univ fun _ => iprop(emp) from
    bigSep_congr fun _ _ => bigSep_univ_of_subsingleton (0 : Fin 1), bigSep_emp']
  iempintro

/-! ## @main on the TensorCore -/

/-- What @main leaves the claim: the arguments at their launch contents, the result at its value. -/
abbrev FIN (d : Dev nD) : sProp 𝕄 := iprop(((SparseCore.T d).loc main_arg0 ↦{fullShare} m ((SparseCore.T d).loc main_arg0)) ∗ ((SparseCore.T d).loc main_arg1 ↦{fullShare} m ((SparseCore.T d).loc main_arg1))
  ∗ ((SparseCore.T d).loc main_arg2 ↦{fullShare} m ((SparseCore.T d).loc main_arg2)) ∗ ((SparseCore.T d).loc main_arg3 ↦{fullShare} m ((SparseCore.T d).loc main_arg3)) ∗ oLoc d ↦{fullShare} RV m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) (Pipeline.ucRefs τ sig) (V0 m d) from
    Pipeline.unscopedBufs_held d (V0 m d), main_eq]
  iintro ⟨#Hctx, Hst, ⟨Hb, Hheld, Hts, -⟩, -⟩
  iapply (StableHlo.wp_seq 𝒱 none Set.univ d (Pipeline.ucRefs τ sig) (fun _ => ((sc (F := F)).run d 0 >>= fun _ => pure ⟨⟩)) hostOps hostOps_sub hostOps_fresh (V0 m d)) $$ [Hb Hheld]
  · isplitl [Hb]; · iexact Hb
    iexact Hheld
  iintro ⟨Hb, Hheld⟩
  ihave Hh := (Entails.of_eq (held_after m d)) $$ Hheld
  icases Hh with ⟨Hh', -⟩
  icases Hh' with ⟨H0, H1, H2, H3, Ht, Hl, Ha, Ho⟩
  simp only [wp_bind, wp_pure]
  iapply ((K (F := F)).wp_run (D (F := F)) 𝒱 (EH := EH) (P := P m) κ d 0) $$ [Hst H0 H1 H2 H3 Ht Hl Ha Ho Hb Hts]
  isplitr; · iexact Hctx
  isplitl [Hst]; · iexact Hst
  isplitl [H3 Ht Hl Ha Ho]
  · rw [st0_eq]
    isplitl [Ht]; · iexact Ht
    isplitl [Hl]; · iexact Hl
    isplitl [Ha]; · iexact Ha
    isplitl [H3]; · iexact H3
    iexact Ho
  iintro ⟨Hst, Hdn⟩
  ihave Hdn' := (Entails.of_eq (dn0_eq m d)) $$ Hdn
  icases Hdn' with ⟨-, -, -, H3, Ho⟩
  imodintro
  isplitl [Hst]; · iexact Hst
  isplitr [Hb Hts]
  · isplitl [H0]; · iexact H0
    isplitl [H1]; · iexact H1
    isplitl [H2]; · iexact H2
    isplitl [H3]; · iexact H3
    iexact Ho
  isplitl [Hb] <;> iassumption

def fq (d : Dev nD) (s' : Phys nD τ sig (Elt F)) : Prop :=
  s'.mem.mem (oLoc d) = RV m d ∧ s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)

/-- An array held whole is what the memory has. -/
theorem agree (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, Ho⟩, HSI⟩
  ihave H := (agree _ _ s') $$ [HSI H0]
  · isplitl [HSI] <;> iassumption
  icases H with ⟨%h0, HSI⟩
  ihave H := (agree _ _ s') $$ [HSI H1]
  · isplitl [HSI] <;> iassumption
  icases H with ⟨%h1, HSI⟩
  ihave H := (agree _ _ s') $$ [HSI H2]
  · isplitl [HSI] <;> iassumption
  icases H with ⟨%h2, HSI⟩
  ihave H := (agree _ _ s') $$ [HSI H3]
  · isplitl [HSI] <;> iassumption
  icases H with ⟨%h3, HSI⟩
  ihave H := (agree _ _ s') $$ [HSI Ho]
  · isplitl [HSI] <;> iassumption
  icases H with ⟨%ho, -⟩
  ipureintro; exact ⟨ho, h0, h1, h2, h3⟩

/-! ## The run -/

def QC : PUnit × MemSt nD τ sig (Elt F) → Prop := fun r => (∀ d : Dev nD,
  r.2.mem (oLoc d) = RV m d ∧ r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_arg3) = m ((SparseCore.T d).loc main_arg3)) ∧ r.2.sem = fun _ => 0

theorem run_list [∀ e, Nonempty (Elt F e)] (hl : ListOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hl)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Dec

end
-- ==== Proof.Host.lean ====
/-
  The arrays the host makes for the kernel, entry by entry: the table's rows are thirds of the rows of the transposed
  weights, a list's entry is three times an index plus its third. With the indices in range the lists read rows the
  table has, so the program runs; and the frames follow.
-/
module

public import proofs.«01_k».proof.Proof.Launch
public import proofs.«01_k».proof.Proof.Gen.Pre_idx_in_range
public import proofs.«01_k».proof.Proof.Gen.Kernel

@[expose] public section

noncomputable section

namespace Cert.Proof.Dec

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The index `(t, j)` of the activations and of the indices, reduced. -/
def ixI (t j : ℕ) : S8192x32.Idx
  | 0 => ⟨t % 8192, Nat.mod_lt _ (by decide)⟩
  | 1 => ⟨j % 32, Nat.mod_lt _ (by decide)⟩
  | ⟨_ + 2, h⟩ => absurd h (Nat.not_lt.2 (Nat.le_add_left _ _))

/-- The index `(c, r)` of the decoder weights, reduced. -/
def ixW (c r : ℕ) : S768x24576.Idx
  | 0 => ⟨c % 768, Nat.mod_lt _ (by decide)⟩
  | 1 => ⟨r % 24576, Nat.mod_lt _ (by decide)⟩
  | ⟨_ + 2, h⟩ => absurd h (Nat.not_lt.2 (Nat.le_add_left _ _))

/-- The index `(r, c)` of the transposed weights, reduced. -/
def ixWT (r c : ℕ) : S24576x768.Idx
  | 0 => ⟨r % 24576, Nat.mod_lt _ (by decide)⟩
  | 1 => ⟨c % 768, Nat.mod_lt _ (by decide)⟩
  | ⟨_ + 2, h⟩ => absurd h (Nat.not_lt.2 (Nat.le_add_left _ _))

/-- The index `(t, s, j)` of the lists before they are laid out in one row a token, reduced. -/
def ixE (t s j : ℕ) : S8192x3x32.Idx
  | 0 => ⟨t % 8192, Nat.mod_lt _ (by decide)⟩
  | 1 => ⟨s % 3, Nat.mod_lt _ (by decide)⟩
  | 2 => ⟨j % 32, Nat.mod_lt _ (by decide)⟩
  | ⟨_ + 3, h⟩ => absurd h (Nat.not_lt.2 (Nat.le_add_left _ _))

theorem trans_at (W : S768x24576.Idx → F .f32) (r c : ℕ) :
    transpose S24576x768 [1, 0] W transposes_S768x24576_S24576x768_1_0 (ixWT r c) = W (ixW c r) :=
  transpose_apply _ _ _ _ _ (by intro b; match b with | 0 => rfl | 1 => rfl)

theorem tab_at (W : S768x24576.Idx → F .f32) (r s u l : ℕ) (hr : r < 24576) (hs : s < 3) (hu : u < 2) (hl : l < 128) :
    tabOf W (ixT (3 * r + s) u l) = W (ixW (256 * s + 128 * u + l) r) := by
  unfold tabOf
  rw [shapeCast_apply _ _ _ (ixWT r (256 * s + 128 * u + l)) (by
    rw [Shape.rowMajor_val_two, Shape.rowMajor_val_three]
    show r % 24576 * 768 + (256 * s + 128 * u + l) % 768 = ((3 * r + s) % 73728 * 2 + u % 2) * 128 + l % 128
    omega), trans_at]

theorem act_at (A : S8192x32.Idx → F .f32) (t j : ℕ) (ht : t < 8192) (hj : j < 32) : actOf A (ixC (32 * t + j)) = A (ixI t j) :=
  shapeCast_apply _ _ _ _ (by
    rw [Shape.rowMajor_val_one, Shape.rowMajor_val_two]
    show t % 8192 * 32 + j % 32 = (32 * t + j) % 262144
    omega)

theorem lst_at (I : S8192x32.Idx → BitVec 32) (t j : ℕ) (ht : t < 8192) (hj : j < 96) :
    lstOf I (ixS t j) = I (ixI t (j % 32)) * 3#32 + BitVec.ofNat 32 (j / 32) := by
  unfold lstOf
  rw [shapeCast_apply _ _ _ (ixE t (j / 32) (j % 32)) (by
    rw [Shape.rowMajor_val_two, Shape.rowMajor_val_three]
    show (t % 8192 * 3 + j / 32 % 3) * 32 + j % 32 % 32 = t % 8192 * 96 + j % 96
    omega)]
  show I _ * 3#32 + BitVec.ofNat 32 (j / 32 % 3) = _
  have e : j / 32 % 3 = j / 32 := by omega
  rw [e]
  refine congrArg (fun x => I x * 3#32 + BitVec.ofNat 32 (j / 32)) (funext fun a => ?_)
  match a with
  | 0 => rfl
  | 1 => rfl

theorem lst_toNat (I : S8192x32.Idx → BitVec 32) (hI : ∀ x, (I x).toNat < 24576) (t j : ℕ) (ht : t < 8192) (hj : j < 96) :
    (lstOf I (ixS t j)).toNat = 3 * (I (ixI t (j % 32))).toNat + j / 32 := by
  rw [lst_at I t j ht hj]
  have h := hI (ixI t (j % 32))
  simp only [BitVec.toNat_add, BitVec.toNat_mul, BitVec.toNat_ofNat]
  omega

theorem ixS_self (x : S8192x96.Idx) : ixS (x 0).val (x 1).val = x := by
  funext a
  match a with
  | 0 => exact Fin.ext (Nat.mod_eq_of_lt (x 0).isLt)
  | 1 => exact Fin.ext (Nat.mod_eq_of_lt (x 1).isLt)

theorem list_ok (m : (ℓ : Loc nD τ sig) → Buf (Elt F) ℓ) (h : PreOK m) : ListOK m := by
  intro d x
  have h0 : (x 0).val < 8192 := (x 0).isLt
  have h1 : (x 1).val < 96 := (x 1).isLt
  have e := lst_toNat (m ((SparseCore.T d).loc main_arg2)) (h d) (x 0).val (x 1).val h0 h1
  rw [ixS_self] at e
  have hi := h d (ixI (x 0).val ((x 1).val % 32))
  show (lstOf (m ((SparseCore.T d).loc main_arg2)) x).toNat < 73728
  rw [e]
  omega

/-- The precondition, all ones, says every index is below 24576. -/
theorem ok_of_pre (W : FVec F S768x24576 .f32) (A : FVec F S8192x32 .f32) (I : IVec S8192x32 32) (b : FVec F S768 .f32)
    (h : Pre_idx_in_range.fn (F := F) W A I b = fun _ => 1#1) (j : S8192x32.Idx) : (I j).toNat < 24576 := by
  have andi_ofBool (p q : Bool) : IntOp.andi (BitVec.ofBool p) (BitVec.ofBool q) = BitVec.ofBool (p && q) := by
    cases p <;> cases q <;> decide
  have ofBool_one (p : Bool) : (BitVec.ofBool p = 1#1) ↔ p = true := by cases p <;> decide
  have e := congrFun h j
  simp only [Pre_idx_in_range.fn, andi, cmpi, broadcastInDim, constantI] at e
  simp only [IntOp.cmpi, andi_ofBool, ofBool_one, Bool.and_eq_true, BitVec.sle_eq_decide, BitVec.slt_eq_decide,
    decide_eq_true_eq, BitVec.toInt_eq_toNat_cond, BitVec.toNat_ofNat, Nat.reducePow, Nat.reduceMod] at e
  have := (I j).isLt
  omega

/-- The whole program's run, for any float values. -/
theorem run_main [∀ e, Nonempty (Elt F e)] (m : (ℓ : Loc nD τ sig) → Buf (Elt F) ℓ) (ρ : Dev nD → PrngReg) (h : PreOK m) :
    θ_run (Cert.KernelIdeal.defs (F := F)) (Cert.KernelIdeal.threads (F := F)) ⟨m, fun _ => 0, ρ⟩ (QC m) :=
  run_list m ρ (list_ok m h)

theorem frame_ideal : Cert.quiescent_KernelIdeal := fun m ρ hpre =>
  (θ_run Cert.KernelIdeal.defs _ _).mono (fun _ h => ⟨fun d => (h.1 d).2, h.2⟩)
    (run_main (F := Ideal) m ρ fun d j => ok_of_pre _ _ _ _ (hpre d) j)

theorem frame_kernel : Cert.quiescent_Kernel := fun m ρ hpre =>
  (θ_run Cert.KernelIdeal.defs _ _).mono (fun _ h => ⟨fun d => (h.1 d).2, h.2⟩)
    (run_main (F := Bits) m ρ fun d j => ok_of_pre _ _ _ _ (hpre d) j)

end Cert.Proof.Dec

end
-- ==== Proof.Value.lean ====
/-
  The value. At the extended reals the kernel's result for token `t` and column `c` is the bias at `c` and the 32
  products of an activation and a weight, added in pairs; the reference's is the sum of the same 32 products, and
  the bias.
-/
module

public import proofs.«01_k».proof.Proof.Host
public import proofs.«01_k».proof.Proof.Gen.ReferenceIdeal
public import proofs.«01_k».proof.Proof.Gen.ReferenceIdeal.Run
public import Idealize.ShloMosaic.Lib.IdealHost
public import Idealize.ShloMosaic.PureOps.Ideal.Laws
public import Idealize.ShloMosaic.Lib.Pointwise.Tactic

@[expose] public section

noncomputable section

namespace Cert.Proof.Dec

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## The kernel's side -/

section Any

variable {F : FTy → Type} [FloatOps F]

/-- The weight a gathered row holds at a lane: token `t`'s latent `k`, column `16 w + l`. -/
theorem row_at (W : S768x24576.Idx → F .f32) (I : S8192x32.Idx → BitVec 32) (hI : ∀ x, (I x).toNat < 24576)
    (t w k r l : ℕ) (ht : t < 8192) (hw : w < 48) (hk : k < 32) (hr : r = k + 32 * (w / 16)) (hl : l < 16) :
    gathG (tabOf W) (lstOf I) t (ixR r (w % 16 / 8) (16 * (w % 8) + l)) = W (ixW (16 * w + l) (I (ixI t k)).toNat) := by
  subst hr
  show tabOf W (ixT (lstOf I (ixS t ((k + 32 * (w / 16)) % 96))).toNat (w % 16 / 8 % 2) ((16 * (w % 8) + l) % 128)) = _
  rw [lst_toNat I hI t _ ht (Nat.mod_lt _ (by decide))]
  have e1 : (k + 32 * (w / 16)) % 96 % 32 = k := by omega
  have e2 : (k + 32 * (w / 16)) % 96 / 32 = w / 16 := by omega
  rw [e1, e2, tab_at W _ _ _ _ (hI _) (by omega) (by omega) (by omega)]
  have e3 : 256 * (w / 16) + 128 * (w % 16 / 8 % 2) + (16 * (w % 8) + l) % 128 = 16 * w + l := by omega
  rw [e3]

theorem actV_at (A : S8192x32.Idx → F .f32) (t k : ℕ) (ht : t < 8192) (hk : k < 32) (l : S16.Idx) :
    actV (splG (actOf A) t) k l = A (ixI t k) := by
  show actOf A (ixC (32 * t + k % 32)) = _
  rw [Nat.mod_eq_of_lt hk, act_at A t k ht hk]

theorem rowV_at (W : S768x24576.Idx → F .f32) (I : S8192x32.Idx → BitVec 32) (hI : ∀ x, (I x).toNat < 24576)
    (t w k r : ℕ) (ht : t < 8192) (hw : w < 48) (hk : k < 32) (hr : r = k + 32 * (w / 16)) (l : S16.Idx) :
    rowV (gathG (tabOf W) (lstOf I) t) r (w % 16 / 8) (16 * (w % 8)) l = W (ixW (16 * w + (l 0).val) (I (ixI t k)).toNat) :=
  row_at W I hI t w k r (l 0).val ht hw hk hr (l 0).isLt

end Any

/-- Token `t`'s product at latent `k` and column `c`. -/
def prodAt (W : S768x24576.Idx → EReal) (A : S8192x32.Idx → EReal) (I : S8192x32.Idx → BitVec 32) (t c k : ℕ) : EReal :=
  A (ixI t k) * W (ixW c (I (ixI t k)).toNat)

theorem sumV_at (W : S768x24576.Idx → EReal) (A : S8192x32.Idx → EReal) (I : S8192x32.Idx → BitVec 32) (hI : ∀ x, (I x).toNat < 24576)
    (t w : ℕ) (ht : t < 8192) (hw : w < 48) (g : FVec Ideal S16 .f32) (l : S16.Idx) (n : ℕ) (hn : n ≤ 16) :
    sumV (F := Ideal) (splG (actOf A) t) (gathG (tabOf (F := Ideal) W) (lstOf I) t) w g n l
      = (g l + ∑ k ∈ Finset.range n, (prodAt W A I t (16 * w + (l 0).val) k + prodAt W A I t (16 * w + (l 0).val) (k + 16)) : EReal) := by
  induction n with
  | zero => simp [sumV]
  | succ n ih =>
    have e1 := actV_at (F := Ideal) A t n ht (by omega) l
    have e2 := actV_at (F := Ideal) A t (n + 16) ht (by omega) l
    have e3 := rowV_at (F := Ideal) W I hI t w n (n + 32 * (w / 16)) ht hw (by omega) rfl l
    have e4 := rowV_at (F := Ideal) W I hI t w (n + 16) (n + (32 * (w / 16) + 16)) ht hw (by omega) (by omega) l
    rw [Finset.sum_range_succ, ← add_assoc, ← ih (by omega)]
    show ((sumV (F := Ideal) (splG (actOf A) t) (gathG (tabOf (F := Ideal) W) (lstOf I) t) w g n l
        + actV (F := Ideal) (splG (actOf A) t) n l * rowV (F := Ideal) (gathG (tabOf (F := Ideal) W) (lstOf I) t) (n + 32 * (w / 16)) (w % 16 / 8) (16 * (w % 8)) l)
        + actV (F := Ideal) (splG (actOf A) t) (n + 16) l * rowV (F := Ideal) (gathG (tabOf (F := Ideal) W) (lstOf I) t) (n + (32 * (w / 16) + 16)) (w % 16 / 8) (16 * (w % 8)) l : EReal) = _
    rw [e1, e2, e3, e4, add_assoc]
    rfl

/-- The kernel's result: the bias and the 32 products. -/
theorem resV_at (W : S768x24576.Idx → EReal) (A : S8192x32.Idx → EReal) (I : S8192x32.Idx → BitVec 32) (hI : ∀ x, (I x).toNat < 24576)
    (b : S768.Idx → EReal) (x : S8192x768.Idx) :
    resV (F := Ideal) (tabOf (F := Ideal) W) (lstOf I) (actOf (F := Ideal) A) b x
      = (b (ixB (x 1).val) + ∑ k ∈ Finset.range 32, prodAt W A I (x 0).val (x 1).val k : EReal) := by
  have h0 : (x 0).val < 8192 := (x 0).isLt
  have h1 : (x 1).val < 768 := (x 1).isLt
  have e : 16 * ((x 1).val / 16) + (x 1).val % 16 = (x 1).val := by omega
  unfold resV
  rw [sumV_at W A I hI (x 0).val ((x 1).val / 16) h0 (by omega) _ (lane (x 1).val) 16 (by omega)]
  show (b (ixB (16 * ((x 1).val / 16) + (x 1).val % 16)) + ∑ k ∈ Finset.range 16,
    (prodAt W A I (x 0).val (16 * ((x 1).val / 16) + (x 1).val % 16) k + prodAt W A I (x 0).val (16 * ((x 1).val / 16) + (x 1).val % 16) (k + 16)) : EReal) = _
  rw [e, Finset.sum_add_distrib, show (32 : ℕ) = 16 + 16 from rfl, Finset.sum_range_add]
  congr 2

/-! ## The reference's side -/

/-- An index that is not negative is not moved. -/
theorem wrap_at (v : BitVec 32) (h : v.toNat < 24576) :
    Scalar.select (IntOp.cmpi .slt v 0#32) (IntOp.addi v 24576#32) v = v := by
  have : IntOp.cmpi .slt v 0#32 = 0#1 := by
    simp only [IntOp.cmpi, BitVec.slt_eq_decide, decide_eq_true_eq]
    have hv : v.toInt = v.toNat := by rw [BitVec.toInt_eq_toNat_cond, if_pos (by omega)]
    rw [hv, decide_eq_false (show ¬ ((v.toNat : ℤ) < (0#32 : BitVec 32).toInt) by rw [show (0#32 : BitVec 32).toInt = 0 from rfl]; omega)]; rfl
  rw [this]; rfl

/-- The index `(t, j, 0)` of the indices as the gather reads them. -/
def ixJ (t j : ℕ) : Cert.ReferenceIdeal.S8192x32x1.Idx
  | 0 => ⟨t % 8192, Nat.mod_lt _ (by decide)⟩
  | 1 => ⟨j % 32, Nat.mod_lt _ (by decide)⟩
  | 2 => ⟨0, Nat.one_pos⟩
  | ⟨_ + 3, h⟩ => absurd h (Nat.not_lt.2 (Nat.le_add_left _ _))

/-- The gather at `(t, j, c)`: the operand's row `idx[t, j]`, column `c`. -/
theorem gather_at (X : S24576x768.Idx → EReal) (J : IVec Cert.ReferenceIdeal.S8192x32x1 32) (y : Cert.ReferenceIdeal.S8192x32x768.Idx)
    (h : (J (ixJ (y 0).val (y 1).val)).toNat < 24576) :
    Host.gather Cert.ReferenceIdeal.gather_S24576x768_S8192x32x1_S8192x32x768_2_0_n_n_0_2_1768 X J y
      = X (ixWT (J (ixJ (y 0).val (y 1).val)).toNat (y 2).val) := by
  unfold Host.gather
  refine congrArg X (funext fun a => Fin.ext ?_)
  show (Cert.ReferenceIdeal.gather_S24576x768_S8192x32x1_S8192x32x768_2_0_n_n_0_2_1768).start y J a
    + (Cert.ReferenceIdeal.gather_S24576x768_S8192x32x1_S8192x32x768_2_0_n_n_0_2_1768).batchCoord y a
    + (Cert.ReferenceIdeal.gather_S24576x768_S8192x32x1_S8192x32x768_2_0_n_n_0_2_1768).offCoord y a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (Cert.ReferenceIdeal.gather_S24576x768_S8192x32x1_S8192x32x768_2_0_n_n_0_2_1768).startIndexMap from List.mem_singleton.mpr rfl)]
    have hsi : (Cert.ReferenceIdeal.gather_S24576x768_S8192x32x1_S8192x32x768_2_0_n_n_0_2_1768).siIdx y
        ⟨List.idxOf (0 : Fin 2) (Cert.ReferenceIdeal.gather_S24576x768_S8192x32x1_S8192x32x768_2_0_n_n_0_2_1768).startIndexMap,
          List.idxOf_lt_length_iff.2 (List.mem_singleton.mpr rfl)⟩ = ixJ (y 0).val (y 1).val := by
      funext b; refine Fin.ext ?_
      match b with
      | ⟨0, _⟩ => exact (Nat.mod_eq_of_lt (y 0).isLt).symm
      | ⟨1, _⟩ => exact (Nat.mod_eq_of_lt (y 1).isLt).symm
      | ⟨2, _⟩ => rfl
    rw [hsi]
    show min (J (ixJ (y 0).val (y 1).val)).toInt.toNat (24576 - 1) = (J (ixJ (y 0).val (y 1).val)).toNat % 24576
    rw [BitVec.toInt_eq_toNat_cond, if_pos (by omega)]
    omega
  · rw [GatherDims.batchCoord_eq_zero _ _ _ List.not_mem_nil]
    show 0 + 0 + (y 2).val = (y 2).val % 768
    have : (y 2).val < 768 := (y 2).isLt
    rw [Nat.mod_eq_of_lt this]; omega

/-- The sum over the middle axis at `(t, c)`. -/
theorem sum_at (X : Cert.ReferenceIdeal.S8192x32x768.Idx → EReal) (y : S8192x768.Idx) :
    Host.reduceAdd (F := Ideal) (φ := .f32) X (constant (F := Ideal) Cert.ReferenceIdeal.S_ .f32 0x00000000#32) Cert.ReferenceIdeal.Gen.facts.reducesTo_S8192x32x768_S8192x768_d1 Cert.ReferenceIdeal.Gen.facts.h_S_ y
      = ∑ k : Fin 32, X (fun | 0 => y 0 | 1 => k | 2 => y 1 | ⟨_ + 3, h⟩ => absurd h (Nat.not_lt.2 (Nat.le_add_left _ _))) := by
  have hR : Cert.ReferenceIdeal.S8192x32x768.Reduces [1] S8192x768 := by decide
  rw [ValueIdx.hostReduceAdd_apply, Ideal.hostReduceAdd_single _ hR]
  show Ideal.ofBits .f32 0x00000000#32 + _ = _
  rw [Ideal.ofBits_zero_f32, zero_add]
  refine Finset.sum_congr rfl fun k _ => congrArg X (funext fun a => ?_)
  match a with
  | 0 => rfl
  | 1 => rfl
  | 2 => rfl

/-- The indices as the reference gathers by them. -/
theorem idx_at (I : S8192x32.Idx → BitVec 32) (hI : ∀ x, (I x).toNat < 24576) (t j : ℕ) :
    broadcastInDim Cert.ReferenceIdeal.S8192x32x1 ![0, 1] Cert.ReferenceIdeal.Gen.facts.bcast_S8192x32_S8192x32x1_0_1
      (select (cmpi .slt I (broadcastInDim S8192x32 ![] Cert.ReferenceIdeal.Gen.facts.bcast_S_S8192x32 (constantI S_ 32 0#32)))
        (addi I (broadcastInDim S8192x32 ![] Cert.ReferenceIdeal.Gen.facts.bcast_S_S8192x32 (constantI S_ 32 24576#32))) I) (ixJ t j)
      = I (ixI t j) := by
  rw [broadcastInDim_apply _ _ _ _ (ixI t j) (by intro a; match a with | 0 => rfl | 1 => rfl)]
  exact wrap_at (I (ixI t j)) (hI _)

/-- The reference's result as it is spelt. -/
abbrev refT (W : S768x24576.Idx → EReal) (A : S8192x32.Idx → EReal) (I : S8192x32.Idx → BitVec 32) (b : S768.Idx → EReal) :
    S8192x768.Idx → EReal :=
  addf (F := Ideal) (φ := .f32) (Host.reduceAdd (F := Ideal) (φ := .f32) (mulf (F := Ideal) (φ := .f32)
    (broadcastInDim Cert.ReferenceIdeal.S8192x32x768 ![0, 1, 2] Cert.ReferenceIdeal.Gen.facts.bcast_S8192x32x1_S8192x32x768_0_1_2
      (broadcastInDim Cert.ReferenceIdeal.S8192x32x1 ![0, 1] Cert.ReferenceIdeal.Gen.facts.bcast_S8192x32_S8192x32x1_0_1 A))
    (Host.gather Cert.ReferenceIdeal.gather_S24576x768_S8192x32x1_S8192x32x768_2_0_n_n_0_2_1768
      (transpose S24576x768 [1, 0] W Cert.ReferenceIdeal.Gen.facts.transposes_S768x24576_S24576x768_1_0)
      (broadcastInDim Cert.ReferenceIdeal.S8192x32x1 ![0, 1] Cert.ReferenceIdeal.Gen.facts.bcast_S8192x32_S8192x32x1_0_1
        (select (cmpi .slt I (broadcastInDim S8192x32 ![] Cert.ReferenceIdeal.Gen.facts.bcast_S_S8192x32 (constantI S_ 32 0#32)))
          (addi I (broadcastInDim S8192x32 ![] Cert.ReferenceIdeal.Gen.facts.bcast_S_S8192x32 (constantI S_ 32 24576#32))) I))))
    (constant (F := Ideal) Cert.ReferenceIdeal.S_ .f32 0x00000000#32) Cert.ReferenceIdeal.Gen.facts.reducesTo_S8192x32x768_S8192x768_d1 Cert.ReferenceIdeal.Gen.facts.h_S_)
    (broadcastInDim S8192x768 ![0, 1] Cert.ReferenceIdeal.Gen.facts.bcast_S1x768_S8192x768_0_1
      (broadcastInDim Cert.ReferenceIdeal.S1x768 ![1] Cert.ReferenceIdeal.Gen.facts.bcast_S768_S1x768_1 b))

/-- The reference's result: the 32 products, and the bias. -/
theorem refT_at (W : S768x24576.Idx → EReal) (A : S8192x32.Idx → EReal) (I : S8192x32.Idx → BitVec 32) (hI : ∀ x, (I x).toNat < 24576)
    (b : S768.Idx → EReal) (x : S8192x768.Idx) :
    refT W A I b x = (∑ k : Fin 32, prodAt W A I (x 0).val (x 1).val k.val) + b (ixB (x 1).val) := by
  have h0 : (x 0).val < 8192 := (x 0).isLt
  have h1 : (x 1).val < 768 := (x 1).isLt
  refine congrArg₂ (fun u v : EReal => u + v) ?_ ?_
  · rw [sum_at]
    refine Finset.sum_congr rfl fun k _ => ?_
    show (broadcastInDim _ _ _ _ _ : EReal) * Host.gather _ _ _ _ = _
    rw [gather_at _ _ _ (by rw [idx_at I hI]; exact hI _), idx_at I hI]
    unfold prodAt
    congr 1
    · show A _ = A _
      refine congrArg A (funext fun a => ?_)
      match a with
      | 0 => exact Fin.ext (Nat.mod_eq_of_lt h0).symm
      | 1 => exact Fin.ext (Nat.mod_eq_of_lt k.isLt).symm
    · exact trans_at (F := Ideal) W _ _
  · show b _ = b _
    refine congrArg b (funext fun a => ?_)
    match a with
    | 0 => exact Fin.ext (Nat.mod_eq_of_lt h1).symm

theorem value_eq (W : S768x24576.Idx → EReal) (A : S8192x32.Idx → EReal) (I : S8192x32.Idx → BitVec 32) (hI : ∀ x, (I x).toNat < 24576)
    (b : S768.Idx → EReal) :
    resV (F := Ideal) (tabOf (F := Ideal) W) (lstOf I) (actOf (F := Ideal) A) b = refT W A I b := by
  funext x
  rw [resV_at W A I hI, refT_at W A I hI, add_comm, Finset.sum_range]

/-! ## The claims -/

theorem frame_reference : Cert.quiescent_ReferenceIdeal := fun m ρ _ =>
  (θ_run Cert.ReferenceIdeal.defs _ _).mono (fun r h => ⟨fun d => (h d).2, sem_eq_zero_of_no_sems (by decide) r.2⟩)
    (Cert.ReferenceIdeal.Value.run (F := Ideal) m ρ)

theorem frame_reference_pre : Cert.quiescent_ReferenceIdeal_pre_idx_in_range := fun m ρ _ => frame_reference m ρ trivial

theorem algebraic : Cert.algebraic_KernelIdeal_ReferenceIdeal := by
  intro m ρ m' ρ' hpre hargs
  refine ⟨fun d => RV m d, (θ_run Cert.KernelIdeal.defs _ _).mono (fun _ h d => h.1 d)
    (run_main (F := Ideal) m ρ fun d j => ok_of_pre _ _ _ _ (hpre d) j), ?_⟩
  refine (θ_run Cert.ReferenceIdeal.defs _ _).mono (fun r h d => ?_) (Cert.ReferenceIdeal.Value.run (F := Ideal) m' ρ')
  obtain ⟨h0, h1, h2, h3⟩ := hargs d
  refine ⟨(h d).1.trans ?_, (h d).2⟩
  rw [h0, h1, h2, h3]
  exact (value_eq _ _ _ (fun j => ok_of_pre _ _ _ _ (hpre d) j) _).symm

end Cert.Proof.Dec

end
-- ==== Proof.Dense.lean ====
/-
  The value against the scatter. A second reference puts each token's 32 activations into a row of zeros, each at its
  latent, and multiplies that row with the whole decoder. At the extended reals zero times anything is zero, so where
  the 32 latents of a token are different the product is the sum of the same 32 products as before.
-/
module

public import proofs.«01_k».proof.Proof.Value
public import proofs.«01_k».proof.Proof.Gen.Pre_idx_of_top_k
public import proofs.«01_k».proof.Proof.Gen.ScatteredIdeal
public import proofs.«01_k».proof.Proof.Gen.ScatteredIdeal.Run
public import Idealize.ShloMosaic.Lib.ScatterToDense.RefScatter
public import Idealize.ShloMosaic.Lib.Pointwise.Contract

@[expose] public section

noncomputable section

namespace Cert.Proof.Dec

open Cert.ScatteredIdeal Cert.ScatteredIdeal.Gen
open Idealize.ShloMosaic hiding ix1 ix2 ix3
open Idealize.ShloMosaic.ValueIdx (ix1 ix2 ix3)
open Idealize.ShloMosaic.ScatterToDense (GS GS_zero GS_succ scatter_eq_GS)
open Idealize.SL.Sem

/-! ## One row -/

/-- A row of zeros with `n` values put at different places, times a weight: the products of the values whose place it
    is. -/
theorem put_mul (word : ℕ → BitVec 32) (val : ℕ → EReal) (col : ℕ) (w : EReal) (n : ℕ)
    (hd : ∀ j < n, ∀ k < n, (word j).toNat = (word k).toNat → j = k) :
    GS word val 0 col n * w = ∑ k ∈ Finset.range n, if col = (word k).toNat then val k * w else 0 := by
  induction n with
  | zero => rw [GS_zero, zero_mul, Finset.sum_range_zero]
  | succ n ih =>
    have ih := ih fun j hj k hk => hd j (by omega) k (by omega)
    rw [GS_succ, Finset.sum_range_succ, ← ih]
    by_cases h : col = (word n).toNat
    · have z : GS word val 0 col n * w = 0 := by
        rw [ih]
        refine Finset.sum_eq_zero fun k hk => if_neg fun e => ?_
        have hk := Finset.mem_range.1 hk
        have := hd k (by omega) n (by omega) (e.symm.trans h)
        omega
      rw [if_pos h, if_pos h, z, zero_add]
    · rw [if_neg h, if_neg h, add_zero]

/-- The row times a column of weights: the sum of the values, each times the weight at its place. -/
theorem row_mul (word : ℕ → BitVec 32) (val w : ℕ → EReal) (n N : ℕ) (hw : ∀ k < n, (word k).toNat < N)
    (hd : ∀ j < n, ∀ k < n, (word j).toNat = (word k).toNat → j = k) :
    ∑ c : Fin N, GS word val 0 c.val n * w c.val = ∑ k ∈ Finset.range n, val k * w (word k).toNat := by
  rw [Finset.sum_congr rfl fun (c : Fin N) _ => put_mul word val c.val (w c.val) n hd, Finset.sum_comm]
  refine Finset.sum_congr rfl fun k hk => ?_
  have hk := hw k (Finset.mem_range.1 hk)
  rw [Finset.sum_eq_single (⟨(word k).toNat, hk⟩ : Fin N) (fun c _ hc => if_neg fun e => hc (Fin.ext e))
    (fun h => (h (Finset.mem_univ _)).elim)]
  exact if_pos rfl

/-! ## The array of zeros with the activations put in -/

/-- The pairs of a token and a latent, as the program spells them. -/
abbrev pairT (I : S8192x32.Idx → BitVec 32) : IVec S8192x32x2 32 :=
  concatenate S8192x32x2 2 [⟨S8192x32x1, (broadcastInDim S8192x32x1 ![0, 1] Cert.ScatteredIdeal.Gen.facts.bcast_S8192x32_S8192x32x1_0_1 (broadcastInDim S8192x32 ![0, 1] Cert.ScatteredIdeal.Gen.facts.bcast_S8192x1_S8192x32_0_1
    (select (cmpi .slt (broadcastInDim S8192x1 ![0] Cert.ScatteredIdeal.Gen.facts.bcast_S8192_S8192x1_0 (iotaInDim S8192 32 0)) (broadcastInDim S8192x1 ![] Cert.ScatteredIdeal.Gen.facts.bcast_S_S8192x1 (constantI S_ 32 0#32)))
      (addi (broadcastInDim S8192x1 ![0] Cert.ScatteredIdeal.Gen.facts.bcast_S8192_S8192x1_0 (iotaInDim S8192 32 0)) (broadcastInDim S8192x1 ![] Cert.ScatteredIdeal.Gen.facts.bcast_S_S8192x1 (constantI S_ 32 8192#32)))
      (broadcastInDim S8192x1 ![0] Cert.ScatteredIdeal.Gen.facts.bcast_S8192_S8192x1_0 (iotaInDim S8192 32 0)))))⟩,
    ⟨S8192x32x1, (broadcastInDim S8192x32x1 ![0, 1] Cert.ScatteredIdeal.Gen.facts.bcast_S8192x32_S8192x32x1_0_1
      (select (cmpi .slt I (broadcastInDim S8192x32 ![] Cert.ScatteredIdeal.Gen.facts.bcast_S_S8192x32 (constantI S_ 32 0#32)))
        (addi I (broadcastInDim S8192x32 ![] Cert.ScatteredIdeal.Gen.facts.bcast_S_S8192x32 (constantI S_ 32 24576#32))) I))⟩]
    Cert.ScatteredIdeal.Gen.facts.concatenates_S8192x32x1_S8192x32x1_S8192x32x2_d2

/-- A pair's token. -/
theorem pairT_token (I : S8192x32.Idx → BitVec 32) (i : Fin 8192) (k : Fin 32) :
    pairT I (ix3 i k (0 : Fin 2)) = BitVec.ofNat 32 i.val := by
  refine (concatenate_pair_apply_left (t := S8192x32x2) (s₁ := S8192x32x1) (s₂ := S8192x32x1) 2 _ _ _ (ix3 i k (0 : Fin 2)) rfl (ix3 i k (0 : Fin 1)) (by intro b; match b with | 0 => rfl | 1 => rfl | 2 => rfl)).trans ?_
  rw [broadcastInDim_apply _ _ _ _ (ix2 i k) (by intro a; match a with | 0 => rfl | 1 => rfl),
    broadcastInDim_apply _ _ _ _ (ix2 i (0 : Fin 1)) (by intro a; match a with | 0 => rfl | 1 => rfl)]
  exact Routing.wrap_of_lt (BitVec.ofNat 32 i.val) _ (by
    have := i.isLt
    rw [BitVec.toNat_ofNat, Nat.mod_eq_of_lt (by omega)]
    show i.val < 2 ^ 31
    omega)

/-- A pair's latent. -/
theorem pairT_latent (I : S8192x32.Idx → BitVec 32) (hI : ∀ x, (I x).toNat < 24576) (i : Fin 8192) (k : Fin 32) :
    pairT I (ix3 i k (1 : Fin 2)) = I (ixI i.val k.val) := by
  refine (concatenate_pair_apply_right (t := S8192x32x2) (s₁ := S8192x32x1) (s₂ := S8192x32x1) 2 _ _ _ (ix3 i k (1 : Fin 2)) rfl rfl (ix3 i k (0 : Fin 1))
    (by intro b hb; match b with | 0 => rfl | 1 => rfl | 2 => exact (hb rfl).elim) rfl).trans ?_
  rw [broadcastInDim_apply _ _ _ _ (ixI i.val k.val) (by
    intro a
    match a with
    | 0 => exact Nat.mod_eq_of_lt i.isLt
    | 1 => exact Nat.mod_eq_of_lt k.isLt)]
  exact wrap_at (I (ixI i.val k.val)) (hI _)

/-- The zeros with the activations put in, as the program spells them. -/
abbrev putT (A : S8192x32.Idx → EReal) (I : S8192x32.Idx → BitVec 32) : S8192x24576.Idx → EReal :=
  Host.scatter scatter_S8192x24576_S8192x32x2_S8192x32_n_01_01_2 (fun _ b => b)
    (broadcastInDim S8192x24576 ![] Cert.ScatteredIdeal.Gen.facts.bcast_S_S8192x24576 (constant (F := Ideal) S_ .f32 0x00000000#32)) (pairT I) A

theorem putT_at (A : S8192x32.Idx → EReal) (I : S8192x32.Idx → BitVec 32) (hI : ∀ x, (I x).toNat < 24576) (t : Fin 8192) (c : Fin 24576) :
    putT A I (ix2 t c) = GS (fun k => I (ixI t.val k)) (fun k => A (ixI t.val k)) 0 c.val 32 := by
  refine (scatter_eq_GS scatter_S8192x24576_S8192x32x2_S8192x32_n_01_01_2 rfl rfl rfl (by decide) (by decide) _ (pairT I) A
    (fun t k => I (ixI t.val k)) (fun t k => A (ixI t.val k)) (pairT_token I) (pairT_latent I hI) (fun i k => ?_) t c).trans ?_
  · refine congrArg A (funext fun a => ?_)
    match a with
    | 0 => exact Fin.ext (Nat.mod_eq_of_lt i.isLt).symm
    | 1 => exact Fin.ext (Nat.mod_eq_of_lt k.isLt).symm
  · exact congrArg (fun z => GS _ _ z c.val 32) Ideal.ofBits_zero_f32

/-! ## The product -/

/-- The second reference's result as it is spelt. -/
abbrev denseT (W : S768x24576.Idx → EReal) (A : S8192x32.Idx → EReal) (I : S8192x32.Idx → BitVec 32) (b : S768.Idx → EReal) :
    S8192x768.Idx → EReal :=
  addf (F := Ideal) (φ := .f32) (Host.dotGeneral (F := Ideal) (φ₁ := .f32) (φ₂ := .f32) dot_S8192x24576_S24576x768_S8192x768_1_0_0_1_n_n none (putT A I)
    (transpose S24576x768 [1, 0] W Cert.ScatteredIdeal.Gen.facts.transposes_S768x24576_S24576x768_1_0))
    (broadcastInDim S8192x768 ![0, 1] Cert.ScatteredIdeal.Gen.facts.bcast_S1x768_S8192x768_0_1 (broadcastInDim S1x768 ![1] Cert.ScatteredIdeal.Gen.facts.bcast_S768_S1x768_1 b))

/-- The whole product at `(t, c)`. -/
theorem dot_at (X : S8192x24576.Idx → EReal) (Y : S24576x768.Idx → EReal) (y : S8192x768.Idx) :
    Host.dotGeneral (F := Ideal) (φ₁ := .f32) (φ₂ := .f32) dot_S8192x24576_S24576x768_S8192x768_1_0_0_1_n_n none X Y y
      = ∑ k : Fin 24576, X (ix2 (⟨(y 0).val, (y 0).isLt⟩ : Fin 8192) k) * Y (ixWT k.val (y 1).val) := by
  show FloatOps.dotGeneral (F := Ideal) (φ₁ := .f32) (φ₂ := .f32) _ _ _ X Y y = _
  rw [Ideal.dotGeneral_def,
    Ideal.matmul_apply₁_of _ (rfl : (dot_S8192x24576_S24576x768_S8192x768_1_0_0_1_n_n).lhsContracting = [1]) (rfl : S8192x24576.size 1 = 24576) X Y _ y
      (fun k => ix2 (⟨(y 0).val, (y 0).isLt⟩ : Fin 8192) k) (fun k => ixWT k.val (y 1).val)
      (fun k => by funext a; match a with | 0 => rfl | 1 => rfl)
      (fun k => by
        funext a
        match a with
        | 0 => exact Fin.ext (Nat.mod_eq_of_lt k.isLt).symm
        | 1 => exact Fin.ext (Nat.mod_eq_of_lt (y 1).isLt).symm)]
  exact zero_add _

/-- The second reference's result, where the latents of a token are different: the 32 products, and the bias. -/
theorem denseT_at (W : S768x24576.Idx → EReal) (A : S8192x32.Idx → EReal) (I : S8192x32.Idx → BitVec 32) (hI : ∀ x, (I x).toNat < 24576)
    (hd : ∀ t, ∀ j < 32, ∀ k < 32, I (ixI t j) = I (ixI t k) → j = k) (b : S768.Idx → EReal) (x : S8192x768.Idx) :
    denseT W A I b x = (∑ k : Fin 32, prodAt W A I (x 0).val (x 1).val k.val) + b (ixB (x 1).val) := by
  have h1 : (x 1).val < 768 := (x 1).isLt
  refine congrArg₂ (fun u v : EReal => u + v) ?_ ?_
  · rw [dot_at, ← Finset.sum_range (fun k => prodAt W A I (x 0).val (x 1).val k)]
    refine Eq.trans (Finset.sum_congr rfl fun (k : Fin 24576) _ => ?_)
      (row_mul (fun k => I (ixI (x 0).val k)) (fun k => A (ixI (x 0).val k)) (fun s => W (ixW (x 1).val s)) 32 24576
        (fun k _ => hI _) (fun j hj k hk e => hd _ j hj k hk (BitVec.eq_of_toNat_eq e)))
    rw [putT_at A I hI]
    exact congrArg _ (trans_at (F := Ideal) W k.val (x 1).val)
  · show b _ = b _
    refine congrArg b (funext fun a => ?_)
    match a with
    | 0 => exact Fin.ext (Nat.mod_eq_of_lt h1).symm

theorem dense_eq (W : S768x24576.Idx → EReal) (A : S8192x32.Idx → EReal) (I : S8192x32.Idx → BitVec 32) (hI : ∀ x, (I x).toNat < 24576)
    (hd : ∀ t, ∀ j < 32, ∀ k < 32, I (ixI t j) = I (ixI t k) → j = k) (b : S768.Idx → EReal) :
    resV (F := Ideal) (tabOf (F := Ideal) W) (lstOf I) (actOf (F := Ideal) A) b = denseT W A I b := by
  funext x
  rw [value_eq W A I hI, refT_at W A I hI, denseT_at W A I hI hd]

/-! ## What the precondition says -/

section Pre

variable {F : FTy → Type} [FloatOps F]

theorem pre_at (W : FVec F S768x24576 .f32) (A : FVec F S8192x32 .f32) (I : IVec S8192x32 32) (b : FVec F S768 .f32)
    (h : Pre_idx_of_top_k.fn (F := F) W A I b = fun _ => 1#1) (t : Fin 8192) (j k : Fin 32) :
    (I (ix2 t j)).toNat < 24576 ∧ (I (ix2 t j) = I (ix2 t k) → j = k) := by
  have andi_ofBool (p q : Bool) : IntOp.andi (BitVec.ofBool p) (BitVec.ofBool q) = BitVec.ofBool (p && q) := by
    cases p <;> cases q <;> decide
  have ofBool_one (p : Bool) : (BitVec.ofBool p = 1#1) ↔ p = true := by cases p <;> decide
  have e := congrFun h (ix3 t j k)
  simp only [Pre_idx_of_top_k.fn, Pre_idx_of_top_k.fn_part1, andi, ori, noti, cmpi] at e
  have first : ∀ {α : Type} (X : S8192x32.Idx → α), broadcastInDim Pre_idx_of_top_k.S8192x32x32 ![0, 1, 2] Pre_idx_of_top_k.Gen.facts.bcast_S8192x32x1_S8192x32x32_0_1_2
      (broadcastInDim Pre_idx_of_top_k.S8192x32x1 ![0, 1] Pre_idx_of_top_k.Gen.facts.bcast_S8192x32_S8192x32x1_0_1 X) (ix3 t j k) = X (ix2 t j) := fun X => by
    rw [broadcastInDim_apply _ _ _ _ (ix3 t j (0 : Fin 1)) (by intro a; match a with | 0 => rfl | 1 => rfl | 2 => rfl),
      broadcastInDim_apply _ _ _ _ (ix2 t j) (by intro a; match a with | 0 => rfl | 1 => rfl)]
  have second : broadcastInDim Pre_idx_of_top_k.S8192x32x32 ![0, 1, 2] Pre_idx_of_top_k.Gen.facts.bcast_S8192x1x32_S8192x32x32_0_1_2
      (broadcastInDim Pre_idx_of_top_k.S8192x1x32 ![0, 2] Pre_idx_of_top_k.Gen.facts.bcast_S8192x32_S8192x1x32_0_2 I) (ix3 t j k) = I (ix2 t k) := by
    rw [broadcastInDim_apply _ _ _ _ (ix3 t (0 : Fin 1) k) (by intro a; match a with | 0 => rfl | 1 => rfl | 2 => rfl),
      broadcastInDim_apply _ _ _ _ (ix2 t k) (by intro a; match a with | 0 => rfl | 1 => rfl)]
  have third : ∀ (X : Pre_idx_of_top_k.S32x32.Idx → BitVec 1), broadcastInDim Pre_idx_of_top_k.S8192x32x32 ![0, 1, 2] Pre_idx_of_top_k.Gen.facts.bcast_S1x32x32_S8192x32x32_0_1_2
      (broadcastInDim Pre_idx_of_top_k.S1x32x32 ![1, 2] Pre_idx_of_top_k.Gen.facts.bcast_S32x32_S1x32x32_1_2 X) (ix3 t j k) = X (ix2 j k) := fun X => by
    rw [broadcastInDim_apply _ _ _ _ (ix3 (0 : Fin 1) j k) (by intro a; match a with | 0 => rfl | 1 => rfl | 2 => rfl),
      broadcastInDim_apply _ _ _ _ (ix2 j k) (by intro a; match a with | 0 => rfl | 1 => rfl)]
  have row : broadcastInDim Pre_idx_of_top_k.S32x32 ![0, 1] Pre_idx_of_top_k.Gen.facts.bcast_S32x1_S32x32_0_1
      (broadcastInDim Pre_idx_of_top_k.S32x1 ![0] Pre_idx_of_top_k.Gen.facts.bcast_S32_S32x1_0 (iotaInDim Pre_idx_of_top_k.S32 32 0)) (ix2 j k) = BitVec.ofNat 32 j.val := by
    rw [broadcastInDim_apply _ _ _ _ (ix2 j (0 : Fin 1)) (by intro a; match a with | 0 => rfl | 1 => rfl),
      broadcastInDim_apply _ _ _ _ (ix1 j) (by intro a; match a with | 0 => rfl)]
    rfl
  have col : broadcastInDim Pre_idx_of_top_k.S32x32 ![0, 1] Pre_idx_of_top_k.Gen.facts.bcast_S1x32_S32x32_0_1
      (broadcastInDim Pre_idx_of_top_k.S1x32 ![1] Pre_idx_of_top_k.Gen.facts.bcast_S32_S1x32_1 (iotaInDim Pre_idx_of_top_k.S32 32 0)) (ix2 j k) = BitVec.ofNat 32 k.val := by
    rw [broadcastInDim_apply _ _ _ _ (ix2 (0 : Fin 1) k) (by intro a; match a with | 0 => rfl | 1 => rfl),
      broadcastInDim_apply _ _ _ _ (ix1 k) (by intro a; match a with | 0 => rfl)]
    rfl
  rw [first, third, first, second] at e
  simp only [andi, cmpi, row, col] at e
  have ori_ofBool (p q : Bool) : IntOp.ori (BitVec.ofBool p) (BitVec.ofBool q) = BitVec.ofBool (p || q) := by
    cases p <;> cases q <;> decide
  have not_ofBool (p : Bool) : ~~~(BitVec.ofBool p) = BitVec.ofBool (!p) := by cases p <;> decide
  have := j.isLt
  have := k.isLt
  simp only [broadcastInDim, constantI, IntOp.cmpi, andi_ofBool, ori_ofBool, not_ofBool, ofBool_one, Bool.and_eq_true, Bool.or_eq_true, BitVec.sle_eq_decide,
    BitVec.slt_eq_decide, decide_eq_true_eq, BitVec.toInt_eq_toNat_cond, BitVec.toNat_ofNat, Nat.reducePow, Nat.reduceMod] at e
  refine ⟨?_, fun q => Fin.ext ?_⟩
  · have := (I (ix2 t j)).isLt
    omega
  · rcases e.2 with n | n
    · rw [q] at n
      simp at n
    · have n := congrArg BitVec.toNat (by simpa using n : BitVec.ofNat 32 j.val = BitVec.ofNat 32 k.val)
      rw [BitVec.toNat_ofNat, BitVec.toNat_ofNat] at n
      omega

/-- The bare range. -/
theorem range_of_top_k (W : FVec F S768x24576 .f32) (A : FVec F S8192x32 .f32) (I : IVec S8192x32 32) (b : FVec F S768 .f32)
    (h : Pre_idx_of_top_k.fn (F := F) W A I b = fun _ => 1#1) (x : S8192x32.Idx) : (I x).toNat < 24576 := by
  rw [ValueIdx.eq_ix2 x]
  exact (pre_at W A I b h (x 0) (x 1) (x 1)).1

/-- The latents of a token are different. -/
theorem distinct_of_top_k (W : FVec F S768x24576 .f32) (A : FVec F S8192x32 .f32) (I : IVec S8192x32 32) (b : FVec F S768 .f32)
    (h : Pre_idx_of_top_k.fn (F := F) W A I b = fun _ => 1#1) (t : ℕ) :
    ∀ j < 32, ∀ k < 32, I (ixI t j) = I (ixI t k) → j = k := by
  intro j hj k hk e
  have put : ∀ n (hn : n < 32), ixI t n = ix2 (⟨t % 8192, Nat.mod_lt _ (by decide)⟩ : Fin 8192) (⟨n, hn⟩ : Fin 32) := fun n hn => by
    funext a
    match a with
    | 0 => rfl
    | 1 => exact Fin.ext (Nat.mod_eq_of_lt hn)
  rw [put j hj, put k hk] at e
  exact congrArg Fin.val ((pre_at W A I b h _ _ _).2 e)

end Pre

/-! ## The claims -/

theorem frame_ideal_top_k : Cert.quiescent_KernelIdeal_pre_idx_of_top_k := fun m ρ hpre =>
  (θ_run Cert.KernelIdeal.defs _ _).mono (fun _ h => ⟨fun d => (h.1 d).2, h.2⟩)
    (run_main (F := Ideal) m ρ fun d j => range_of_top_k _ _ _ _ (hpre d) j)

theorem frame_scattered : Cert.quiescent_ScatteredIdeal := fun m ρ _ =>
  (θ_run Cert.ScatteredIdeal.defs _ _).mono (fun r h => ⟨fun d => (h d).2, sem_eq_zero_of_no_sems (by decide) r.2⟩)
    (Cert.ScatteredIdeal.Value.run (F := Ideal) m ρ)

theorem frame_scattered_pre : Cert.quiescent_ScatteredIdeal_pre_idx_of_top_k := fun m ρ _ => frame_scattered m ρ trivial

theorem algebraic_scattered : Cert.algebraic_KernelIdeal_ScatteredIdeal_pre_idx_of_top_k := by
  intro m ρ m' ρ' hpre hargs
  refine ⟨fun d => RV m d, (θ_run Cert.KernelIdeal.defs _ _).mono (fun _ h d => h.1 d)
    (run_main (F := Ideal) m ρ fun d j => range_of_top_k _ _ _ _ (hpre d) j), ?_⟩
  refine (θ_run Cert.ScatteredIdeal.defs _ _).mono (fun r h d => ?_) (Cert.ScatteredIdeal.Value.run (F := Ideal) m' ρ')
  obtain ⟨h0, h1, h2, h3⟩ := hargs d
  refine ⟨(h d).1.trans ?_, (h d).2⟩
  rw [h0, h1, h2, h3]
  exact (dense_eq _ _ _ (fun j => range_of_top_k _ _ _ _ (hpre d) j) (fun t => distinct_of_top_k _ _ _ _ (hpre d) t) _).symm

end Cert.Proof.Dec

end
-- ==== Proof.Encode.lean ====
/-
  The encoder: each token's 24576 activations, and the greatest of every 128 of them.
-/
module

public import proofs.«01_k».proof.Proof.Gen.Encode.Frame
public import proofs.«01_k».proof.Proof.Gen.EncodeIdeal.Frame
public import proofs.«01_k».proof.Proof.Gen.EncodedIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Proof.Enc

open Cert.EncodeIdeal Cert.EncodeIdeal.Gen
open Idealize.ShloMosaic
open Idealize.SL.Sem

variable (m : (ℓ : Loc nD τ sig) → Buf (Elt Ideal) ℓ) (c : Dev nD)

/-- The activation of token `t` at latent `s`. -/
def preAt (X : S32768x768.Idx → EReal) (W : S24576x768.Idx → EReal) (b : S24576.Idx → EReal) (t : Fin 32768) (s : Fin 24576) : EReal :=
  (∑ k : Fin 768, X (ix2 t k) * W (ix2 s k)) + b (ix1 s)

def preV (X : S32768x768.Idx → EReal) (W : S24576x768.Idx → EReal) (b : S24576.Idx → EReal) : S32768x24576.Idx → EReal :=
  fun y => preAt X W b (y 0) (y 1)

/-- The places of the five blocks of a grid point. -/
theorem idx : ∀ t : Fin cfg0.N, win0_0.index t = ![t.val % 64, 0] ∧ win0_1.index t = ![t.val / 64, 0] ∧ win0_2.index t = ![0, t.val / 64]
    ∧ win0_3.index t = ![t.val % 64, t.val / 64] ∧ win0_4.index t = ![t.val / 64, t.val % 64] :=
  (by decide +kernel : ∀ t : Fin grid0.N, win0_0.index t = ![t.val % 64, 0] ∧ win0_1.index t = ![t.val / 64, 0] ∧ win0_2.index t = ![0, t.val / 64]
    ∧ win0_3.index t = ![t.val % 64, t.val / 64] ∧ win0_4.index t = ![t.val / 64, t.val % 64])

/-- One block of activations, at an element: the activation of its token at its latent. -/
theorem block_at (t : Fin cfg0.N) (y : S512x3072.Idx) :
    k0_pay1 (F := Ideal) (iblk m c 0 t) (iblk m c 1 t) (iblk m c 2 t) y
      = preAt (m (c.tc.loc main_arg0)) (m (c.tc.loc main_arg1)) (m (c.tc.loc main_arg2))
          ⟨t.val % 64 * 512 + (y 0).val, by have : (y 0).val < 512 := (y 0).isLt; omega⟩
          ⟨t.val / 64 * 3072 + (y 1).val, by have : (y 1).val < 3072 := (y 1).isLt; have : t.val < 512 := t.isLt; omega⟩ := by
  unfold k0_pay1 preAt
  pointwise
  blk_point [iblk, V, idx t]

theorem pre_array : (dats m 0 c).arrAt 3 (cfgs 0).N = preV (m (c.tc.loc main_arg0)) (m (c.tc.loc main_arg1)) (m (c.tc.loc main_arg2)) := by
  refine (dats m 0 c).arrAt_eq_of_covers 3 _ (by decide +kernel) fun t hf y => ?_
  blk_simp
  rw [after0_3]
  frame_out
  rw [block_at]
  refine congrArg₂ (preAt _ _ _) (Fin.ext ?_) (Fin.ext ?_)
  · blk_simp [idx t]
  · blk_simp [idx t]

/-- The greatest activation of token `t` among the 128 latents of chunk `j`. -/
def maxAt (X : S32768x768.Idx → EReal) (W : S24576x768.Idx → EReal) (b : S24576.Idx → EReal) (j : Fin 192) (t : Fin 32768) : EReal :=
  Finset.fold max (Ideal.ofBits FTy.f32 0xFF800000#32) (fun k : Fin 128 => preAt X W b t ⟨j.val * 128 + k.val, by omega⟩) Finset.univ

def maxV (X : S32768x768.Idx → EReal) (W : S24576x768.Idx → EReal) (b : S24576.Idx → EReal) : S192x32768.Idx → EReal :=
  fun y => maxAt X W b (y 0) (y 1)

theorem max_array : (dats m 0 c).arrAt 4 (cfgs 0).N = maxV (m (c.tc.loc main_arg0)) (m (c.tc.loc main_arg1)) (m (c.tc.loc main_arg2)) := by
  refine (dats m 0 c).arrAt_eq_of_covers 4 _ (by decide +kernel) fun t hf y => ?_
  blk_simp
  rw [after0_4]
  frame_out
  unfold k0_pay2 maxV maxAt
  pointwise
  refine Finset.fold_congr fun k _ => ?_
  rw [block_at]
  refine congrArg₂ (preAt _ _ _) (Fin.ext ?_) (Fin.ext ?_)
  · blk_simp [idx t]
  · blk_simp [idx t]
    show t.val / 64 * 3072 + ((y 0).val * 128 + k.val) = (t.val / 64 * 24 + (y 0).val) * 128 + k.val
    omega

open Cert.EncodedIdeal Cert.EncodedIdeal.Gen in
theorem ref_pre (X : EncodedIdeal.S32768x768.Idx → EReal) (W : EncodedIdeal.S24576x768.Idx → EReal) (b : EncodedIdeal.S24576.Idx → EReal) :
    addf (F := Ideal) (φ := .f32) (Host.dotGeneral (F := Ideal) (φ₁ := .f32) (φ₂ := .f32) dot_S32768x768_S768x24576_S32768x24576_1_0_0_1_n_n none X (transpose EncodedIdeal.S768x24576 [1, 0] W transposes_S24576x768_S768x24576_1_0)) (broadcastInDim EncodedIdeal.S32768x24576 ![0, 1] bcast_S1x24576_S32768x24576_0_1 (broadcastInDim EncodedIdeal.S1x24576 ![1] bcast_S24576_S1x24576_1 b)) = preV X W b := by
  funext y
  unfold preV preAt
  pointwise

open Cert.EncodedIdeal Cert.EncodedIdeal.Gen in
theorem ref_max (X : EncodedIdeal.S32768x768.Idx → EReal) (W : EncodedIdeal.S24576x768.Idx → EReal) (b : EncodedIdeal.S24576.Idx → EReal) :
    transpose EncodedIdeal.S192x32768 [1, 0] (Host.reduce (FloatOps.maximumf (F := Ideal) (φ := .f32)) (shapeCast EncodedIdeal.S32768x192x128 (preV X W b : EncodedIdeal.S32768x24576.Idx → EReal) shapeCasts_S32768x24576_S32768x192x128) (constant (F := Ideal) EncodedIdeal.S_ .f32 0xFF800000#32) reducesTo_S32768x192x128_S32768x192_d2 h_S_) transposes_S32768x192_S192x32768_1_0 = maxV X W b := by
  funext y
  unfold maxV maxAt preV
  pointwise

/-! ## The claims -/

/-- The run: the two arrays, and the arguments as they were. -/
theorem run (ρ : Dev nD → PrngReg) : θ_run defs (onTc (τ := τ) (main (F := Ideal))) ⟨m, fun _ => 0, ρ⟩ fun r => ∀ c : Dev nD,
    r.2.mem (c.tc.loc main_v1_0) = preV (m (c.tc.loc main_arg0)) (m (c.tc.loc main_arg1)) (m (c.tc.loc main_arg2))
      ∧ r.2.mem (c.tc.loc main_v1_1) = maxV (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun _ h c => ⟨((h.1 c).1 3).trans (pre_array m c), ((h.1 c).1 4).trans (max_array m c), h.2.1 c⟩)
    (θ_run_and (run_main m ρ) (Cert.EncodeIdeal.Gen.frame m ρ))

theorem frame_kernel : Cert.quiescent_Encode := fun m ρ _ => Cert.Encode.Gen.frame (F := Bits) m ρ

theorem frame_ideal : Cert.quiescent_EncodeIdeal := fun m ρ _ => Cert.EncodeIdeal.Gen.frame (F := Ideal) m ρ

theorem frame_reference : Cert.quiescent_EncodedIdeal := fun m ρ _ =>
  (θ_run Cert.EncodedIdeal.defs _ _).mono (fun r h => ⟨fun d => (h d).2.2, sem_eq_zero_of_no_sems (by decide) r.2⟩)
    (Cert.EncodedIdeal.Value.run (F := Ideal) m ρ)

theorem algebraic : Cert.algebraic_EncodeIdeal_EncodedIdeal := by
  intro m ρ m' ρ' _ hargs
  refine ⟨_, _, run m ρ, ?_⟩
  refine (θ_run Cert.EncodedIdeal.defs _ _).mono (fun r h d => ?_) (Cert.EncodedIdeal.Value.run (F := Ideal) m' ρ')
  obtain ⟨h0, h1, h2⟩ := hargs d
  refine ⟨(h d).1.trans ?_, (h d).2.1.trans ?_, (h d).2.2⟩
  · rw [h0, h1, h2]
    exact ref_pre _ _ _
  · rw [h0, h1, h2, ref_pre]
    exact ref_max _ _ _

end Cert.Proof.Enc

end
-- ==== Proof.Pick.lean ====
/-
  Picking the greatest entries one by one: values with a number at each, of the entries that come
  after the last pick the greatest value, and of the entries of that value the least number.  Done
  over and over, this reads off the first entries of the list sorted by value downwards and by number
  upwards.
-/
module

public import Idealize.ShloMosaic.Lib.SortFacts
public import Idealize.ShloMosaic.Lib.SortPrefix
public import Idealize.ShloMosaic.Lib.SortNet.Extract
public import Idealize.ShloMosaic.Lib.Exec.Context
public import Idealize.ShloMosaic.Lib.Pointwise

@[expose] public section

noncomputable section

namespace Cert.Proof.Pick

open Idealize.ShloMosaic

/-- The entry `(u, i)` comes after `(p, q)`: its value is less, or the same with a greater number. -/
def After (p : EReal) (q : BitVec 32) (u : EReal) (i : BitVec 32) : Prop := u < p ∨ (u = p ∧ q.toInt < i.toInt)

theorem after_irrefl (p : EReal) (q : BitVec 32) : ¬ After p q p q := by
  rintro (h | ⟨-, h⟩)
  · exact lt_irrefl _ h
  · exact lt_irrefl _ h

theorem after_or (p : EReal) (q : BitVec 32) (u : EReal) (i : BitVec 32) (h : ¬ After u i p q) :
    u < p ∨ (u = p ∧ q.toInt ≤ i.toInt) := by
  rcases lt_trichotomy u p with l | l | l
  · exact Or.inl l
  · exact Or.inr ⟨l, not_lt.mp fun k => h (Or.inr ⟨l.symm, k⟩)⟩
  · exact absurd (Or.inl l) h

theorem not_after_trans (p : EReal) (q : BitVec 32) (u : EReal) (i : BitVec 32) (x : EReal) (j : BitVec 32)
    (h : ¬ After p q u i) (k : ¬ After u i x j) : ¬ After p q x j := by
  rcases after_or _ _ _ _ h with h | ⟨h, h'⟩ <;> rcases after_or _ _ _ _ k with k | ⟨k, k'⟩ <;> rintro (l | ⟨l, l'⟩)
  · exact lt_asymm (h.trans k) l
  · exact absurd (h.trans k) (by rw [l]; exact lt_irrefl _)
  · exact lt_asymm (k ▸ h) l
  · exact absurd h (by rw [k, l]; exact lt_irrefl _)
  · exact lt_asymm (h ▸ k) l
  · exact absurd k (by rw [l, h]; exact lt_irrefl _)
  · exact absurd l (by rw [← k, ← h]; exact lt_irrefl _)
  · omega

/-- The kernel's way of keeping an entry that comes after the last pick. -/
theorem select_after (p : EReal) (q : BitVec 32) (u : EReal) (i : BitVec 32) (x y : EReal)
    (d : Decidable (u < p)) (d' : Decidable (u = p)) (d'' : Decidable (After p q u i)) :
    Scalar.select (IntOp.ori (BitVec.ofBool (@decide (u < p) d))
      (IntOp.andi (BitVec.ofBool (@decide (u = p) d')) (IntOp.cmpi .sgt i q))) x y
      = @ite _ (After p q u i) d'' x y := by
  have e : IntOp.ori (BitVec.ofBool (@decide (u < p) d))
      (IntOp.andi (BitVec.ofBool (@decide (u = p) d')) (IntOp.cmpi .sgt i q))
      = BitVec.ofBool (@decide (After p q u i) d'') := by
    have s : q.slt i = decide (q.toInt < i.toInt) := rfl
    unfold After IntOp.cmpi
    dsimp only
    rw [s]
    by_cases h : u < p <;> by_cases k : u = p <;> by_cases l : q.toInt < i.toInt <;> simp [h, k, l, IntOp.ori, IntOp.andi]
  rw [e]
  unfold Scalar.select
  by_cases h : After p q u i <;> simp [h]

section round

variable {n : ℕ} (v : Fin n → EReal) (w : Fin n → BitVec 32)

open Classical in
/-- The entries that come after the last pick; minus infinity in the place of the others. -/
def kept (p : EReal) (q : BitVec 32) (e : Fin n) : EReal := if After p q (v e) (w e) then v e else ⊥

/-- The greatest value of the entries kept. -/
def best (p : EReal) (q : BitVec 32) : EReal := Finset.fold max ⊥ (kept v w p q) Finset.univ

open Classical in
/-- The least number of the entries of that value. -/
def bestAt (big : BitVec 32) (p : EReal) (q : BitVec 32) : BitVec 32 :=
  Finset.fold IntOp.minsi (2147483647#32) (fun e => if kept v w p q e = best v w p q then w e else big) Finset.univ

theorem toInt_fold (f : Fin n → BitVec 32) :
    (Finset.fold IntOp.minsi (2147483647#32) f Finset.univ).toInt
      = Finset.fold min (2147483647 : ℤ) (fun e => (f e).toInt) Finset.univ := by
  have h := Finset.fold_hom (op := IntOp.minsi (w := 32)) (op' := (min : ℤ → ℤ → ℤ)) (m := BitVec.toInt)
    (f := f) (b := 2147483647#32) (s := Finset.univ) (fun x y => SortNet.toInt_minsi x y)
  rw [← h]
  rfl

variable {v w} {p : EReal} {q : BitVec 32} {P : EReal} {Q : BitVec 32}

theorem kept_le (h : ∀ e, After p q (v e) (w e) → v e < P ∨ (v e = P ∧ Q.toInt ≤ (w e).toInt)) (e : Fin n) :
    kept v w p q e ≤ P := by
  unfold kept
  split
  · rename_i k
    rcases h e k with l | ⟨l, -⟩
    · exact l.le
    · exact l.le
  · exact bot_le

theorem best_eq (h0 : ∃ e, v e = P ∧ w e = Q) (h1 : After p q P Q)
    (h : ∀ e, After p q (v e) (w e) → v e < P ∨ (v e = P ∧ Q.toInt ≤ (w e).toInt)) : best v w p q = P := by
  obtain ⟨e, he, hw⟩ := h0
  refine le_antisymm ((Finset.fold_max_le _).mpr ⟨bot_le, fun e _ => kept_le h e⟩)
    ((Finset.le_fold_max _).mpr (Or.inr ⟨e, Finset.mem_univ _, ?_⟩))
  unfold kept
  rw [he, hw, if_pos h1]

theorem bestAt_eq {big : BitVec 32} (h0 : ∃ e, v e = P ∧ w e = Q) (h1 : After p q P Q)
    (h : ∀ e, After p q (v e) (w e) → v e < P ∨ (v e = P ∧ Q.toInt ≤ (w e).toInt))
    (hb : ⊥ < P) (hq : Q.toInt ≤ big.toInt) : bestAt v w big p q = Q := by
  apply BitVec.eq_of_toInt_eq
  unfold bestAt
  rw [toInt_fold, best_eq h0 h1 h]
  obtain ⟨e, he, hw⟩ := h0
  have top : Q.toInt ≤ 2147483647 := by
    have := BitVec.toInt_lt (x := Q)
    omega
  refine le_antisymm ((Finset.fold_min_le _).mpr (Or.inr ⟨e, Finset.mem_univ _, ?_⟩))
    ((Finset.le_fold_min _).mpr ⟨top, fun e _ => ?_⟩)
  · unfold kept
    rw [he, hw, if_pos h1, if_pos rfl]
  · split
    · rename_i k
      unfold kept at k
      split at k
      · rename_i l
        rcases h e l with t | ⟨-, t⟩
        · exact absurd k t.ne
        · exact t
      · exact absurd k hb.ne
    · exact hq

end round

/-- The first 32 of the entries in order, greatest value first and of equal values least number first. -/
structure Leads {n : ℕ} (v : Fin n → EReal) (w : Fin n → BitVec 32) (big : BitVec 32) (P : ℕ → EReal) (Q : ℕ → BitVec 32) :
    Prop where
  mem : ∀ k < 32, ∃ e, v e = P k ∧ w e = Q k
  above : ∀ k < 32, ⊥ < P k
  small : ∀ k < 32, (Q k).toInt ≤ big.toInt
  start : 0 ≤ (Q 0).toInt
  step : ∀ k, k + 1 < 32 → After (P k) (Q k) (P (k + 1)) (Q (k + 1))
  least : ∀ e, v e < P 0 ∨ (v e = P 0 ∧ (Q 0).toInt ≤ (w e).toInt)
  next : ∀ k, k + 1 < 32 → ∀ e, After (P k) (Q k) (v e) (w e) →
    v e < P (k + 1) ∨ (v e = P (k + 1) ∧ (Q (k + 1)).toInt ≤ (w e).toInt)

/-- The value picked last before round `k`. -/
def lastV (P : ℕ → EReal) : ℕ → EReal
  | 0 => ⊤
  | k + 1 => P k

/-- The number picked last before round `k`. -/
def lastI (Q : ℕ → BitVec 32) : ℕ → BitVec 32
  | 0 => 4294967295#32
  | k + 1 => Q k

theorem lastV_succ (P : ℕ → EReal) (k : ℕ) : lastV P (k + 1) = P k := rfl

theorem lastI_succ (Q : ℕ → BitVec 32) (k : ℕ) : lastI Q (k + 1) = Q k := rfl

namespace Leads

variable {n : ℕ} {v : Fin n → EReal} {w : Fin n → BitVec 32} {big : BitVec 32} {P : ℕ → EReal} {Q : ℕ → BitVec 32}
variable (L : Leads v w big P Q)
include L

theorem after (k : ℕ) (hk : k < 32) : After (lastV P k) (lastI Q k) (P k) (Q k) := by
  cases k with
  | zero =>
    rcases eq_or_ne (P 0) ⊤ with h | h
    · refine Or.inr ⟨h, lt_of_lt_of_le ?_ L.start⟩
      change (4294967295#32 : BitVec 32).toInt < 0
      decide
    · exact Or.inl (lt_top_iff_ne_top.mpr h)
  | succ k => exact L.step k hk

theorem cover (k : ℕ) (hk : k < 32) (e : Fin n) (h : After (lastV P k) (lastI Q k) (v e) (w e)) :
    v e < P k ∨ (v e = P k ∧ (Q k).toInt ≤ (w e).toInt) := by
  cases k with
  | zero => exact L.least e
  | succ k => exact L.next k hk e h

/-- Round `k` picks the value of entry `k` of the order. -/
theorem best (k : ℕ) (hk : k < 32) : Pick.best v w (lastV P k) (lastI Q k) = P k :=
  best_eq (L.mem k hk) (L.after k hk) (L.cover k hk)

/-- Round `k` picks the number of entry `k` of the order. -/
theorem bestAt (k : ℕ) (hk : k < 32) : Pick.bestAt v w big (lastV P k) (lastI Q k) = Q k :=
  bestAt_eq (L.mem k hk) (L.after k hk) (L.cover k hk) (L.above k hk) (L.small k hk)

end Leads

open Classical in
/-- Position `e` of a list sorts before position `e'`. -/
def before {n : ℕ} (v : Fin n → EReal) (w : Fin n → BitVec 32) (e e' : Fin n) : Bool :=
  decide (After (v e) (w e) (v e') (w e'))

section sorted

variable {n : ℕ} (v : Fin n → EReal) (w : Fin n → BitVec 32)

theorem sorted_or (i j : Fin n) (h : i ≤ j) :
    v (sortedFrom (before v w) j) < v (sortedFrom (before v w) i)
      ∨ (v (sortedFrom (before v w) j) = v (sortedFrom (before v w) i)
        ∧ (w (sortedFrom (before v w) i)).toInt ≤ (w (sortedFrom (before v w) j)).toInt) := by
  rcases h.eq_or_lt with rfl | h
  · exact Or.inr ⟨rfl, le_rfl⟩
  · refine after_or _ _ _ _ ?_
    have := sortedFrom_noInversion (before v w) (before v w) ?_ (fun _ _ h => h) ?_ i j h
    · simpa [before] using this
    · intro a b h
      simp only [before, decide_eq_true_eq, decide_eq_false_iff_not] at h ⊢
      intro k
      exact not_after_trans _ _ _ _ _ _ (fun l => after_irrefl (v a) (w a) (by
        rcases h with h | ⟨h, h'⟩ <;> rcases k with k | ⟨k, k'⟩
        · exact absurd (h.trans k) (lt_irrefl _)
        · exact absurd h (by rw [k]; exact lt_irrefl _)
        · exact absurd k (by rw [h]; exact lt_irrefl _)
        · omega)) (after_irrefl (v b) (w b)) h
    · intro a b c h k
      simp only [before, decide_eq_false_iff_not] at h k ⊢
      exact not_after_trans _ _ _ _ _ _ h k

/-- The first 32 of the sorted list lead, when no two that follow each other are the same and they can be told from the
    entries not kept. -/
theorem leads (big : BitVec 32) (P : ℕ → EReal) (Q : ℕ → BitVec 32) (hn : 32 ≤ n)
    (hP : ∀ k (hk : k < 32), P k = v (sortedFrom (before v w) ⟨k, by omega⟩))
    (hQ : ∀ k (hk : k < 32), Q k = w (sortedFrom (before v w) ⟨k, by omega⟩))
    (above : ∀ k < 32, ⊥ < P k) (small : ∀ k < 32, (Q k).toInt ≤ big.toInt) (start : 0 ≤ (Q 0).toInt)
    (differ : ∀ k, k + 1 < 32 → P (k + 1) ≠ P k ∨ Q (k + 1) ≠ Q k) : Leads v w big P Q where
  mem k hk := ⟨_, (hP k hk).symm, (hQ k hk).symm⟩
  above := above
  small := small
  start := start
  step k hk := by
    have h := sorted_or v w ⟨k, by omega⟩ ⟨k + 1, by omega⟩ (Fin.mk_le_mk.mpr (by omega))
    rw [← hP k (by omega), ← hP (k + 1) hk, ← hQ k (by omega), ← hQ (k + 1) hk] at h
    rcases h with h | ⟨h, h'⟩
    · exact Or.inl h
    · refine Or.inr ⟨h, lt_of_le_of_ne h' fun e => ?_⟩
      rcases differ k hk with d | d
      · exact d h
      · exact d (BitVec.eq_of_toInt_eq e.symm)
  least e := by
    obtain ⟨j, rfl⟩ := sortedFrom_surjective (before v w) e
    rw [hP 0 (by omega), hQ 0 (by omega)]
    exact sorted_or v w _ j (Fin.mk_le_of_le_val (Nat.zero_le _))
  next k hk e h := by
    obtain ⟨j, rfl⟩ := sortedFrom_surjective (before v w) e
    rw [hP k (by omega), hQ k (by omega)] at h
    rw [hP (k + 1) hk, hQ (k + 1) hk]
    refine sorted_or v w _ j (Fin.mk_le_of_le_val ?_)
    by_contra l
    have := sorted_or v w j ⟨k, by omega⟩ (Fin.le_def.mpr (by simp only; omega))
    rcases h with h | ⟨h, h'⟩ <;> rcases this with k | ⟨k, k'⟩
    · exact lt_asymm h k
    · exact absurd h (by rw [k]; exact lt_irrefl _)
    · exact absurd k (by rw [h]; exact lt_irrefl _)
    · omega

end sorted

/-- What a step keeps true holds at the end of a loop. -/
theorem foldl_keeps {n : ℕ} {α : Type} (g : Fin n → α → α) (a : α) (I : ℕ → α → Prop) (h0 : I 0 a)
    (hs : ∀ (k : Fin n) a, I k a → I (k + 1) (g k a)) : I n ((List.finRange n).foldl (fun acc k => g k acc) a) := by
  induction n with
  | zero => exact h0
  | succ n ih =>
    rw [List.finRange_succ_last, List.foldl_append, List.foldl_map]
    exact hs (Fin.last n) _ (ih (fun k a => g k.castSucc a) fun k a h => hs k.castSucc a h)

theorem fold_keeps {n : ℕ} {α : Type} (g : Fin n → α → α) (a : α) (I : ℕ → α → Prop) (h0 : I 0 a)
    (hs : ∀ (k : Fin n) a, I k a → I (k + 1) (g k a)) : I n (Scf.fold g a) := by
  rw [Scf.fold_eq]
  exact foldl_keeps g a I h0 hs

/-! ## The loop -/

/-- Minus infinity. -/
theorem bits_bot : Ideal.ofBits FTy.f32 4286578688#32 = ⊥ := by simp [Ideal.ofBits, Ideal.ieee]

/-- Plus infinity. -/
theorem bits_top : Ideal.ofBits FTy.f32 2139095040#32 = ⊤ := by simp [Ideal.ofBits, Ideal.ieee]

/-- A round's number against a column's. -/
theorem round_eq {α : Type} {T : ℕ} (hT : T = 32) (i : Fin 32) (k : Fin T) (x y : α) :
    Scalar.select (IntOp.cmpi .eq (BitVec.ofNat 32 i.val) (Scf.iv 0#32 1#32 k.val)) x y = if i.val = k.val then x else y := by
  have hk : k.val < 32 := hT ▸ k.isLt
  have e : Scf.iv 0#32 1#32 k.val = BitVec.ofNat 32 k.val := by
    unfold Scf.iv
    rw [BitVec.zero_add, BitVec.mul_one]
  have h : (BitVec.ofNat 32 i.val = BitVec.ofNat 32 k.val) ↔ i.val = k.val := by
    refine ⟨fun h => ?_, fun h => by rw [h]⟩
    have := congrArg BitVec.toNat h
    simp only [BitVec.toNat_ofNat] at this
    omega
  rw [e]
  unfold Scalar.select IntOp.cmpi
  by_cases l : i.val = k.val
  · rw [if_pos l, if_pos]
    simp [h.mpr l]
  · rw [if_neg l, if_neg]
    have : ¬ (BitVec.ofNat 32 i.val = BitVec.ofNat 32 k.val) := fun t => l (h.mp t)
    rw [beq_eq_false_iff_ne.mpr this]
    exact (by decide : ¬ BitVec.ofBool false = 1#1)

/-- What the loop carries, for `R` rows: the values and numbers picked last, and the values and numbers picked so far. -/
abbrev Carry (R : ℕ) : Type := ((⟨1, ![R]⟩ : Shape).Idx → EReal) × ((⟨1, ![R]⟩ : Shape).Idx → BitVec 32)
  × ((⟨2, ![R, 32]⟩ : Shape).Idx → EReal) × ((⟨2, ![R, 32]⟩ : Shape).Idx → BitVec 32)

section loop

variable {R n T : ℕ} (v : Fin R → Fin n → EReal) (w : Fin R → Fin n → BitVec 32) (big : BitVec 32)

/-- A round picks in every row and puts the pick into the round's column. -/
structure IsRound (g : Fin T → Carry R → Carry R) : Prop where
  val : ∀ k a (t : (⟨1, ![R]⟩ : Shape).Idx), (g k a).1 t = best (v (t 0)) (w (t 0)) (a.1 t) (a.2.1 t)
  num : ∀ k a (t : (⟨1, ![R]⟩ : Shape).Idx), (g k a).2.1 t = bestAt (v (t 0)) (w (t 0)) big (a.1 t) (a.2.1 t)
  vals : ∀ k a (t : (⟨2, ![R, 32]⟩ : Shape).Idx), (g k a).2.2.1 t
    = if (t 1).val = k.val then best (v (t 0)) (w (t 0)) (a.1 (ix1 (t 0))) (a.2.1 (ix1 (t 0))) else a.2.2.1 t
  nums : ∀ k a (t : (⟨2, ![R, 32]⟩ : Shape).Idx), (g k a).2.2.2 t
    = if (t 1).val = k.val then bestAt (v (t 0)) (w (t 0)) big (a.1 (ix1 (t 0))) (a.2.1 (ix1 (t 0))) else a.2.2.2 t

/-- After `k` rounds: the last pick, and the picks so far. -/
structure Upto (P : Fin R → ℕ → EReal) (Q : Fin R → ℕ → BitVec 32) (k : ℕ) (a : Carry R) : Prop where
  last : ∀ r : Fin R, a.1 (ix1 r) = lastV (P r) k ∧ a.2.1 (ix1 r) = lastI (Q r) k
  done : ∀ y : (⟨2, ![R, 32]⟩ : Shape).Idx, (y 1).val < k → a.2.2.1 y = P (y 0) (y 1).val ∧ a.2.2.2 y = Q (y 0) (y 1).val

variable {v w big} {g : Fin T → Carry R → Carry R} (G : IsRound v w big g) (hT : T = 32) (a₀ : Carry R)
variable (hv : ∀ t, a₀.1 t = ⊤) (hi : ∀ t, a₀.2.1 t = 4294967295#32)
variable (P : Fin R → ℕ → EReal) (Q : Fin R → ℕ → BitVec 32) (L : ∀ r, Leads (v r) (w r) big (P r) (Q r))
include G hT L

/-- Round `k` takes entry `k` of the order in every row. -/
theorem IsRound.upto (k : Fin T) (a : Carry R) (h : Upto P Q k.val a) : Upto P Q (k.val + 1) (g k a) := by
  have hk : k.val < 32 := hT ▸ k.isLt
  obtain ⟨h1, h2⟩ := h
  have one : ∀ r : Fin R, best (v r) (w r) (a.1 (ix1 r)) (a.2.1 (ix1 r)) = P r k.val := fun r => by
    rw [(h1 r).1, (h1 r).2]
    exact (L r).best k.val hk
  have two : ∀ r : Fin R, bestAt (v r) (w r) big (a.1 (ix1 r)) (a.2.1 (ix1 r)) = Q r k.val := fun r => by
    rw [(h1 r).1, (h1 r).2]
    exact (L r).bestAt k.val hk
  refine ⟨fun r => ⟨?_, ?_⟩, fun y hy => ⟨?_, ?_⟩⟩
  · rw [G.val, lastV_succ]
    exact one r
  · rw [G.num, lastI_succ]
    exact two r
  · rw [G.vals]
    split
    · rename_i e
      rw [e]
      exact one (y 0)
    · exact (h2 y (by omega)).1
  · rw [G.nums]
    split
    · rename_i e
      rw [e]
      exact two (y 0)
    · exact (h2 y (by omega)).2

include hv hi in
/-- After all rounds the picks are the first 32 of the order, in every row. -/
theorem IsRound.rounds (y : (⟨2, ![R, 32]⟩ : Shape).Idx) : (Scf.fold g a₀).2.2.1 y = P (y 0) (y 1).val
    ∧ (Scf.fold g a₀).2.2.2 y = Q (y 0) (y 1).val := by
  have I := fold_keeps g a₀ (Upto P Q)
    ⟨fun r => ⟨hv _, hi _⟩, fun y h => absurd h (Nat.not_lt_zero _)⟩ (G.upto hT P Q L)
  exact I.done y (hT ▸ (y 1).isLt)

end loop

/-! ## A stable sort by value only -/

/-- A stable sort asks of two positions only whether the later one goes before the earlier one. -/
theorem stableSort_later {n : ℕ} (R R' : Fin n → Fin n → Bool) (h : ∀ a b, a < b → R b a = R' b a) (m : List (Fin n))
    (hm : m.Pairwise (· < ·)) : stableSort R m = stableSort R' m := by
  induction m with
  | nil => rfl
  | cons a m ih =>
    rw [List.pairwise_cons] at hm
    unfold stableSort
    rw [ih hm.2]
    exact insertBefore_congr R R' a _ fun b hb => h a b (hm.1 b ((perm_stableSort R' m).mem_iff.mp hb))

theorem sortedFrom_later {n : ℕ} (R R' : Fin n → Fin n → Bool) (h : ∀ a b, a < b → R b a = R' b a) (k : Fin n) :
    sortedFrom R k = sortedFrom R' k := by
  have e : sortPositions n R = sortPositions n R' := stableSort_later R R' h _ (List.pairwise_lt_finRange n)
  unfold sortedFrom
  rw [List.get_of_eq e]
  rfl

/-- The number of a position. -/
def place {n : ℕ} (e : Fin n) : BitVec 32 := BitVec.ofNat 32 e.val

theorem toInt_place {n : ℕ} (hn : n ≤ 1024) (e : Fin n) : (place e).toInt = (e.val : ℤ) := by
  have := e.isLt
  unfold place
  rw [BitVec.toInt_eq_toNat_of_lt] <;> simp only [BitVec.toNat_ofNat] <;> omega

open Classical in
/-- Sorted by value only, with ties left in the order of the positions: sorted by value and position. -/
theorem sorted_by_value {n : ℕ} (hn : n ≤ 1024) (v : Fin n → EReal) (k : Fin n) :
    sortedFrom (fun e e' => FloatOps.cmpfTotal (F := Ideal) (φ := .f32) .gt (v e) (v e') == 1#1) k = sortedFrom (before v place) k := by
  refine sortedFrom_later _ _ (fun a b h => ?_) k
  show (BitVec.ofBool (decide (v a < v b)) == 1#1) = decide (After (v b) (place b) (v a) (place a))
  have l : ¬ (place b).toInt < (place a).toInt := by
    rw [toInt_place hn, toInt_place hn]
    have := Fin.lt_def.mp h
    omega
  unfold After
  by_cases t : v a < v b <;> simp [t, l]

/-! ## A sort of the rows of a matrix -/

section rows

variable {n l : ℕ} {α β : Type} (cmp : α × β → α × β → BitVec 1) (x : (⟨2, ![n, l]⟩ : Shape).Idx → α)
variable (y : (⟨2, ![n, l]⟩ : Shape).Idx → β) (r : Fin n) (k : Fin l)

theorem along_row (e : Fin l) : Shape.Idx.along (s := ⟨2, ![n, l]⟩) (ix2 r k) ⟨1, Nat.one_lt_two⟩ e = ix2 r e := by
  funext a
  match a with
  | 0 => rfl
  | 1 => rfl

/-- The place in row `r` of the element that a sort of the rows puts at `k`. -/
def origin : Fin l := sortedFrom (fun e e' => cmp (x (ix2 r e), y (ix2 r e)) (x (ix2 r e'), y (ix2 r e')) == 1#1) k

theorem sort2_at : (Host.sort2 ⟨2, ![n, l]⟩ 1 cmp x y).1 (ix2 r k) = x (ix2 r (origin cmp x y r k))
    ∧ (Host.sort2 ⟨2, ![n, l]⟩ 1 cmp x y).2 (ix2 r k) = y (ix2 r (origin cmp x y r k)) := by
  unfold Host.sort2
  rw [dif_pos Nat.one_lt_two]
  dsimp only
  have h : (sortedFrom fun e e' : Fin l => cmp (x (Shape.Idx.along (s := ⟨2, ![n, l]⟩) (ix2 r k) ⟨1, Nat.one_lt_two⟩ e), y (Shape.Idx.along (s := ⟨2, ![n, l]⟩) (ix2 r k) ⟨1, Nat.one_lt_two⟩ e))
      (x (Shape.Idx.along (s := ⟨2, ![n, l]⟩) (ix2 r k) ⟨1, Nat.one_lt_two⟩ e'), y (Shape.Idx.along (s := ⟨2, ![n, l]⟩) (ix2 r k) ⟨1, Nat.one_lt_two⟩ e')) == 1#1) k = origin cmp x y r k := by
    unfold origin
    simp only [along_row]
  refine ⟨congrArg x ?_, congrArg y ?_⟩
  · refine Eq.trans ?_ (along_row r k _)
    exact congrArg _ h
  · refine Eq.trans ?_ (along_row r k _)
    exact congrArg _ h

end rows

end Cert.Proof.Pick

end
-- ==== Proof.Chunks.lean ====
/-
  The choice of the 32 chunks with the greatest maxima.
-/
module

public import proofs.«01_k».proof.Proof.Gen.Chunks.Frame
public import proofs.«01_k».proof.Proof.Gen.ChunksIdeal.Value
public import proofs.«01_k».proof.Proof.Gen.ChunksTopIdeal.Run
public import proofs.«01_k».proof.Proof.Gen.Pre_chunks_above
public import proofs.«01_k».proof.Proof.Pick
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Proof.Chk

open scoped Classical

open Cert.ChunksIdeal Cert.ChunksIdeal.Gen
open Idealize.ShloMosaic
open Idealize.SL.Sem

/-! ## One block -/

section block

variable (v : S192x512.Idx → EReal) (p : S512.Idx → EReal) (q : S512.Idx → BitVec 32)

/-- The maxima of the token in column `r`. -/
def col (r : Fin 512) (e : Fin 192) : EReal := v (ix2 e r)

theorem max_at (t : S512.Idx) : k0_pay6 (F := Ideal) v p q t = Pick.best (col v (t 0)) Pick.place (p t) (q t) := by
  unfold k0_pay6 k0_pay5 Pick.best
  pointwise
  rw [Pick.bits_bot]
  refine Finset.fold_congr fun e _ => ?_
  unfold Pick.kept
  exact Pick.select_after _ _ _ _ _ _ _ _ _

theorem min_at (t : S512.Idx) : k0_pay7 (F := Ideal) v p q t = Pick.bestAt (col v (t 0)) Pick.place 192#32 (p t) (q t) := by
  unfold k0_pay7 k0_pay5 Pick.bestAt
  pointwise
  refine Finset.fold_congr fun e _ => ?_
  rw [max_at, Pick.bits_bot, Pick.select_after _ _ _ _ _ _ _ _ (Classical.propDecidable _)]
  unfold Pick.kept
  congr

theorem put_val (k : Fin k0_t1_loop.trips) (a : S512x32.Idx → EReal) (t : S512x32.Idx) :
    k0_pay8 (F := Ideal) v k p q a t
      = if (t 1).val = k.val then Pick.best (col v (t 0)) Pick.place (p (ix1 (t 0))) (q (ix1 (t 0))) else a t := by
  unfold k0_pay8
  pointwise
  rw [max_at]
  exact Pick.round_eq rfl (t 1) k _ _

theorem put_num (k : Fin k0_t1_loop.trips) (a : S512x32.Idx → BitVec 32) (t : S512x32.Idx) :
    k0_pay9 (F := Ideal) v k p q a t
      = if (t 1).val = k.val then Pick.bestAt (col v (t 0)) Pick.place 192#32 (p (ix1 (t 0))) (q (ix1 (t 0))) else a t := by
  unfold k0_pay9
  pointwise
  rw [min_at]
  exact Pick.round_eq rfl (t 1) k _ _

/-- One round. -/
def round (k : Fin k0_t1_loop.trips) (a : Pick.Carry 512) : Pick.Carry 512 :=
  (k0_pay6 (F := Ideal) v a.1 a.2.1, k0_pay7 (F := Ideal) v a.1 a.2.1,
    k0_pay8 (F := Ideal) v k a.1 a.2.1 a.2.2.1, k0_pay9 (F := Ideal) v k a.1 a.2.1 a.2.2.2)

theorem round_is : Pick.IsRound (col v) (fun _ => Pick.place) 192#32 (round v) where
  val k a t := by
    unfold round
    dsimp only
    rw [max_at]
  num k a t := by
    unfold round
    dsimp only
    rw [min_at]
  vals k a t := by
    unfold round
    dsimp only
    rw [put_val]
  nums k a t := by
    unfold round
    dsimp only
    rw [put_num]

/-- The carry at the start. -/
def first : Pick.Carry 512 := (k0_pay1 (F := Ideal), k0_pay2, k0_pay3 (F := Ideal), k0_pay4)

theorem first_val (t : S512.Idx) : (first).1 t = ⊤ := by
  unfold first k0_pay1
  pointwise
  exact Pick.bits_top

theorem first_num (t : S512.Idx) : (first).2.1 t = 4294967295#32 := by
  unfold first k0_pay2
  pointwise

end block

/-! ## The reference -/

section sorted

variable (X : S192x32768.Idx → EReal)

/-- The chunk maxima of token `r`. -/
def tv (r : Fin 8192) (e : Fin 192) : EReal := X (ix2 e ⟨r.val, by omega⟩)

/-- The chunk that comes at place `k` in the order. -/
def slot (r : Fin 8192) (k : ℕ) : Fin 192 := sortedFrom (Pick.before (tv X r) Pick.place) ⟨k % 192, Nat.mod_lt _ (by decide)⟩

/-- Its maximum. -/
def topV (r : Fin 8192) (k : ℕ) : EReal := tv X r (slot X r k)

/-- Its number. -/
def topI (r : Fin 8192) (k : ℕ) : BitVec 32 := Pick.place (slot X r k)

/-- The first 32 maxima of the order. -/
def bestV : S8192x32.Idx → EReal := fun y => topV X (y 0) (y 1).val

/-- The numbers of their chunks. -/
def bestI : S8192x32.Idx → BitVec 32 := fun y => topI X (y 0) (y 1).val

end sorted

open Cert.ChunksTopIdeal Cert.ChunksTopIdeal.Gen in
/-- The chunk maxima of the first 8192 tokens, token by token. -/
def turned (x : ChunksTopIdeal.S192x32768.Idx → EReal) : ChunksTopIdeal.S8192x192.Idx → EReal :=
  transpose ChunksTopIdeal.S8192x192 [1, 0] (extractStridedSlice ChunksTopIdeal.S192x8192 ![0, 0] x slices_S192x32768_S192x8192_0_0) transposes_S192x8192_S8192x192_1_0

theorem turned_at (x : ChunksTopIdeal.S192x32768.Idx → EReal) (r : Fin 8192) (e : Fin 192) : turned x (ix2 r e) = tv x r e := by
  unfold turned tv
  pointwise

/-- The numbers of the positions of a row. -/
def numbers : ChunksTopIdeal.S8192x192.Idx → BitVec 32 := fun i => iotaInDim ChunksTopIdeal.S8192x192 32 1 i

theorem origin_eq (x : ChunksTopIdeal.S192x32768.Idx → EReal) (r : Fin 8192) (k : Fin 192) :
    Pick.origin (fun l r : EReal × BitVec 32 => FloatOps.cmpfTotal (F := Ideal) (φ := .f32) .gt l.1 r.1) (turned x) numbers r k = slot x r k.val := by
  unfold Pick.origin slot
  simp only [turned_at]
  rw [Pick.sorted_by_value (by decide)]
  exact congrArg _ (Fin.ext (Nat.mod_eq_of_lt k.isLt).symm)

theorem sorted_at (x : ChunksTopIdeal.S192x32768.Idx → EReal) (r : Fin 8192) (k : Fin 192) :
    (Host.sort2 ChunksTopIdeal.S8192x192 1 (fun l r : EReal × BitVec 32 => FloatOps.cmpfTotal (F := Ideal) (φ := .f32) .gt l.1 r.1) (turned x) numbers).1 (ix2 r k) = topV x r k.val
    ∧ (Host.sort2 ChunksTopIdeal.S8192x192 1 (fun l r : EReal × BitVec 32 => FloatOps.cmpfTotal (F := Ideal) (φ := .f32) .gt l.1 r.1) (turned x) numbers).2 (ix2 r k) = topI x r k.val := by
  obtain ⟨h, h'⟩ := Pick.sort2_at (fun l r : EReal × BitVec 32 => FloatOps.cmpfTotal (F := Ideal) (φ := .f32) .gt l.1 r.1) (turned x) numbers r k
  rw [origin_eq] at h h'
  rw [turned_at] at h
  exact ⟨h, h'⟩

open Cert.ChunksTopIdeal Cert.ChunksTopIdeal.Gen in
theorem top_eq (x : ChunksTopIdeal.S192x32768.Idx → EReal) :
    Host.topK ChunksTopIdeal.S8192x32 1 (FloatOps.cmpfTotal (F := Ideal) (φ := .f32) .gt) (turned x) sliceFits_S8192x192_S8192x32
      = (extractStridedSlice ChunksTopIdeal.S8192x32 (fun _ => 0) (Host.sort2 ChunksTopIdeal.S8192x192 1 (fun l r : EReal × BitVec 32 => FloatOps.cmpfTotal (F := Ideal) (φ := .f32) .gt l.1 r.1) (turned x) numbers).1 sliceFits_S8192x192_S8192x32,
        extractStridedSlice ChunksTopIdeal.S8192x32 (fun _ => 0) (Host.sort2 ChunksTopIdeal.S8192x192 1 (fun l r : EReal × BitVec 32 => FloatOps.cmpfTotal (F := Ideal) (φ := .f32) .gt l.1 r.1) (turned x) numbers).2 sliceFits_S8192x192_S8192x32) := by
  have n : (fun i : ChunksTopIdeal.S8192x192.Idx => if hd : 1 < ChunksTopIdeal.S8192x192.rank then iotaInDim ChunksTopIdeal.S8192x192 32 ⟨1, hd⟩ i else 0#32) = numbers := by
    funext i
    rw [dif_pos Nat.one_lt_two]
    rfl
  unfold Host.topK
  rw [n]

open Cert.ChunksTopIdeal Cert.ChunksTopIdeal.Gen in
theorem ref_val (x : ChunksTopIdeal.S192x32768.Idx → EReal) :
    (Host.topK ChunksTopIdeal.S8192x32 1 (FloatOps.cmpfTotal (F := Ideal) (φ := .f32) .gt) (turned x) sliceFits_S8192x192_S8192x32).1 = bestV x := by
  rw [top_eq]
  funext y
  unfold bestV
  pointwise
  exact (sorted_at x (y 0) _).1

open Cert.ChunksTopIdeal Cert.ChunksTopIdeal.Gen in
theorem ref_num (x : ChunksTopIdeal.S192x32768.Idx → EReal) :
    (Host.topK ChunksTopIdeal.S8192x32 1 (FloatOps.cmpfTotal (F := Ideal) (φ := .f32) .gt) (turned x) sliceFits_S8192x192_S8192x32).2 = bestI x := by
  rw [top_eq]
  funext y
  unfold bestI
  pointwise
  exact (sorted_at x (y 0) _).2

/-! ## The precondition -/

/-- Each of the 32 greatest maxima is greater than minus infinity. -/
theorem pre_at (x : ChunksTopIdeal.S192x32768.Idx → EReal) (h : Pre_chunks_above.fn (F := Ideal) x = fun _ => 1#1) (r : Fin 8192) (k : Fin 32) :
    ⊥ < topV x r k.val := by
  have g : Pre_chunks_above.fn (F := Ideal) x (ix2 r k) = BitVec.ofBool (decide (⊥ < bestV x (ix2 r k))) := by
    rw [← ref_val, ← Pick.bits_bot]
    rfl
  rw [h] at g
  have one : ∀ b : Bool, 1#1 = BitVec.ofBool b → b = true := by decide
  exact of_decide_eq_true (one _ g)

theorem leads (x : ChunksTopIdeal.S192x32768.Idx → EReal) (h : Pre_chunks_above.fn (F := Ideal) x = fun _ => 1#1) (r : Fin 8192) :
    Pick.Leads (tv x r) Pick.place 192#32 (topV x r) (topI x r) := by
  have put : ∀ k (hk : k < 32), (⟨k % 192, Nat.mod_lt _ (by decide)⟩ : Fin 192) = ⟨k, by omega⟩ := fun k hk =>
    Fin.ext (Nat.mod_eq_of_lt (by omega))
  have num : ∀ k, (topI x r k).toInt = ((slot x r k).val : ℤ) := fun k => Pick.toInt_place (by decide) _
  refine Pick.leads _ _ _ _ _ (by decide) (fun k hk => ?_) (fun k hk => ?_) (fun k hk => pre_at x h r ⟨k, hk⟩) (fun k hk => ?_) ?_
    fun k hk => Or.inr fun e => ?_
  · unfold topV slot
    rw [put k hk]
  · unfold topI slot
    rw [put k hk]
  · rw [num]
    have := (slot x r k).isLt
    have : (192#32 : BitVec 32).toInt = 192 := by decide
    omega
  · rw [num]
    omega
  · have e' := congrArg BitVec.toInt e
    rw [num, num] at e'
    have e'' : slot x r (k + 1) = slot x r k := Fin.ext (by omega)
    unfold slot at e''
    have := Fin.mk.inj (sortedFrom_injective _ e'')
    omega

/-! ## The arrays -/

variable (m : (ℓ : Loc nD τ sig) → Buf (Elt Ideal) ℓ) (c : Dev nD)

/-- The places of the three blocks of a grid point. -/
theorem idx : ∀ t : Fin cfg0.N, win0_0.index t = ![0, t.val] ∧ win0_1.index t = ![t.val, 0] ∧ win0_2.index t = ![t.val, 0] :=
  (by decide +kernel : ∀ t : Fin grid0.N, win0_0.index t = ![0, t.val] ∧ win0_1.index t = ![t.val, 0] ∧ win0_2.index t = ![t.val, 0])

/-- The token of column `r` of a grid point's block. -/
def tok (t : Fin cfg0.N) (r : Fin 512) : Fin 8192 := ⟨t.val * 512 + r.val, by have : t.val < 16 := t.isLt; omega⟩

theorem block_val (t : Fin cfg0.N) (r : Fin 512) : col (iblk m c 0 t) r = tv (m (c.tc.loc main_arg0)) (tok t r) := by
  funext e
  unfold col tv tok
  blk_point [iblk, V, idx t]

variable (h : Pre_chunks_above.fn (F := Ideal) (m (c.tc.loc main_arg0)) = fun _ => 1#1)
include h

theorem block_at (t : Fin cfg0.N) (y : S512x32.Idx) :
    (Scf.fold (round (iblk m c 0 t)) first).2.2.1 y = topV (m (c.tc.loc main_arg0)) (tok t (y 0)) (y 1).val
    ∧ (Scf.fold (round (iblk m c 0 t)) first).2.2.2 y = topI (m (c.tc.loc main_arg0)) (tok t (y 0)) (y 1).val :=
  (round_is (iblk m c 0 t)).rounds rfl first first_val first_num (fun r => topV _ (tok t r)) (fun r => topI _ (tok t r))
    (fun r => by
      rw [block_val]
      exact leads _ h (tok t r)) y

theorem val_array : (dats m 0 c).arrAt 1 (cfgs 0).N = bestV (m (c.tc.loc main_arg0)) := by
  refine (dats m 0 c).arrAt_eq_of_covers 1 _ (by decide +kernel) fun t hf y => ?_
  blk_simp
  rw [after0_1]
  rw [outsAt0]
  frame_out
  refine (block_at m c h t y).1.trans ?_
  unfold bestV
  refine congrArg₂ (topV _) (Fin.ext ?_) ?_
  · unfold tok
    blk_simp [idx t]
  · blk_simp [idx t]

theorem num_array : (dats m 0 c).arrAt 2 (cfgs 0).N = bestI (m (c.tc.loc main_arg0)) := by
  refine (dats m 0 c).arrAt_eq_of_covers 2 _ (by decide +kernel) fun t hf y => ?_
  blk_simp
  rw [after0_2]
  rw [outsAt0]
  frame_out
  refine (block_at m c h t y).2.trans ?_
  unfold bestI
  refine congrArg₂ (topI _) (Fin.ext ?_) ?_
  · unfold tok
    blk_simp [idx t]
  · blk_simp [idx t]

/-! ## The claims -/

omit h in
theorem frame_kernel : Cert.quiescent_Chunks := fun m ρ _ => Cert.Chunks.Gen.frame (F := Bits) m ρ

omit h in
theorem frame_ideal : Cert.quiescent_ChunksIdeal := fun m ρ _ => Cert.ChunksIdeal.Gen.frame (F := Ideal) m ρ

omit h in
theorem frame_ideal_pre : Cert.quiescent_ChunksIdeal_pre_chunks_above := fun m ρ _ => Cert.ChunksIdeal.Gen.frame (F := Ideal) m ρ

omit h in
theorem frame_reference : Cert.quiescent_ChunksTopIdeal := fun m ρ _ =>
  (θ_run Cert.ChunksTopIdeal.defs _ _).mono (fun r h => ⟨fun d => (h d).2.2, sem_eq_zero_of_no_sems (by decide) r.2⟩)
    (Cert.ChunksTopIdeal.Value.run (F := Ideal) m ρ)

omit h in
theorem frame_reference_pre : Cert.quiescent_ChunksTopIdeal_pre_chunks_above := fun m ρ _ => frame_reference m ρ trivial

omit h in
theorem algebraic : Cert.algebraic_ChunksIdeal_ChunksTopIdeal_pre_chunks_above := by
  intro m ρ m' ρ' hpre hargs
  refine ⟨fun d => bestV (m (d.tc.loc main_arg0)), fun d => bestI (m (d.tc.loc main_arg0)),
    (θ_run defs _ _).mono (fun _ h d => ⟨(h d).1.trans (val_array m d (hpre d)), (h d).2.1.trans (num_array m d (hpre d)), (h d).2.2⟩)
      (Cert.ChunksIdeal.Value.run_blocks (F := Ideal) m ρ), ?_⟩
  refine (θ_run Cert.ChunksTopIdeal.defs _ _).mono (fun r h d => ?_) (Cert.ChunksTopIdeal.Value.run (F := Ideal) m' ρ')
  refine ⟨(h d).1.trans ?_, (h d).2.1.trans ?_, (h d).2.2⟩
  · rw [hargs d]
    exact ref_val _
  · rw [hargs d]
    exact ref_num _

end Cert.Proof.Chk

end
-- ==== Proof.Cand.lean ====
/-
  The choice of the 32 best candidates.
-/
module

public import proofs.«01_k».proof.Proof.Gen.Cand.Frame
public import proofs.«01_k».proof.Proof.Gen.CandIdeal.Value
public import proofs.«01_k».proof.Proof.Gen.CandSortedIdeal.Run
public import proofs.«01_k».proof.Proof.Gen.Pre_cand_distinct
public import proofs.«01_k».proof.Proof.Pick
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.Proof.Cnd

open scoped Classical

open Cert.CandIdeal Cert.CandIdeal.Gen
open Idealize.ShloMosaic
open Idealize.SL.Sem

/-! ## One block -/

section block

variable (v : S256x512.Idx → EReal) (w : S256x512.Idx → BitVec 32) (p : S256.Idx → EReal) (q : S256.Idx → BitVec 32)

/-- The values of row `r`. -/
def rv (r : Fin 256) (e : Fin 512) : EReal := v (ix2 r e)

/-- The numbers of row `r`. -/
def rw' (r : Fin 256) (e : Fin 512) : BitVec 32 := w (ix2 r e)

theorem max_at (t : S256.Idx) : k0_pay6 (F := Ideal) v w p q t = Pick.best (rv v (t 0)) (rw' w (t 0)) (p t) (q t) := by
  unfold k0_pay6 k0_pay5 Pick.best
  pointwise
  rw [Pick.bits_bot]
  refine Finset.fold_congr fun e _ => ?_
  unfold Pick.kept
  exact Pick.select_after _ _ _ _ _ _ _ _ _

theorem min_at (t : S256.Idx) :
    k0_pay7 (F := Ideal) v w p q t = Pick.bestAt (rv v (t 0)) (rw' w (t 0)) 1073741824#32 (p t) (q t) := by
  unfold k0_pay7 k0_pay5 Pick.bestAt
  pointwise
  refine Finset.fold_congr fun e _ => ?_
  rw [max_at, Pick.bits_bot, Pick.select_after _ _ _ _ _ _ _ _ (Classical.propDecidable _)]
  unfold Pick.kept
  congr

theorem put_val (k : Fin k0_t1_loop.trips) (a : S256x32.Idx → EReal) (t : S256x32.Idx) :
    k0_pay8 (F := Ideal) v w k p q a t
      = if (t 1).val = k.val then Pick.best (rv v (t 0)) (rw' w (t 0)) (p (ix1 (t 0))) (q (ix1 (t 0))) else a t := by
  unfold k0_pay8
  pointwise
  rw [max_at]
  exact Pick.round_eq rfl (t 1) k _ _

theorem put_num (k : Fin k0_t1_loop.trips) (a : S256x32.Idx → BitVec 32) (t : S256x32.Idx) :
    k0_pay9 (F := Ideal) v w k p q a t
      = if (t 1).val = k.val then Pick.bestAt (rv v (t 0)) (rw' w (t 0)) 1073741824#32 (p (ix1 (t 0))) (q (ix1 (t 0))) else a t := by
  unfold k0_pay9
  pointwise
  rw [min_at]
  exact Pick.round_eq rfl (t 1) k _ _

/-- One round. -/
def round (k : Fin k0_t1_loop.trips) (a : Pick.Carry 256) : Pick.Carry 256 :=
  (k0_pay6 (F := Ideal) v w a.1 a.2.1, k0_pay7 (F := Ideal) v w a.1 a.2.1,
    k0_pay8 (F := Ideal) v w k a.1 a.2.1 a.2.2.1, k0_pay9 (F := Ideal) v w k a.1 a.2.1 a.2.2.2)

theorem round_is : Pick.IsRound (rv v) (rw' w) 1073741824#32 (round v w) where
  val k a t := by
    unfold round
    dsimp only
    rw [max_at]
  num k a t := by
    unfold round
    dsimp only
    rw [min_at]
  vals k a t := by
    unfold round
    dsimp only
    rw [put_val]
  nums k a t := by
    unfold round
    dsimp only
    rw [put_num]

/-- The carry at the start. -/
def first : Pick.Carry 256 := (k0_pay1 (F := Ideal), k0_pay2, k0_pay3 (F := Ideal), k0_pay4)

theorem first_val (t : S256.Idx) : (first).1 t = ⊤ := by
  unfold first k0_pay1
  pointwise
  exact Pick.bits_top

theorem first_num (t : S256.Idx) : (first).2.1 t = 4294967295#32 := by
  unfold first k0_pay2
  pointwise

end block

/-! ## The reference -/

section sorted

variable (V : S8192x512.Idx → EReal) (I : S8192x512.Idx → BitVec 32)

/-- The candidates' values of token `r`. -/
def tv (r : Fin 8192) (e : Fin 512) : EReal := V (ix2 r e)

/-- The candidates' latents of token `r`. -/
def ti (r : Fin 8192) (e : Fin 512) : BitVec 32 := I (ix2 r e)

/-- The candidate that comes at place `k` in the order. -/
def slot (r : Fin 8192) (k : ℕ) : Fin 512 := sortedFrom (Pick.before (tv V r) (ti I r)) ⟨k % 512, Nat.mod_lt _ (by decide)⟩

/-- Its value. -/
def topV (r : Fin 8192) (k : ℕ) : EReal := tv V r (slot V I r k)

/-- Its latent. -/
def topI (r : Fin 8192) (k : ℕ) : BitVec 32 := ti I r (slot V I r k)

theorem zero_same (u : EReal) : Scalar.select (FloatOps.cmpf (F := Ideal) (φ := .f32) .une u u) (FloatOps.ofBits (F := Ideal) .f32 0x7FC00000#32)
    (Scalar.select (FloatOps.cmpf (F := Ideal) (φ := .f32) .oeq u (FloatOps.ofBits (F := Ideal) .f32 0x00000000#32)) (FloatOps.ofBits (F := Ideal) .f32 0x00000000#32) u) = u := by
  have h : FloatOps.cmpf (F := Ideal) (φ := .f32) .une u u = 0#1 := by
    show Ideal.cmp .une u u = 0#1
    simp [Ideal.cmp]
  have k : ∀ z : EReal, Scalar.select (FloatOps.cmpf (F := Ideal) (φ := .f32) .oeq u z) z u = u := fun z => by
    show Scalar.select (Ideal.cmp .oeq u z) z u = u
    by_cases h : u = z <;> simp [Ideal.cmp, Scalar.select, h]
  rw [h]
  exact k _

theorem sorts (u x : EReal) (i j : BitVec 32) :
    (Cert.CandSortedIdeal.comparator_f32_i32_d1 (F := Ideal) (-u, i) (-x, j) == 1#1) = decide (Pick.After u i x j) := by
  unfold Cert.CandSortedIdeal.comparator_f32_i32_d1
  dsimp only
  rw [zero_same, zero_same]
  have lt : FloatOps.cmpfTotal (F := Ideal) (φ := .f32) .lt (-u) (-x) = BitVec.ofBool (decide (x < u)) := by
    show BitVec.ofBool (decide (-u < -x)) = _
    rw [decide_eq_decide.mpr EReal.neg_lt_neg_iff]
  have eq : FloatOps.cmpfTotal (F := Ideal) (φ := .f32) .eq (-u) (-x) = BitVec.ofBool (decide (x = u)) := by
    show BitVec.ofBool (decide (-u = -x)) = _
    rw [decide_eq_decide.mpr ((neg_inj).trans eq_comm)]
  have slt : IntOp.cmpi .slt i j = BitVec.ofBool (decide (i.toInt < j.toInt)) := rfl
  rw [lt, eq, slt]
  unfold Pick.After
  by_cases h : x < u <;> by_cases k : x = u <;> by_cases l : i.toInt < j.toInt <;> simp [h, k, l, IntOp.ori, IntOp.andi]

theorem slot_eq (r : Fin 8192) (k : Fin 512) :
    sortedFrom (fun e e' => Cert.CandSortedIdeal.comparator_f32_i32_d1 (F := Ideal) (-(tv V r e), ti I r e) (-(tv V r e'), ti I r e') == 1#1) k
      = slot V I r k.val := by
  unfold slot
  congr
  · funext e e'
    exact sorts _ _ _ _
  · exact Fin.ext (Nat.mod_eq_of_lt k.isLt).symm

theorem sorted_at (r : Fin 8192) (k : Fin 512) :
    (Host.sort2 S8192x512 1 Cert.CandSortedIdeal.comparator_f32_i32_d1 (Host.negf (F := Ideal) (φ := .f32) V) I).1 (ix2 r k) = -(topV V I r k.val)
    ∧ (Host.sort2 S8192x512 1 Cert.CandSortedIdeal.comparator_f32_i32_d1 (Host.negf (F := Ideal) (φ := .f32) V) I).2 (ix2 r k) = topI V I r k.val := by
  have o : Pick.origin Cert.CandSortedIdeal.comparator_f32_i32_d1 (Host.negf (F := Ideal) (φ := .f32) V) I r k = slot V I r k.val :=
    slot_eq V I r k
  obtain ⟨h, h'⟩ := Pick.sort2_at Cert.CandSortedIdeal.comparator_f32_i32_d1 (Host.negf (F := Ideal) (φ := .f32) V) I r k
  rw [o] at h h'
  exact ⟨h, h'⟩

/-- The first 32 values of the order. -/
def bestV : S8192x32.Idx → EReal := fun y => topV V I (y 0) (y 1).val

/-- The first 32 latents of the order. -/
def bestI : S8192x32.Idx → BitVec 32 := fun y => topI V I (y 0) (y 1).val

open Cert.CandSortedIdeal Cert.CandSortedIdeal.Gen in
theorem ref_val (x : CandSortedIdeal.S8192x512.Idx → EReal) (i : CandSortedIdeal.S8192x512.Idx → BitVec 32) : Host.negf (F := Ideal) (φ := .f32) (extractStridedSlice CandSortedIdeal.S8192x32 ![0, 0]
    ((Host.sort2 CandSortedIdeal.S8192x512 1 comparator_f32_i32_d1 (Host.negf (F := Ideal) (φ := .f32) x) i).1) slices_S8192x512_S8192x32_0_0) = bestV x i := by
  funext y
  unfold bestV
  pointwise
  exact (congrArg (fun u : EReal => -u) (sorted_at x i (y 0) _).1).trans (neg_neg _)

open Cert.CandSortedIdeal Cert.CandSortedIdeal.Gen in
theorem ref_num (x : CandSortedIdeal.S8192x512.Idx → EReal) (i : CandSortedIdeal.S8192x512.Idx → BitVec 32) : extractStridedSlice CandSortedIdeal.S8192x32 ![0, 0]
    ((Host.sort2 CandSortedIdeal.S8192x512 1 comparator_f32_i32_d1 (Host.negf (F := Ideal) (φ := .f32) x) i).2) slices_S8192x512_S8192x32_0_0 = bestI x i := by
  funext y
  unfold bestI
  pointwise
  exact (sorted_at x i _ _).2

/-! ## The precondition -/

theorem and_one (a b : BitVec 1) (h : IntOp.andi a b = 1#1) : a = 1#1 ∧ b = 1#1 := by
  revert a b
  decide

theorem or_one (a b : BitVec 1) (h : IntOp.ori a b = 1#1) : a = 1#1 ∨ b = 1#1 := by
  revert a b
  decide

theorem ofBool_one (b : Bool) (h : BitVec.ofBool b = 1#1) : b = true := by
  revert b
  decide

/-- A candidate greater than minus infinity that names a latent. -/
def Named (r : Fin 8192) (k : ℕ) : Prop := ⊥ < topV V I r k ∧ 0 ≤ (topI V I r k).toInt ∧ (topI V I r k).toInt < 24576

theorem named (r : Fin 8192) (k : ℕ) (h : IntOp.andi (IntOp.andi (BitVec.ofBool (decide (-(topV V I r k) < ⊤))) (IntOp.cmpi .sge (topI V I r k) 0#32))
    (IntOp.cmpi .slt (topI V I r k) 24576#32) = 1#1) : Named V I r k := by
  obtain ⟨h, h3⟩ := and_one _ _ h
  obtain ⟨h1, h2⟩ := and_one _ _ h
  refine ⟨?_, of_decide_eq_true (ofBool_one _ h2), of_decide_eq_true (ofBool_one _ h3)⟩
  have := of_decide_eq_true (ofBool_one _ h1)
  rw [bot_lt_iff_ne_bot]
  intro e
  rw [e, EReal.neg_bot] at this
  exact lt_irrefl _ this

theorem pre_at (h : Pre_cand_distinct.fn (F := Ideal) V I = fun _ => 1#1) (r : Fin 8192) (k : Fin 31) :
    Named V I r (1 + k.val) ∧ Named V I r k.val ∧ (topV V I r (1 + k.val) ≠ topV V I r k.val ∨ topI V I r (1 + k.val) ≠ topI V I r k.val) := by
  have g : Pre_cand_distinct.fn (F := Ideal) V I (ix2 r k) = IntOp.andi (IntOp.andi
      (IntOp.andi (IntOp.andi (BitVec.ofBool (decide (-(topV V I r (1 + k.val)) < ⊤))) (IntOp.cmpi .sge (topI V I r (1 + k.val)) 0#32)) (IntOp.cmpi .slt (topI V I r (1 + k.val)) 24576#32))
      (IntOp.andi (IntOp.andi (BitVec.ofBool (decide (-(topV V I r k.val) < ⊤))) (IntOp.cmpi .sge (topI V I r k.val) 0#32)) (IntOp.cmpi .slt (topI V I r k.val) 24576#32)))
      (IntOp.ori (BitVec.ofBool (decide (-(topV V I r (1 + k.val)) ≠ -(topV V I r k.val)))) (IntOp.cmpi .ne (topI V I r (1 + k.val)) (topI V I r k.val))) := by
    unfold Pre_cand_distinct.fn Pre_cand_distinct.fn_part1
    pointwise
    have same : Pre_cand_distinct.comparator_f32_i32_d1 (F := Ideal) = Cert.CandSortedIdeal.comparator_f32_i32_d1 := rfl
    rw [same, Pick.bits_top]
    rw [(sorted_at V I r _).1, (sorted_at V I r _).1, (sorted_at V I r _).2, (sorted_at V I r _).2]
  rw [h] at g
  obtain ⟨g, d⟩ := and_one _ _ g.symm
  obtain ⟨a, b⟩ := and_one _ _ g
  refine ⟨named V I r _ a, named V I r _ b, ?_⟩
  rcases or_one _ _ d with d | d
  · exact Or.inl fun e => of_decide_eq_true (ofBool_one _ d) (congrArg _ e)
  · refine Or.inr fun e => ?_
    have := ofBool_one _ d
    rw [e] at this
    simp at this

theorem leads (h : Pre_cand_distinct.fn (F := Ideal) V I = fun _ => 1#1) (r : Fin 8192) :
    Pick.Leads (tv V r) (ti I r) 1073741824#32 (topV V I r) (topI V I r) := by
  have nm : ∀ k < 32, Named V I r k := fun k hk => by
    cases k with
    | zero => exact (pre_at V I h r 0).2.1
    | succ k =>
      have := (pre_at V I h r ⟨k, by omega⟩).1
      rwa [Nat.add_comm] at this
  have place : ∀ k (hk : k < 32), (⟨k % 512, Nat.mod_lt _ (by decide)⟩ : Fin 512) = ⟨k, by omega⟩ := fun k hk =>
    Fin.ext (Nat.mod_eq_of_lt (by omega))
  refine Pick.leads _ _ _ _ _ (by decide) (fun k hk => ?_) (fun k hk => ?_) (fun k hk => (nm k hk).1) (fun k hk => ?_) (nm 0 (by decide)).2.1
    fun k hk => ?_
  · unfold topV slot
    rw [place k hk]
  · unfold topI slot
    rw [place k hk]
  · refine (nm k hk).2.2.le.trans ?_
    decide
  · have := (pre_at V I h r ⟨k, by omega⟩).2.2
    rwa [Nat.add_comm] at this

end sorted

/-! ## The arrays -/

variable (m : (ℓ : Loc nD τ sig) → Buf (Elt Ideal) ℓ) (c : Dev nD)

/-- The places of the four blocks of a grid point. -/
theorem idx : ∀ t : Fin cfg0.N, win0_0.index t = ![t.val, 0] ∧ win0_1.index t = ![t.val, 0] ∧ win0_2.index t = ![t.val, 0]
    ∧ win0_3.index t = ![t.val, 0] :=
  (by decide +kernel : ∀ t : Fin grid0.N, win0_0.index t = ![t.val, 0] ∧ win0_1.index t = ![t.val, 0] ∧ win0_2.index t = ![t.val, 0]
    ∧ win0_3.index t = ![t.val, 0])

/-- The token of row `r` of a grid point's block. -/
def tok (t : Fin cfg0.N) (r : Fin 256) : Fin 8192 := ⟨t.val * 256 + r.val, by have : t.val < 32 := t.isLt; omega⟩

theorem block_val (t : Fin cfg0.N) (r : Fin 256) : rv (iblk m c 0 t) r = tv (m (c.tc.loc main_arg0)) (tok t r) := by
  funext e
  unfold rv tv tok
  blk_point [iblk, V, idx t]

theorem block_num (t : Fin cfg0.N) (r : Fin 256) : rw' (iblk m c 1 t) r = ti (m (c.tc.loc main_arg1)) (tok t r) := by
  funext e
  unfold rw' ti tok
  blk_point [iblk, V, idx t]

variable (h : Pre_cand_distinct.fn (F := Ideal) (m (c.tc.loc main_arg0)) (m (c.tc.loc main_arg1)) = fun _ => 1#1)
include h

theorem block_at (t : Fin cfg0.N) (y : S256x32.Idx) :
    (Scf.fold (round (iblk m c 0 t) (iblk m c 1 t)) first).2.2.1 y = topV (m (c.tc.loc main_arg0)) (m (c.tc.loc main_arg1)) (tok t (y 0)) (y 1).val
    ∧ (Scf.fold (round (iblk m c 0 t) (iblk m c 1 t)) first).2.2.2 y = topI (m (c.tc.loc main_arg0)) (m (c.tc.loc main_arg1)) (tok t (y 0)) (y 1).val :=
  (round_is (iblk m c 0 t) (iblk m c 1 t)).rounds rfl first first_val first_num (fun r => topV _ _ (tok t r)) (fun r => topI _ _ (tok t r))
    (fun r => by
      rw [block_val, block_num]
      exact leads _ _ h (tok t r)) y

theorem val_array : (dats m 0 c).arrAt 2 (cfgs 0).N = bestV (m (c.tc.loc main_arg0)) (m (c.tc.loc main_arg1)) := by
  refine (dats m 0 c).arrAt_eq_of_covers 2 _ (by decide +kernel) fun t hf y => ?_
  blk_simp
  rw [after0_2]
  rw [outsAt0]
  frame_out
  refine (block_at m c h t y).1.trans ?_
  unfold bestV
  refine congrArg₂ (topV _ _) (Fin.ext ?_) ?_
  · unfold tok
    blk_simp [idx t]
  · blk_simp [idx t]

theorem num_array : (dats m 0 c).arrAt 3 (cfgs 0).N = bestI (m (c.tc.loc main_arg0)) (m (c.tc.loc main_arg1)) := by
  refine (dats m 0 c).arrAt_eq_of_covers 3 _ (by decide +kernel) fun t hf y => ?_
  blk_simp
  rw [after0_3]
  rw [outsAt0]
  frame_out
  refine (block_at m c h t y).2.trans ?_
  unfold bestI
  refine congrArg₂ (topI _ _) (Fin.ext ?_) ?_
  · unfold tok
    blk_simp [idx t]
  · blk_simp [idx t]

/-! ## The claims -/

omit h in
theorem frame_kernel : Cert.quiescent_Cand := fun m ρ _ => Cert.Cand.Gen.frame (F := Bits) m ρ

omit h in
theorem frame_ideal : Cert.quiescent_CandIdeal := fun m ρ _ => Cert.CandIdeal.Gen.frame (F := Ideal) m ρ

omit h in
theorem frame_ideal_pre : Cert.quiescent_CandIdeal_pre_cand_distinct := fun m ρ _ => Cert.CandIdeal.Gen.frame (F := Ideal) m ρ

omit h in
theorem frame_reference : Cert.quiescent_CandSortedIdeal := fun m ρ _ =>
  (θ_run Cert.CandSortedIdeal.defs _ _).mono (fun r h => ⟨fun d => (h d).2.2, sem_eq_zero_of_no_sems (by decide) r.2⟩)
    (Cert.CandSortedIdeal.Value.run (F := Ideal) m ρ)

omit h in
theorem frame_reference_pre : Cert.quiescent_CandSortedIdeal_pre_cand_distinct := fun m ρ _ => frame_reference m ρ trivial

omit h in
theorem algebraic : Cert.algebraic_CandIdeal_CandSortedIdeal_pre_cand_distinct := by
  intro m ρ m' ρ' hpre hargs
  refine ⟨fun d => bestV (m (d.tc.loc main_arg0)) (m (d.tc.loc main_arg1)), fun d => bestI (m (d.tc.loc main_arg0)) (m (d.tc.loc main_arg1)),
    (θ_run defs _ _).mono (fun _ h d => ⟨(h d).1.trans (val_array m d (hpre d)), (h d).2.1.trans (num_array m d (hpre d)), (h d).2.2⟩)
      (Cert.CandIdeal.Value.run_blocks (F := Ideal) m ρ), ?_⟩
  refine (θ_run Cert.CandSortedIdeal.defs _ _).mono (fun r h d => ?_) (Cert.CandSortedIdeal.Value.run (F := Ideal) m' ρ')
  obtain ⟨h0, h1⟩ := hargs d
  refine ⟨(h d).1.trans ?_, (h d).2.1.trans ?_, (h d).2.2⟩
  · rw [h0, h1]
    exact ref_val _ _
  · rw [h0, h1]
    exact ref_num _ _

end Cert.Proof.Cnd

end
-- ==== Proof.lean ====
/-
  The proof of `Cert.Claim` (Defs.lean): the frames of the four calls, of their ideal readings and of their references,
  and the equations of the results. The decoder's run is in Proof/Launch.lean and Proof/Host.lean, its equation with the
  sum of the gathered rows in Proof/Value.lean, that with the scatter and the whole product in Proof/Dense.lean. The
  encoder is in Proof/Encode.lean, the choice of the chunks in Proof/Chunks.lean and that of the candidates in
  Proof/Cand.lean, both over the picking of the greatest one by one in Proof/Pick.lean.
-/
module

public import proofs.«01_k».proof.Defs
public import proofs.«01_k».proof.Proof.Gen.Kernel
public import proofs.«01_k».proof.Proof.Gen.KernelIdeal
public import proofs.«01_k».proof.Proof.Gen.Pre_idx_in_range
public import proofs.«01_k».proof.Proof.Gen.ReferenceIdeal
public import proofs.«01_k».proof.Proof.Gen.ScatteredIdeal
public import proofs.«01_k».proof.Proof.Gen.ScatteredIdeal.Run
public import proofs.«01_k».proof.Proof.Gen.Pre_idx_of_top_k
public import proofs.«01_k».proof.Proof.Value
public import proofs.«01_k».proof.Proof.Dense
public import proofs.«01_k».proof.Proof.Encode
public import proofs.«01_k».proof.Proof.Chunks
public import proofs.«01_k».proof.Proof.Cand
public import proofs.«01_k».proof.Proof.Gen.Encode
public import proofs.«01_k».proof.Proof.Gen.Encode.Frame
public import proofs.«01_k».proof.Proof.Gen.EncodeIdeal
public import proofs.«01_k».proof.Proof.Gen.EncodeIdeal.Frame
public import proofs.«01_k».proof.Proof.Gen.EncodedIdeal
public import proofs.«01_k».proof.Proof.Gen.EncodedIdeal.Run
public import proofs.«01_k».proof.Proof.Gen.Cand
public import proofs.«01_k».proof.Proof.Gen.Cand.Frame
public import proofs.«01_k».proof.Proof.Gen.CandIdeal
public import proofs.«01_k».proof.Proof.Gen.CandIdeal.Value
public import proofs.«01_k».proof.Proof.Gen.CandSortedIdeal
public import proofs.«01_k».proof.Proof.Gen.CandSortedIdeal.Run
public import proofs.«01_k».proof.Proof.Gen.Chunks
public import proofs.«01_k».proof.Proof.Gen.Chunks.Frame
public import proofs.«01_k».proof.Proof.Gen.ChunksIdeal
public import proofs.«01_k».proof.Proof.Gen.ChunksIdeal.Value
public import proofs.«01_k».proof.Proof.Gen.ChunksTopIdeal
public import proofs.«01_k».proof.Proof.Gen.ChunksTopIdeal.Run
public import proofs.«01_k».proof.Proof.Gen.Pre_chunks_above
public import proofs.«01_k».proof.Proof.Gen.Pre_cand_distinct

@[expose] public section

noncomputable section

namespace Cert.Proof

theorem claim : Cert.Claim := ⟨Cert.Kernel.Gen.facts, Cert.KernelIdeal.Gen.facts, Cert.ReferenceIdeal.Gen.facts, Cert.ScatteredIdeal.Gen.facts,
  Cert.Encode.Gen.facts, Cert.EncodeIdeal.Gen.facts, Cert.EncodedIdeal.Gen.facts,
  Cert.Chunks.Gen.facts, Cert.ChunksIdeal.Gen.facts, Cert.ChunksTopIdeal.Gen.facts,
  Cert.Cand.Gen.facts, Cert.CandIdeal.Gen.facts, Cert.CandSortedIdeal.Gen.facts,
  Cert.Pre_idx_in_range.Gen.facts, Cert.Pre_idx_of_top_k.Gen.facts, Cert.Pre_chunks_above.Gen.facts, Cert.Pre_cand_distinct.Gen.facts,
  Dec.frame_kernel, Dec.frame_ideal, Dec.frame_ideal_top_k, Dec.frame_reference, Dec.frame_reference_pre, Dec.frame_scattered, Dec.frame_scattered_pre,
  Enc.frame_kernel, Enc.frame_ideal, Enc.frame_reference,
  Chk.frame_kernel, Chk.frame_ideal, Chk.frame_ideal_pre, Chk.frame_reference, Chk.frame_reference_pre,
  Cnd.frame_kernel, Cnd.frame_ideal, Cnd.frame_ideal_pre, Cnd.frame_reference, Cnd.frame_reference_pre,
  trivial, Dec.algebraic, Dec.algebraic_scattered, trivial, Enc.algebraic, trivial, Chk.algebraic, trivial, Cnd.algebraic⟩

end Cert.Proof

end
